-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_none (m : (ℓ : Loc Cert.Reference.nD Cert.Reference.τ Cert.Reference.sig) → Buf (Elt Bits) ℓ) : Prop :=
  True

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_exist [hPre_experts_exist : Cert.Pre_experts_exist.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_none [hReference : Cert.Reference.Facts] : Prop :=
  ∀ (m : (ℓ : Loc Cert.Reference.nD Cert.Reference.τ Cert.Reference.sig) → Buf (Elt Bits) ℓ) (g : Dev Cert.Reference.nD → PrngReg), Pre_Reference_none m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_experts_exist [hExpertsRefIdeal : Cert.ExpertsRefIdeal.Facts] [hPre_experts_exist : Cert.Pre_experts_exist.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_exist m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  IdealRules.bf16_pair.Statement Cert.ExpertsIdeal.S1024x256 Cert.ExpertsIdeal.S512x256
  ∧ IdealRules.bf16_pack.Statement Cert.ExpertsIdeal.S512x256

def algebraic_ExpertsIdeal_ExpertsRefIdeal [hExpertsIdeal : Cert.ExpertsIdeal.Facts] [hExpertsRefIdeal : Cert.ExpertsRefIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v71) = v0 c
          ∧ r.2.mem ((c.tc : Thread Cert.ExpertsRefIdeal.nD Cert.ExpertsRefIdeal.τ).loc Cert.ExpertsRefIdeal.main_v75) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)) →
    ∃ (v0 : (c : Dev Cert.CombineIdeal.nD) → Buf (Elt Ideal) ((c.tc : Thread Cert.CombineIdeal.nD Cert.CombineIdeal.τ).loc Cert.CombineIdeal.main_v6)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v6) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v49) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hAda : Cert.Ada.Facts) (hAdaIdeal : Cert.AdaIdeal.Facts) (hAdaRefIdeal : Cert.AdaRefIdeal.Facts) (hPre_pos_in_rows : Cert.Pre_pos_in_rows.Facts) (hPre_experts_exist : Cert.Pre_experts_exist.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Reference (hReference := hReference) (hPre_pos_in_rows := hPre_pos_in_rows)
    ∧ quiescent_Reference_pre_none (hReference := hReference)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsRefIdeal (hExpertsRefIdeal := hExpertsRefIdeal)
    ∧ quiescent_ExpertsRefIdeal_pre_experts_exist (hExpertsRefIdeal := hExpertsRefIdeal) (hPre_experts_exist := hPre_experts_exist)
    ∧ quiescent_Combine (hCombine := hCombine)
    ∧ quiescent_CombineIdeal (hCombineIdeal := hCombineIdeal)
    ∧ quiescent_CombineRefIdeal (hCombineRefIdeal := hCombineRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Experts_ExpertsIdeal
    ∧ algebraic_ExpertsIdeal_ExpertsRefIdeal (hExpertsIdeal := hExpertsIdeal) (hExpertsRefIdeal := hExpertsRefIdeal) (hPre_experts_exist := hPre_experts_exist)
    ∧ preserves_Combine_CombineIdeal
    ∧ algebraic_CombineIdeal_CombineRefIdeal (hCombineIdeal := hCombineIdeal) (hCombineRefIdeal := hCombineRefIdeal)
    ∧ preserves_Ada_AdaIdeal
    ∧ algebraic_AdaIdeal_AdaRefIdeal (hAdaIdeal := hAdaIdeal) (hAdaRefIdeal := hAdaRefIdeal)
-- ==== Pre_experts_exist.lean ====
abbrev S304 : Shape := ⟨1, ![304]⟩
abbrev S1 : Shape := ⟨1, ![1]⟩
abbrev S155648x256 : Shape := ⟨2, ![155648, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S_ : Shape := ⟨0, ![]⟩

class Facts : Prop where
  bcast_S_S304 : S_.BroadcastsInDim S304 (![] : Fin 0 → Fin S304.rank)

variable [Facts]

def fn {F : FTy → Type} [FloatOps F] (main_arg0 : IVec S304 32) (main_arg1 : IVec S1 32) (main_arg2 : IVec S155648x256 32) (main_arg3 : IVec S155648x256 32) (main_arg4 : FVec F S4x32x1024x2048 .f32) (main_arg5 : FVec F S4x32x1x2048 .f32) (main_arg6 : FVec F S4x32x1024x1024 .f32) (main_arg7 : FVec F S4x32x1x1024 .f32) : IVec S304 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  main_v4
-- ==== Pre_pos_in_rows.lean ====
abbrev S155648x256 : Shape := ⟨2, ![155648, 256]⟩
abbrev S4x34816 : Shape := ⟨2, ![4, 34816]⟩
abbrev S_ : Shape := ⟨0, ![]⟩

class Facts : Prop where
  bcast_S_S4x34816 : S_.BroadcastsInDim S4x34816 (![] : Fin 0 → Fin S4x34816.rank)

variable [Facts]

def fn {F : FTy → Type} [FloatOps F] (main_arg0 : IVec S155648x256 32) (main_arg1 : IVec S4x34816 32) : IVec S4x34816 1 :=
  let main_c : IVec S_ 32 := constantI S_ 32 0#32
  let main_v0 : IVec S4x34816 32 := broadcastInDim S4x34816 ![] bcast_S_S4x34816 main_c
  let main_v1 : IVec S4x34816 1 := cmpi .sge main_arg1 main_v0
  let main_c_0 : IVec S_ 32 := constantI S_ 32 155648#32
  let main_v2 : IVec S4x34816 32 := broadcastInDim S4x34816 ![] bcast_S_S4x34816 main_c_0
  let main_v3 : IVec S4x34816 1 := cmpi .slt main_arg1 main_v2
  let main_v4 : IVec S4x34816 1 := andi main_v1 main_v3
  main_v4
-- ==== Kernel.lean ====
abbrev S155648x256 : Shape := ⟨2, ![155648, 256]⟩
abbrev S4x34816 : Shape := ⟨2, ![4, 34816]⟩
abbrev S1x139264 : Shape := ⟨2, ![1, 139264]⟩
abbrev S139264x256 : Shape := ⟨2, ![139264, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S155648x128 : Shape := ⟨2, ![155648, 128]⟩
abbrev S4x34816x256 : Shape := ⟨3, ![4, 34816, 256]⟩

abbrev nBuf : Table → Nat
  | .hbm => 5
  | .local .scVector .vmem => 2
  | _ => 0

abbrev bufTy : (tb : Table) → Fin (nBuf tb) → BufTy
  | .hbm, ⟨0, _⟩ => ⟨S155648x256, .i32⟩
  | .hbm, ⟨1, _⟩ => ⟨S4x34816, .i32⟩
  | .hbm, ⟨2, _⟩ => ⟨S1x139264, .i32⟩
  | .hbm, ⟨3, _⟩ => ⟨S139264x256, .i32⟩
  | .hbm, ⟨4, _⟩ => ⟨S4x34816x256, .i32⟩
  | .local .scVector .vmem, ⟨0, _⟩ => ⟨S2x1x128, .i32⟩
  | .local .scVector .vmem, ⟨1, _⟩ => ⟨S2x128x256, .i32⟩
  | _, _ => ⟨S155648x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c34_i32_27_r0 : BitVec 32 := 34#32
  let v32_r0 : BitVec 32 := Scalar.addi c0_i32_26_r0 c34_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_68_r0 : BitVec 32 := 33#32
  let v83_r0 : BitVec 1 := Scalar.cmpi .sge arg5_r0 c33_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_55_r0 : BitVec 32 := 33#32
  let v65_r0 : BitVec 1 := Scalar.cmpi .eq arg5_r0 c33_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x139264.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x139264.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S139264x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S139264x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x139264.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x139264.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S139264x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S139264x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c33_i32_33_r0 : BitVec 32 := 33#32
  let v37_r0 : BitVec 32 := Scalar.select v36_r0 c33_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S139264x256.size a)
theorem k0_off19_inb : ∀ (i : grid0.Coords) (v33_4_r0 : BitVec 32) (k0_hw5 : k0_chk5 i v33_4_r0), ∀ a, (k0_off19 i v33_4_r0) a + S128x256.size a ≤ S139264x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S155648x256 : Shape := ⟨2, ![155648, 256]⟩
abbrev S4x34816 : Shape := ⟨2, ![4, 34816]⟩
abbrev S_ : Shape := ⟨0, ![]⟩
abbrev S4x34816x1 : Shape := ⟨3, ![4, 34816, 1]⟩
abbrev S4x34816x256 : Shape := ⟨3, ![4, 34816, 256]⟩

abbrev nBuf : Space → Nat
  | .hbm => 11
  | .vmem => 0
  | .smem => 0
  | _ => 0

abbrev bufTy : (tb : Table) → Fin (tcTables nBuf tb) → BufTy
  | .hbm, ⟨0, _⟩ => ⟨S155648x256, .i32⟩
  | .hbm, ⟨1, _⟩ => ⟨S4x34816, .i32⟩
  | .hbm, ⟨2, _⟩ => ⟨S_, .i32⟩
  | .hbm, ⟨3, _⟩ => ⟨S4x34816, .i32⟩
  | .hbm, ⟨4, _⟩ => ⟨S4x34816, .i1⟩
  | .hbm, ⟨5, _⟩ => ⟨S_, .i32⟩
  | .hbm, ⟨6, _⟩ => ⟨S4x34816, .i32⟩
  | .hbm, ⟨7, _⟩ => ⟨S4x34816, .i32⟩
  | .hbm, ⟨8, _⟩ => ⟨S4x34816, .i32⟩
  | .hbm, ⟨9, _⟩ => ⟨S4x34816x1, .i32⟩
  | .hbm, ⟨10, _⟩ => ⟨S4x34816x256, .i32⟩
  | _, _ => ⟨S155648x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Experts.lean ====
abbrev S304 : Shape := ⟨1, ![304]⟩
abbrev S1 : Shape := ⟨1, ![1]⟩
abbrev S155648x256 : Shape := ⟨2, ![155648, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S311296x256 : Shape := ⟨2, ![311296, 256]⟩
abbrev S512x256 : Shape := ⟨2, ![512, 256]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x256 : Shape := ⟨2, ![1024, 256]⟩
abbrev S1024x2048 : Shape := ⟨2, ![1024, 2048]⟩
abbrev S1024x1024 : Shape := ⟨2, ![1024, 1024]⟩
abbrev S1x1x1024x512 : Shape := ⟨4, ![1, 1, 1024, 512]⟩
abbrev S1024x512 : Shape := ⟨2, ![1024, 512]⟩
abbrev S1x1x256x1024 : Shape := ⟨4, ![1, 1, 256, 1024]⟩
abbrev S256x1024 : Shape := ⟨2, ![256, 1024]⟩
abbrev S512x1024 : Shape := ⟨2, ![512, 1024]⟩
abbrev S512x512 : Shape := ⟨2, ![512, 512]⟩
abbrev S1x1x1x512 : Shape := ⟨4, ![1, 1, 1, 512]⟩
abbrev S1x512 : Shape := ⟨2, ![1, 512]⟩
abbrev S1x1024 : Shape := ⟨2, ![1, 1024]⟩

abbrev nBuf : Space → Nat
  | .hbm => 8
  | .vmem => 18
  | .smem => 2
  | _ => 0

abbrev bufTy : (tb : Table) → Fin (tcTables nBuf tb) → BufTy
  | .hbm, ⟨0, _⟩ => ⟨S155648x256, .i32⟩
  | .hbm, ⟨1, _⟩ => ⟨S155648x256, .i32⟩
  | .hbm, ⟨2, _⟩ => ⟨S4x32x1024x2048, .f32⟩
  | .hbm, ⟨3, _⟩ => ⟨S4x32x1x2048, .f32⟩
  | .hbm, ⟨4, _⟩ => ⟨S4x32x1024x1024, .f32⟩
  | .hbm, ⟨5, _⟩ => ⟨S4x32x1x1024, .f32⟩
  | .hbm, ⟨6, _⟩ => ⟨S311296x256, .bf16⟩
  | .hbm, ⟨7, _⟩ => ⟨S311296x256, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1x1024x2048, .f32⟩
  | .local _ .vmem, ⟨5, _⟩ => ⟨S1x1x1024x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x2048, .bf16⟩
  | .local _ .vmem, ⟨17, _⟩ => ⟨S1024x1024, .bf16⟩
  | .local _ .smem, ⟨0, _⟩ => ⟨S304, .i32⟩
  | .local _ .smem, ⟨1, _⟩ => ⟨S1, .i32⟩
  | _, _ => ⟨S155648x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
variable {F : FTy → Type} [FloatOps F]
-- ==== ExpertsRefIdeal.lean ====
abbrev S304 : Shape := ⟨1, ![304]⟩
abbrev S1 : Shape := ⟨1, ![1]⟩
abbrev S155648x256 : Shape := ⟨2, ![155648, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S155648x512 : Shape := ⟨2, ![155648, 512]⟩
abbrev S_ : Shape := ⟨0, ![]⟩
abbrev S155648x1024 : Shape := ⟨2, ![155648, 1024]⟩
abbrev S155648 : Shape := ⟨1, ![155648]⟩
abbrev S155648x1 : Shape := ⟨2, ![155648, 1]⟩
abbrev S32 : Shape := ⟨1, ![32]⟩
abbrev S1x32 : Shape := ⟨2, ![1, 32]⟩
abbrev S155648x32 : Shape := ⟨2, ![155648, 32]⟩
abbrev S1x32x1024x2048 : Shape := ⟨4, ![1, 32, 1024, 2048]⟩
abbrev S32x1024x2048 : Shape := ⟨3, ![32, 1024, 2048]⟩
abbrev S32x2048x155648 : Shape := ⟨3, ![32, 2048, 155648]⟩
abbrev S32x155648x2048 : Shape := ⟨3, ![32, 155648, 2048]⟩
abbrev S1x32x1x2048 : Shape := ⟨4, ![1, 32, 1, 2048]⟩
abbrev S32x1x2048 : Shape := ⟨3, ![32, 1, 2048]⟩
abbrev S32x155648x1024 : Shape := ⟨3, ![32, 155648, 1024]⟩
abbrev S1x32x1024x1024 : Shape := ⟨4, ![1, 32, 1024, 1024]⟩
abbrev S32x1024x1024 : Shape := ⟨3, ![32, 1024, 1024]⟩
abbrev S1x32x1x1024 : Shape := ⟨4, ![1, 32, 1, 1024]⟩
abbrev S32x1x1024 : Shape := ⟨3, ![32, 1, 1024]⟩
abbrev S32x155648 : Shape := ⟨2, ![32, 155648]⟩
abbrev S32x155648x1 : Shape := ⟨3, ![32, 155648, 1]⟩
abbrev S155648x1x256 : Shape := ⟨3, ![155648, 1, 256]⟩
abbrev S155648x2x256 : Shape := ⟨3, ![155648, 2, 256]⟩
abbrev S311296x256 : Shape := ⟨2, ![311296, 256]⟩

abbrev nBuf : Space → Nat
  | .hbm => 126
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S155648x256, .i32⟩
  | .hbm, ⟨3, _⟩ => ⟨S155648x256, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S155648x512, .i32⟩
  | .hbm, ⟨9, _⟩ => ⟨S_, .i32⟩
  | .hbm, ⟨10, _⟩ => ⟨S155648x512, .i32⟩
  | .hbm, ⟨11, _⟩ => ⟨S155648x512, .i32⟩
  | .hbm, ⟨12, _⟩ => ⟨S_, .i32⟩
  | .hbm, ⟨13, _⟩ => ⟨S155648x512, .i32⟩
  | .hbm, ⟨14, _⟩ => ⟨S155648x512, .i32⟩
  | .hbm, ⟨15, _⟩ => ⟨S155648x1024, .i32⟩
  | .hbm, ⟨16, _⟩ => ⟨S155648x1024, .f32⟩
  | .hbm, ⟨17, _⟩ => ⟨S155648, .i32⟩
  | .hbm, ⟨18, _⟩ => ⟨S_, .i32⟩
  | .hbm, ⟨19, _⟩ => ⟨S_, .i32⟩
  | .hbm, ⟨20, _⟩ => ⟨S155648, .i32⟩
  | .hbm, ⟨21, _⟩ => ⟨S155648, .i32⟩
  | .hbm, ⟨22, _⟩ => ⟨S155648, .i32⟩
  | .hbm, ⟨23, _⟩ => ⟨S_, .i32⟩
  | .hbm, ⟨24, _⟩ => ⟨S155648, .i32⟩
  | .hbm, ⟨25, _⟩ => ⟨S155648, .i1⟩
  | .hbm, ⟨26, _⟩ => ⟨S155648, .i32⟩
  | .hbm, ⟨27, _⟩ => ⟨S155648, .i32⟩
  | .hbm, ⟨28, _⟩ => ⟨S_, .i32⟩
  | .hbm, ⟨29, _⟩ => ⟨S155648, .i32⟩
  | .hbm, ⟨30, _⟩ => ⟨S155648, .i1⟩
  | .hbm, ⟨31, _⟩ => ⟨S155648, .i1⟩
  | .hbm, ⟨32, _⟩ => ⟨S_, .i32⟩
  | .hbm, ⟨33, _⟩ => ⟨S155648, .i32⟩
  | .hbm, ⟨34, _⟩ => ⟨S155648, .i32⟩
  | .hbm, ⟨35, _⟩ => ⟨S155648, .i32⟩
  | .hbm, ⟨36, _⟩ => ⟨S_, .i32⟩
  | .hbm, ⟨37, _⟩ => ⟨S155648, .i32⟩
  | .hbm, ⟨38, _⟩ => ⟨S155648, .i1⟩
  | .hbm, ⟨39, _⟩ => ⟨S_, .i32⟩
  | .hbm, ⟨40, _⟩ => ⟨S155648, .i32⟩
  | .hbm, ⟨41, _⟩ => ⟨S155648, .i32⟩
  | .hbm, ⟨42, _⟩ => ⟨S155648, .i32⟩
  | .hbm, ⟨43, _⟩ => ⟨S155648x1, .i32⟩
  | .hbm, ⟨44, _⟩ => ⟨S155648, .i32⟩
  | .hbm, ⟨45, _⟩ => ⟨S155648x1, .i32⟩
  | .hbm, ⟨46, _⟩ => ⟨S32, .i32⟩
  | .hbm, ⟨47, _⟩ => ⟨S1x32, .i32⟩
  | .hbm, ⟨48, _⟩ => ⟨S155648x32, .i32⟩
  | .hbm, ⟨49, _⟩ => ⟨S155648x32, .i32⟩
  | .hbm, ⟨50, _⟩ => ⟨S155648x32, .i1⟩
  | .hbm, ⟨51, _⟩ => ⟨S1x32x1024x2048, .f32⟩
  | .hbm, ⟨52, _⟩ => ⟨S32x1024x2048, .f32⟩
  | .hbm, ⟨53, _⟩ => ⟨S32x2048x155648, .f32⟩
  | .hbm, ⟨54, _⟩ => ⟨S32x155648x2048, .f32⟩
  | .hbm, ⟨55, _⟩ => ⟨S1x32x1x2048, .f32⟩
  | .hbm, ⟨56, _⟩ => ⟨S32x1x2048, .f32⟩
  | .hbm, ⟨57, _⟩ => ⟨S32x155648x2048, .f32⟩
  | .hbm, ⟨58, _⟩ => ⟨S32x155648x2048, .f32⟩
  | .hbm, ⟨59, _⟩ => ⟨S32x155648x1024, .f32⟩
  | .hbm, ⟨60, _⟩ => ⟨S32x155648x1024, .f32⟩
  | .hbm, ⟨61, _⟩ => ⟨S_, .f32⟩
  | .hbm, ⟨62, _⟩ => ⟨S32x155648x1024, .f32⟩
  | .hbm, ⟨63, _⟩ => ⟨S32x155648x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S32x155648x1024, .f32⟩
  | .hbm, ⟨68, _⟩ => ⟨S32x155648x1024, .f32⟩
  | .hbm, ⟨69, _⟩ => ⟨S_, .f32⟩
  | .hbm, ⟨70, _⟩ => ⟨S32x155648x1024, .f32⟩
  | .hbm, ⟨71, _⟩ => ⟨S32x155648x1024, .f32⟩
  | .hbm, ⟨72, _⟩ => ⟨S_, .f32⟩
  | .hbm, ⟨73, _⟩ => ⟨S32x155648x1024, .f32⟩
  | .hbm, ⟨74, _⟩ => ⟨S32x155648x1024, .f32⟩
  | .hbm, ⟨75, _⟩ => ⟨S32x155648x1024, .f32⟩
  | .hbm, ⟨76, _⟩ => ⟨S32x155648x1024, .f32⟩
  | .hbm, ⟨77, _⟩ => ⟨S_, .f32⟩
  | .hbm, ⟨78, _⟩ => ⟨S32x155648x1024, .f32⟩
  | .hbm, ⟨79, _⟩ => ⟨S32x155648x1024, .f32⟩
  | .hbm, ⟨80, _⟩ => ⟨S_, .f32⟩
  | .hbm, ⟨81, _⟩ => ⟨S32x155648x1024, .f32⟩
  | .hbm, ⟨82, _⟩ => ⟨S32x155648x1024, .f32⟩
  | .hbm, ⟨83, _⟩ => ⟨S32x155648x1024, .f32⟩
  | .hbm, ⟨84, _⟩ => ⟨S_, .f32⟩
  | .hbm, ⟨85, _⟩ => ⟨S32x155648x1024, .f32⟩
  | .hbm, ⟨86, _⟩ => ⟨S32x155648x1024, .f32⟩
  | .hbm, ⟨87, _⟩ => ⟨S32x155648x1024, .f32⟩
  | .hbm, ⟨88, _⟩ => ⟨S1x32x1024x1024, .f32⟩
  | .hbm, ⟨89, _⟩ => ⟨S32x1024x1024, .f32⟩
  | .hbm, ⟨90, _⟩ => ⟨S32x155648x1024, .f32⟩
  | .hbm, ⟨91, _⟩ => ⟨S1x32x1x1024, .f32⟩
  | .hbm, ⟨92, _⟩ => ⟨S32x1x1024, .f32⟩
  | .hbm, ⟨93, _⟩ => ⟨S32x155648x1024, .f32⟩
  | .hbm, ⟨94, _⟩ => ⟨S32x155648x1024, .f32⟩
  | .hbm, ⟨95, _⟩ => ⟨S32x155648, .i1⟩
  | .hbm, ⟨96, _⟩ => ⟨S32x155648x1, .i1⟩
  | .hbm, ⟨97, _⟩ => ⟨S_, .i32⟩
  | .hbm, ⟨98, _⟩ => ⟨S_, .f32⟩
  | .hbm, ⟨99, _⟩ => ⟨S32x155648x1024, .i1⟩
  | .hbm, ⟨100, _⟩ => ⟨S32x155648x1024, .f32⟩
  | .hbm, ⟨101, _⟩ => ⟨S32x155648x1024, .f32⟩
  | .hbm, ⟨102, _⟩ => ⟨S_, .f32⟩
  | .hbm, ⟨103, _⟩ => ⟨S155648x1024, .f32⟩
  | .hbm, ⟨104, _⟩ => ⟨S_, .i32⟩
  | .hbm, ⟨105, _⟩ => ⟨S155648, .i32⟩
  | .hbm, ⟨106, _⟩ => ⟨S155648, .i1⟩
  | .hbm, ⟨107, _⟩ => ⟨S155648x1, .i1⟩
  | .hbm, ⟨108, _⟩ => ⟨S_, .i32⟩
  | .hbm, ⟨109, _⟩ => ⟨S_, .f32⟩
  | .hbm, ⟨110, _⟩ => ⟨S155648x1024, .i1⟩
  | .hbm, ⟨111, _⟩ => ⟨S155648x1024, .f32⟩
  | .hbm, ⟨112, _⟩ => ⟨S155648x1024, .f32⟩
  | .hbm, ⟨113, _⟩ => ⟨S155648x1024, .bf16⟩
  | .hbm, ⟨114, _⟩ => ⟨S155648x256, .bf16⟩
  | .hbm, ⟨115, _⟩ => ⟨S155648x256, .bf16⟩
  | .hbm, ⟨116, _⟩ => ⟨S155648x256, .bf16⟩
  | .hbm, ⟨117, _⟩ => ⟨S155648x256, .bf16⟩
  | .hbm, ⟨118, _⟩ => ⟨S155648x1x256, .bf16⟩
  | .hbm, ⟨119, _⟩ => ⟨S155648x1x256, .bf16⟩
  | .hbm, ⟨120, _⟩ => ⟨S155648x2x256, .bf16⟩
  | .hbm, ⟨121, _⟩ => ⟨S311296x256, .bf16⟩
  | .hbm, ⟨122, _⟩ => ⟨S155648x1x256, .bf16⟩
  | .hbm, ⟨123, _⟩ => ⟨S155648x1x256, .bf16⟩
  | .hbm, ⟨124, _⟩ => ⟨S155648x2x256, .bf16⟩
  | .hbm, ⟨125, _⟩ => ⟨S311296x256, .bf16⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_cst_5 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v34 : Ref sig .tc := ⟨.hbm, 71, rfl⟩
abbrev main_cst_6 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_9 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_10 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_12 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩

abbrev nD : Nat := 1
abbrev τ : Topo := Topo.v7x

variable {F : FTy → Type} [FloatOps F]
-- ==== Combine.lean ====
abbrev S32768x1024 : Shape := ⟨2, ![32768, 1024]⟩
abbrev S4x32768x256 : Shape := ⟨3, ![4, 32768, 256]⟩
abbrev S16x32768 : Shape := ⟨2, ![16, 32768]⟩
abbrev S9x1x6144 : Shape := ⟨3, ![9, 1, 6144]⟩
abbrev S4x1024 : Shape := ⟨2, ![4, 1024]⟩
abbrev S65536x1024 : Shape := ⟨2, ![65536, 1024]⟩
abbrev S4x1x1024 : Shape := ⟨3, ![4, 1, 1024]⟩
abbrev S1x1x1024 : Shape := ⟨3, ![1, 1, 1024]⟩
abbrev S1x1024 : Shape := ⟨2, ![1, 1024]⟩
abbrev S1024x1024 : Shape := ⟨2, ![1024, 1024]⟩
abbrev S4x1024x256 : Shape := ⟨3, ![4, 1024, 256]⟩
abbrev S16x1024 : Shape := ⟨2, ![16, 1024]⟩
abbrev S1x1x6144 : Shape := ⟨3, ![1, 1, 6144]⟩
abbrev S112x1024 : Shape := ⟨2, ![112, 1024]⟩
abbrev S128x1024 : Shape := ⟨2, ![128, 1024]⟩
abbrev S1024x128 : Shape := ⟨2, ![1024, 128]⟩
abbrev S1024x1 : Shape := ⟨2, ![1024, 1]⟩
abbrev S1x1024x256 : Shape := ⟨3, ![1, 1024, 256]⟩
abbrev S1024x256 : Shape := ⟨2, ![1024, 256]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S4x32768x256, .i32⟩
  | .hbm, ⟨2, _⟩ => ⟨S4x32768x256, .i32⟩
  | .hbm, ⟨3, _⟩ => ⟨S16x32768, .f32⟩
  | .hbm, ⟨4, _⟩ => ⟨S9x1x6144, .f32⟩
  | .hbm, ⟨5, _⟩ => ⟨S4x1024, .f32⟩
  | .hbm, ⟨6, _⟩ => ⟨S4x1024, .f32⟩
  | .hbm, ⟨7, _⟩ => ⟨S65536x1024, .f32⟩
  | .hbm, ⟨8, _⟩ => ⟨S4x1x1024, .f32⟩
  | .hbm, ⟨9, _⟩ => ⟨S1x1x1024, .f32⟩
  | .hbm, ⟨10, _⟩ => ⟨S1x1024, .f32⟩
  | .hbm, ⟨11, _⟩ => ⟨S4x1x1024, .f32⟩
  | .hbm, ⟨12, _⟩ => ⟨S1x1x1024, .f32⟩
  | .hbm, ⟨13, _⟩ => ⟨S1x1024, .f32⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x256, .i32⟩
  | .local _ .vmem, ⟨3, _⟩ => ⟨S4x1024x256, .i32⟩
  | .local _ .vmem, ⟨4, _⟩ => ⟨S4x1024x256, .i32⟩
  | .local _ .vmem, ⟨5, _⟩ => ⟨S4x1024x256, .i32⟩
  | .local _ .vmem, ⟨6, _⟩ => ⟨S16x1024, .f32⟩
  | .local _ .vmem, ⟨7, _⟩ => ⟨S16x1024, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S32768x1024 : Shape := ⟨2, ![32768, 1024]⟩
abbrev S4x32768x256 : Shape := ⟨3, ![4, 32768, 256]⟩
abbrev S16x32768 : Shape := ⟨2, ![16, 32768]⟩
abbrev S9x1x6144 : Shape := ⟨3, ![9, 1, 6144]⟩
abbrev S4x1024 : Shape := ⟨2, ![4, 1024]⟩
abbrev S65536x1024 : Shape := ⟨2, ![65536, 1024]⟩
abbrev S4x32768x512 : Shape := ⟨3, ![4, 32768, 512]⟩
abbrev S_ : Shape := ⟨0, ![]⟩
abbrev S4x32768x1024 : Shape := ⟨3, ![4, 32768, 1024]⟩
abbrev S4x32768 : Shape := ⟨2, ![4, 32768]⟩
abbrev S4x32768x1 : Shape := ⟨3, ![4, 32768, 1]⟩
abbrev S8x1x1024 : Shape := ⟨3, ![8, 1, 1024]⟩
abbrev S8x1024 : Shape := ⟨2, ![8, 1024]⟩
abbrev S8x4096x1024 : Shape := ⟨3, ![8, 4096, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x256, .i32⟩
  | .hbm, ⟨2, _⟩ => ⟨S4x32768x256, .i32⟩
  | .hbm, ⟨3, _⟩ => ⟨S16x32768, .f32⟩
  | .hbm, ⟨4, _⟩ => ⟨S9x1x6144, .f32⟩
  | .hbm, ⟨5, _⟩ => ⟨S4x1024, .f32⟩
  | .hbm, ⟨6, _⟩ => ⟨S4x1024, .f32⟩
  | .hbm, ⟨7, _⟩ => ⟨S65536x1024, .f32⟩
  | .hbm, ⟨8, _⟩ => ⟨S4x32768x512, .i32⟩
  | .hbm, ⟨9, _⟩ => ⟨S_, .i32⟩
  | .hbm, ⟨10, _⟩ => ⟨S4x32768x512, .i32⟩
  | .hbm, ⟨11, _⟩ => ⟨S4x32768x512, .i32⟩
  | .hbm, ⟨12, _⟩ => ⟨S_, .i32⟩
  | .hbm, ⟨13, _⟩ => ⟨S4x32768x512, .i32⟩
  | .hbm, ⟨14, _⟩ => ⟨S4x32768x512, .i32⟩
  | .hbm, ⟨15, _⟩ => ⟨S4x32768x1024, .i32⟩
  | .hbm, ⟨16, _⟩ => ⟨S4x32768x1024, .f32⟩
  | .hbm, ⟨17, _⟩ => ⟨S4x32768, .f32⟩
  | .hbm, ⟨18, _⟩ => ⟨S4x32768x1, .f32⟩
  | .hbm, ⟨19, _⟩ => ⟨S4x32768x1024, .f32⟩
  | .hbm, ⟨20, _⟩ => ⟨S4x32768x1024, .f32⟩
  | .hbm, ⟨21, _⟩ => ⟨S_, .f32⟩
  | .hbm, ⟨22, _⟩ => ⟨S32768x1024, .f32⟩
  | .hbm, ⟨23, _⟩ => ⟨S8x1x1024, .f32⟩
  | .hbm, ⟨24, _⟩ => ⟨S8x1024, .f32⟩
  | .hbm, ⟨25, _⟩ => ⟨S8x4096x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S65536x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Ada.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S4x6144x24, .f32⟩
  | .hbm, ⟨18, _⟩ => ⟨S4x24x6144, .f32⟩
  | .hbm, ⟨19, _⟩ => ⟨S4x1x6144, .f32⟩
  | .hbm, ⟨20, _⟩ => ⟨S4x24x6144, .f32⟩
  | .hbm, ⟨21, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Words.lean ====
/-
  The gather kernel's scalar words. The pipeline carries five counters; before trip `n` they are known numbers, and
  with them every offset, condition and check of the trip is known too: which of the two buffers it uses, which block
  of 128 rows it reads and writes. All by evaluation over the 32 subcores and the 34 trips.
-/
module

public import proofs.«01_k».proof.Proof.Gen.KernelIdeal
public import proofs.«01_k».proof.Proof.Gen.KernelIdeal.Skeleton

@[expose] public section

namespace Cert.Proof.Gather

open Cert.KernelIdeal Cert.KernelIdeal.Gen
open Idealize.ShloMosaic

/-- The 32-bit word of a number. -/
abbrev w (n : ℕ) : BitVec 32 := BitVec.ofNat 32 n

/-- Block `k` of the 34 blocks of 128 rows that subcore `i` moves, among all 1088. -/
def blk (i : grid0.Coords) (k : ℕ) : ℕ := 34 * (16 * (i 0).val + (i 1).val) + k

theorem blk_succ (i : grid0.Coords) (k : ℕ) : blk i (k + 1) = blk i k + 1 := rfl
theorem i_lt (i : grid0.Coords) : (i 0).val < 2 ∧ (i 1).val < 16 := ⟨(i 0).isLt, (i 1).isLt⟩
theorem blk_lt (i : grid0.Coords) {k : ℕ} (h : k < 34) : blk i k < 1088 := by
  have := i_lt i; unfold blk; omega

/-- The five counters before trip `n`: blocks fetched, blocks read, blocks written, blocks flushed, the trip's own
    block (which wraps to 0 after the last). -/
def words (n : ℕ) : BitVec 32 × BitVec 32 × BitVec 32 × BitVec 32 × BitVec 32 :=
  (w (min (n + 1) 34), w n, w n, w (n - 1), w (n % 34))

theorem trips_eq : k0_t1_loop.trips = 34 := by decide

/-! ## The buffer each transfer uses -/

theorem off1_eq : k0_off1 = ![0 % 2, 0, 0] := by decide +kernel
theorem off3_eq : k0_off3 = ![0 % 2] := by decide +kernel
theorem off4_eq : ∀ n : Fin 64, k0_off4 (w n) = ![n.val % 2, 0, 0] := by decide +kernel
theorem off6_eq : ∀ n : Fin 64, k0_off6 (w n) = ![n.val % 2] := by decide +kernel
theorem off7_eq : ∀ n : Fin 64, k0_off7 (w n) = ![n.val % 2, 0, 0] := by decide +kernel
theorem off9_eq : ∀ n : Fin 64, k0_off9 (w n) = ![n.val % 2] := by decide +kernel
theorem off10_eq : ∀ n : Fin 64, k0_off10 (w n) = ![n.val % 2, 0, 0] := by decide +kernel
theorem off11_eq : ∀ n : Fin 64, k0_off11 (w n) = ![n.val % 2, 0, 0] := by decide +kernel
theorem off12_eq : ∀ n : Fin 64, k0_off12 (w n) = ![n.val % 2, 0, 0] := by decide +kernel
theorem off14_eq : ∀ n : Fin 64, k0_off14 (w n) = ![n.val % 2] := by decide +kernel
theorem off15_eq : ∀ n : Fin 64, k0_off15 (w n) = ![n.val % 2, 0, 0] := by decide +kernel
theorem off17_eq : ∀ n : Fin 64, k0_off17 (w n) = ![n.val % 2] := by decide +kernel
theorem off20_eq : ∀ n : Fin 64, k0_off20 (w n) = ![n.val % 2] := by decide +kernel
theorem off21_eq : ∀ n : Fin 64, k0_off21 (w n) = ![n.val % 2, 0, 0] := by decide +kernel

/-! ## The block each transfer names -/

theorem off2_blk : ∀ i : grid0.Coords, k0_off2 i = ![0, 128 * blk i 0] := by decide +kernel
theorem off5_blk : ∀ (i : grid0.Coords) (k : Fin 33), k0_off5 i (w (k.val % 34)) = ![0, 128 * blk i (k.val + 1)] := by decide +kernel
theorem off8_blk : ∀ (i : grid0.Coords) (k : Fin 34), k0_off8 i (w (k.val % 34)) = ![0, 128 * blk i k] := by decide +kernel
theorem off13_blk : ∀ (i : grid0.Coords) (k : Fin 34), k0_off13 i (w (k.val % 34)) = ![128 * blk i k, 0] := by decide +kernel
theorem off16_blk : ∀ (i : grid0.Coords) (k : Fin 33), k0_off16 i (w ((k.val + 1) % 34)) = ![128 * blk i k, 0] := by decide +kernel
theorem off19_blk : ∀ i : grid0.Coords, k0_off19 i (w (34 % 34)) = ![128 * blk i 33, 0] := by decide +kernel

/-! ## What each trip does -/

theorem cond1_eq : ∀ (i : grid0.Coords) (k : Fin k0_t1_loop.trips),
    k0_cond1 i k (w (k.val % 34)) = if k.val < 33 then 1#1 else 0#1 := by decide +kernel
theorem cond2_eq : ∀ (i : grid0.Coords) (k : Fin k0_t1_loop.trips), k0_cond2 i k (w (k.val % 34)) = 1#1 := by decide +kernel
theorem cond5_eq : ∀ (i : grid0.Coords) (k : Fin k0_t1_loop.trips), k0_cond5 i k (w (k.val % 34)) = 1#1 := by decide +kernel
theorem cond7_eq : ∀ (i : grid0.Coords) (k : Fin k0_t1_loop.trips),
    k0_cond7 i k (w (k.val % 34)) = if k.val = 0 then 0#1 else 1#1 := by decide +kernel

/-! ## Its checks hold -/

theorem chk1_ok : ∀ (i : grid0.Coords) (k : Fin k0_t1_loop.trips),
    k0_chk1 i k (w (min (k.val + 1) 34)) (w k.val) (w k.val) (w (k.val - 1)) (w (k.val % 34)) := by decide +kernel
theorem chk2_ok : ∀ k : Fin k0_t1_loop.trips, k0_chk2 (w k.val) := by decide +kernel
theorem chk3_ok : ∀ k : Fin k0_t1_loop.trips, k0_chk3 (w k.val) := by decide +kernel
theorem chk5_ok : ∀ i : grid0.Coords, k0_chk5 i (w (34 % 34)) := by decide +kernel
theorem chk4_ok : k0_chk4 (w (34 - 1)) := by decide +kernel

/-! ## The counters after a trip -/

/-- The subcore's first block, as the kernel computes it. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 34#32

/-- The trip's own words, as the kernel computes them: its number, whether it is the first or the last, and the blocks
    of this trip, the one before and the one after. -/
abbrev aNum (k : Fin k0_t1_loop.trips) : BitVec 32 := Scf.iv 0#32 1#32 k
abbrev aFirst (k : Fin k0_t1_loop.trips) : BitVec 1 := Scalar.cmpi .eq (aNum k) 0#32
abbrev aLast (k : Fin k0_t1_loop.trips) : BitVec 1 := Scalar.cmpi .eq (aNum k) 33#32
abbrev aHere (i : grid0.Coords) (k : ℕ) : BitVec 32 := Scalar.addi (w (k % 34)) (base i)
abbrev aPrev (i : grid0.Coords) (k : ℕ) : BitVec 32 :=
  Scalar.addi (Scalar.select (Scalar.cmpi .eq (Scalar.select 1#1 (Scalar.subi (w (k % 34)) 1#32) (w (k % 34))) 4294967295#32) 33#32
    (Scalar.select 1#1 (Scalar.subi (w (k % 34)) 1#32) (w (k % 34)))) (base i)
abbrev aBump (k : ℕ) : BitVec 32 :=
  Scalar.select (Scalar.cmpi .eq (Scalar.select 1#1 (Scalar.addi (w (k % 34)) 1#32) (w (k % 34))) 34#32) 0#32
    (Scalar.select 1#1 (Scalar.addi (w (k % 34)) 1#32) (w (k % 34)))
abbrev aNext (i : grid0.Coords) (k : ℕ) : BitVec 32 := Scalar.addi (aBump k) (base i)
abbrev aFetched (i : grid0.Coords) (k : Fin k0_t1_loop.trips) : BitVec 32 :=
  Scalar.select (Scalar.andi (Scalar.andi (Scalar.cmpi .ne (aHere i k) (aNext i k)) (Scalar.xori (Scalar.cmpi .sge (aNum k) 33#32) 1#1)) 1#1)
    (Scalar.addi (w (min (k.val + 1) 34)) 1#32) (w (min (k.val + 1) 34))
abbrev aWritten (i : grid0.Coords) (k : Fin k0_t1_loop.trips) : BitVec 32 :=
  Scalar.select (Scalar.andi (Scalar.ori (Scalar.cmpi .ne (aHere i k) (aNext i k)) (aLast k)) 1#1) (Scalar.addi (w k.val) 1#32) (w k.val)
abbrev aMoved (i : grid0.Coords) (k : Fin k0_t1_loop.trips) : BitVec 1 :=
  Scalar.andi (Scalar.cmpi .ne (aHere i k) (aPrev i k)) (Scalar.xori (aFirst k) 1#1)

theorem next_words : ∀ (i : grid0.Coords) (k : Fin k0_t1_loop.trips),
    (aFetched i k, Scalar.select (Scalar.ori (Scalar.cmpi .ne (aHere i k) (aNext i k)) (aLast k)) (Scalar.addi (w k.val) 1#32) (w k.val),
      aWritten i k, Scalar.select (Scalar.andi (aMoved i k) 1#1) (Scalar.addi (w (k.val - 1)) 1#32) (w (k.val - 1)), aBump k)
      = words (k.val + 1) := by decide +kernel

end Cert.Proof.Gather

end
-- ==== Proof.Slots.lean ====
/-
  What the gather kernel's transfers name: the two index buffers and the two row buffers of a subcore with their
  semaphores, the blocks of the position array and of the result, the two column halves of the row table; and what
  each of them reads at an index.
-/
module

public import proofs.«01_k».proof.Proof.Words
public import Idealize.ShloMosaic.Lib.ValueIdxCore
public import Idealize.ShloMosaic.Lib.ViewIndex
public import Idealize.ShloMosaic.Lib.SparseCore.Stream

@[expose] public section

noncomputable section

namespace Cert.Proof.Gather

open Cert.KernelIdeal Cert.KernelIdeal.Gen
open Idealize.ShloMosaic Idealize.ShloMosaic.ValueIdx

variable {F : FTy → Type}

/-- Two indices of rank two are equal if their coordinates are. -/
theorem ext2 {n0 n1 : ℕ} {x y : (⟨2, ![n0, n1]⟩ : Shape).Idx} (h0 : (x 0).val = (y 0).val) (h1 : (x 1).val = (y 1).val) : x = y := by
  funext a; apply Fin.ext
  match a with
  | ⟨0, _⟩ => exact h0
  | ⟨1, _⟩ => exact h1

/-! ## The buffers -/

abbrev ysV : Memref sig .scVector .hbm S155648x256 .i32 := Memref.whole main_arg0_scv
abbrev posV : Memref sig .scVector .hbm S1x139264 .i32 := Memref.whole main_v0_scv
abbrev outV : Memref sig .scVector .hbm S139264x256 .i32 := Memref.whole main_v1_scv
abbrev ibV : Memref sig .scVector .vmem S2x1x128 .i32 := Memref.whole cc0_scoped0
abbrev rbV : Memref sig .scVector .vmem S2x128x256 .i32 := Memref.whole cc0_scoped2

/-- Which of the two buffers block `n` goes through. -/
def par (n : ℕ) : Fin 2 := ⟨n % 2, Nat.mod_lt _ (by decide)⟩

theorem par_add_two (n : ℕ) : par (n + 2) = par n := by unfold par; congr 1; omega

theorem inb_i (b : Fin 2) : ∀ a, (![b.val, 0, 0] : Fin 3 → ℕ) a + S1x1x128.size a ≤ S2x1x128.size a := by
  revert b; decide
theorem inb_r (b : Fin 2) : ∀ a, (![b.val, 0, 0] : Fin 3 → ℕ) a + S1x128x256.size a ≤ S2x128x256.size a := by
  revert b; decide

/-- Index buffer `b`: 128 positions. -/
def iSlot (b : Fin 2) : Memref sig .scVector .vmem S1x128 .i32 :=
  (ibV.slice (Rect.unit (s := S2x1x128) ![b.val, 0, 0] S1x1x128.size (inb_i b)) (fun _ => rfl)).squeeze S1x128 squeezes_S1x1x128_S1x128
/-- Row buffer `b`: 128 rows of 256 words. -/
def rSlot (b : Fin 2) : Memref sig .scVector .vmem S128x256 .i32 :=
  (rbV.slice (Rect.unit (s := S2x128x256) ![b.val, 0, 0] S1x128x256.size (inb_r b)) (fun _ => rfl)).squeeze S128x256 squeezes_S1x128x256_S128x256

/-- Index buffer `b`'s semaphore. -/
def iSem (b : Fin 2) : DmaSem sig := ⟨b.val, by have := b.isLt; show b.val < 6; omega⟩
/-- Row buffer `b`'s semaphore. -/
def rSem (b : Fin 2) : DmaSem sig := ⟨2 + b.val, by have := b.isLt; show 2 + b.val < 6; omega⟩

theorem inb_s (b : Fin 2) : ∀ a, (![b.val] : Fin 1 → ℕ) a + S1.size a ≤ S2.size a := by revert b; decide

theorem iSlot_eq {o : Fin 3 → ℕ} {n : ℕ} (ho : o = ![n % 2, 0, 0]) (h : ∀ a, o a + S1x1x128.size a ≤ S2x1x128.size a) :
    (ibV.slice (Rect.unit (s := S2x1x128) o S1x1x128.size h) (fun _ => rfl)).squeeze S1x128 squeezes_S1x1x128_S1x128 = iSlot (par n) := by
  subst ho; rfl
theorem rSlot_eq {o : Fin 3 → ℕ} {n : ℕ} (ho : o = ![n % 2, 0, 0]) (h : ∀ a, o a + S1x128x256.size a ≤ S2x128x256.size a) :
    (rbV.slice (Rect.unit (s := S2x128x256) o S1x128x256.size h) (fun _ => rfl)).squeeze S128x256 squeezes_S1x128x256_S128x256 = rSlot (par n) := by
  subst ho; rfl
theorem iSem_eq_aux : ∀ b : Fin 2, ((cc0_scoped1.slice (Rect.unit (s := S2) ![b.val] S1.size (inb_s b))).squeeze S_ squeezes_S1_S_).sem = iSem b := by
  decide
theorem rSem_eq_aux : ∀ b : Fin 2, ((cc0_scoped3.slice (Rect.unit (s := S2) ![b.val] S1.size (inb_s b))).squeeze S_ squeezes_S1_S_).sem = rSem b := by
  decide
theorem iSem_eq {o : Fin 1 → ℕ} {n : ℕ} (ho : o = ![n % 2]) (h : ∀ a, o a + S1.size a ≤ S2.size a) :
    ((cc0_scoped1.slice (Rect.unit (s := S2) o S1.size h)).squeeze S_ squeezes_S1_S_).sem = iSem (par n) := by
  subst ho; exact iSem_eq_aux (par n)
theorem rSem_eq {o : Fin 1 → ℕ} {n : ℕ} (ho : o = ![n % 2]) (h : ∀ a, o a + S1.size a ≤ S2.size a) :
    ((cc0_scoped3.slice (Rect.unit (s := S2) o S1.size h)).squeeze S_ squeezes_S1_S_).sem = rSem (par n) := by
  subst ho; exact rSem_eq_aux (par n)

/-! ## The blocks in memory -/

theorem inb_p {n : ℕ} (hn : n < 1088) : ∀ a, (![0, 128 * n] : Fin 2 → ℕ) a + S1x128.size a ≤ S1x139264.size a := by
  intro a; match a with
  | 0 => show 0 + 1 ≤ 1; omega
  | 1 => show 128 * n + 128 ≤ 139264; omega
theorem inb_o {n : ℕ} (hn : n < 1088) : ∀ a, (![128 * n, 0] : Fin 2 → ℕ) a + S128x256.size a ≤ S139264x256.size a := by
  intro a; match a with
  | 0 => show 128 * n + 128 ≤ 139264; omega
  | 1 => show 0 + 256 ≤ 256; omega

/-- Block `n` of the positions. -/
def posB (n : ℕ) (hn : n < 1088) : Memref sig .scVector .hbm S1x128 .i32 :=
  posV.slice (Rect.unit (s := S1x139264) ![0, 128 * n] S1x128.size (inb_p hn)) (fun _ => rfl)
/-- Block `n` of the result. -/
def outB (n : ℕ) (hn : n < 1088) : Memref sig .scVector .hbm S128x256 .i32 :=
  outV.slice (Rect.unit (s := S139264x256) ![128 * n, 0] S128x256.size (inb_o hn)) (fun _ => rfl)

theorem posB_eq {o : Fin 2 → ℕ} {n : ℕ} (hn : n < 1088) (ho : o = ![0, 128 * n]) (h : ∀ a, o a + S1x128.size a ≤ S1x139264.size a) :
    posV.slice (Rect.unit (s := S1x139264) o S1x128.size h) (fun _ => rfl) = posB n hn := by
  subst ho; rfl
theorem outB_eq {o : Fin 2 → ℕ} {n : ℕ} (hn : n < 1088) (ho : o = ![128 * n, 0]) (h : ∀ a, o a + S128x256.size a ≤ S139264x256.size a) :
    outV.slice (Rect.unit (s := S139264x256) o S128x256.size h) (fun _ => rfl) = outB n hn := by
  subst ho; rfl

/-- Rows `128 lo … 128 hi - 1` of the result. -/
def rowsSet (lo hi : ℕ) : Finset S139264x256.Idx := Finset.univ.filter fun j => 128 * lo ≤ (j 0).val ∧ (j 0).val < 128 * hi

theorem mem_rowsSet {lo hi : ℕ} {j : S139264x256.Idx} : j ∈ rowsSet lo hi ↔ 128 * lo ≤ (j 0).val ∧ (j 0).val < 128 * hi := by
  simp [rowsSet]
theorem rowsSet_empty (n : ℕ) : rowsSet n n = ∅ := by
  ext j; simp only [mem_rowsSet, Finset.notMem_empty, iff_false]; omega
theorem rowsSet_union {a b c : ℕ} (h : a ≤ b) (h' : b ≤ c) : rowsSet a b ∪ rowsSet b c = rowsSet a c := by
  ext j; simp only [Finset.mem_union, mem_rowsSet]; omega
theorem rowsSet_disjoint (a : ℕ) {b c : ℕ} (e : ℕ) (h : b ≤ c) : Disjoint (rowsSet a b) (rowsSet c e) := by
  rw [Finset.disjoint_left]; intro j; simp only [mem_rowsSet]; omega

theorem set_outB (n : ℕ) (hn : n < 1088) : (outB n hn).view.set = rowsSet n (n + 1) := by
  show ((View.whole (main_v1_scv : Ref sig .scVector)).slice (Rect.unit (s := S139264x256) ![128 * n, 0] S128x256.size (inb_o hn))).set = _
  rw [View.set_slice_whole]
  ext j
  rw [Rect.mem_set_unit, mem_rowsSet]
  constructor
  · intro h
    have h0 : 128 * n ≤ (j 0).val ∧ (j 0).val < 128 * n + 128 := h 0
    omega
  · rintro ⟨h1, h2⟩ a
    match a with
    | 0 => show 128 * n ≤ (j 0).val ∧ (j 0).val < 128 * n + 128; omega
    | 1 => show 0 ≤ (j 1).val ∧ (j 1).val < 0 + 256; have := idx2_lt1 j; omega

/-! ## What they read -/

/-- Block `n` of the positions at column `c` is the array at `128 n + c`. -/
theorem read_posB (n : ℕ) (hn : n < 1088) (f : S1x139264.Idx → Elt F .i32) (x : S1x128.Idx) :
    (posB n hn).view.read (Elt F) f x = f (ix2 (0 : Fin 1) ⟨128 * n + (x 1).val, by have := idx2_lt1 x; omega⟩) := by
  refine congrArg f (ext2 (n0 := 1) (n1 := 139264) ?_ ?_)
  · show 0 + 1 * (x 0).val = 0; have := idx2_lt0 x; omega
  · show 128 * n + 1 * (x 1).val = 128 * n + (x 1).val; omega

/-- Where block `n` of the result keeps its element `x`. -/
theorem emb_outB (n : ℕ) (hn : n < 1088) (x : S128x256.Idx) :
    ((outB n hn).view.emb x : S139264x256.Idx) = ix2 (⟨128 * n + (x 0).val, by have := idx2_lt0 x; omega⟩ : Fin 139264) (⟨(x 1).val, idx2_lt1 x⟩ : Fin 256) := by
  refine ext2 (n0 := 139264) (n1 := 256) ?_ ?_
  · show 128 * n + 1 * (x 0).val = 128 * n + (x 0).val; omega
  · show 0 + 1 * (x 1).val = (x 1).val; omega

/-! ## The column halves -/

theorem inb_h (s : Fin 2) : ∀ a, (![0, 128 * s.val] : Fin 2 → ℕ) a + S128x128.size a ≤ S128x256.size a := by revert s; decide
theorem inb_y (s : Fin 2) : ∀ a, (![0, 128 * s.val] : Fin 2 → ℕ) a + S155648x128.size a ≤ S155648x256.size a := by revert s; decide

/-- Columns `128 s … 128 s + 127` of row buffer `b`. -/
def rHalf (b s : Fin 2) : Memref sig .scVector .vmem S128x128 .i32 :=
  (rSlot b).slice (Rect.unit (s := S128x256) ![0, 128 * s.val] S128x128.size (inb_h s)) (fun _ => rfl)
/-- Those columns of the row table. -/
def yHalf (s : Fin 2) : Memref sig .scVector .hbm S155648x128 .i32 :=
  ysV.slice (Rect.unit (s := S155648x256) ![0, 128 * s.val] S155648x128.size (inb_y s)) (fun _ => rfl)
/-- Index buffer `b` as the list of 128 row numbers a transfer reads. -/
def offs (b : Fin 2) : Memref sig .scVector .vmem S128 .i32 :=
  ((iSlot b).slice (Rect.unit (s := S1x128) ![0, 0] S1x128.size inb_S1x128_S1x128_0_0) (fun _ => rfl)).squeeze S128 squeezes_S1x128_S128

theorem yHalf_zero : ysV.slice (Rect.unit (s := S155648x256) ![0, 0] S155648x128.size inb_S155648x256_S155648x128_0_0) (fun _ => rfl) = yHalf 0 := rfl
theorem yHalf_one : ysV.slice (Rect.unit (s := S155648x256) ![0, 128] S155648x128.size inb_S155648x256_S155648x128_0_128) (fun _ => rfl) = yHalf 1 := rfl

theorem set_rHalf_subset (b s : Fin 2) : (rHalf b s).view.set ⊆ (rSlot b).view.set := View.set_slice_subset _ _
theorem set_offs_subset (b : Fin 2) : (offs b).view.set ⊆ (iSlot b).view.set := by
  show ((((iSlot b).view.slice (Rect.unit (s := S1x128) ![0, 0] S1x128.size inb_S1x128_S1x128_0_0)).reshape S128 squeezes_S1x128_S128.numel_eq).set ⊆ _)
  rw [View.set_reshape]
  exact View.set_slice_subset _ _

theorem halves_disjoint (b : Fin 2) : Disjoint (rHalf b 0).view.set (rHalf b 1).view.set :=
  View.disjoint_slice (Rect.disjoint_of_separated _ _ (1 : Fin 2) (.inl (.inr (by decide))))

/-- The list's entry `k` is the index buffer's column `k`. -/
theorem read_offs (b : Fin 2) (f : (iSlot b).view.ty.Contents (Elt F)) (k : S128.Idx) :
    (offs b).view.read (Elt F) f k = (iSlot b).view.read (Elt F) f (ix2 (0 : Fin 1) (k 0)) := by
  have e : (Rect.unit (s := S1x128) ![0, 0] S1x128.size inb_S1x128_S1x128_0_0).emb (Shape.reshapeEquiv squeezes_S1x128_S128.numel_eq k)
      = (ix2 (0 : Fin 1) (k 0) : S1x128.Idx) := by
    rw [show Shape.reshapeEquiv squeezes_S1x128_S128.numel_eq k = (ix2 (0 : Fin 1) (k 0) : S1x128.Idx) from
      (Shape.reshapeEquiv_cons_one _ k).trans (by funext a; match a with | 0 => rfl | 1 => rfl)]
    funext a; apply Fin.ext
    match a with
    | 0 => rfl
    | 1 => show 0 + 1 * (k 0).val = (k 0).val; omega
  exact congrArg (fun y => (iSlot b).view.read (Elt F) f y) e

/-- The table's half `s` at a row and column. -/
theorem read_yHalf (s : Fin 2) (f : S155648x256.Idx → Elt F .i32) (x : S155648x128.Idx) :
    (yHalf s).view.read (Elt F) f x
      = f (ix2 (⟨(x 0).val, idx2_lt0 x⟩ : Fin 155648) (⟨128 * s.val + (x 1).val, by have := idx2_lt1 x; have := s.isLt; omega⟩ : Fin 256)) := by
  refine congrArg f (ext2 (n0 := 155648) (n1 := 256) ?_ ?_)
  · show 0 + 1 * (x 0).val = (x 0).val; omega
  · show 128 * s.val + 1 * (x 1).val = 128 * s.val + (x 1).val; omega

/-- A row buffer written half by half reads the halves' payloads at their columns. -/
theorem read_halves (b : Fin 2) (f : (rSlot b).view.ty.Contents (Elt F)) (p : Fin 2 → S128x128.Idx → Elt F .i32)
    (g : S128x256.Idx → Elt F .i32)
    (hg : ∀ (s : Fin 2) (y : S128x128.Idx), p s y = g (ix2 (⟨(y 0).val, idx2_lt0 y⟩ : Fin 128)
      (⟨128 * s.val + (y 1).val, by have := idx2_lt1 y; have := s.isLt; omega⟩ : Fin 256))) (x : S128x256.Idx) :
    (rSlot b).view.read (Elt F) ((rHalf b 1).view.write (Elt F) ((rHalf b 0).view.write (Elt F) f (p 0) Finset.univ) (p 1) Finset.univ) x = g x := by
  have hx0 := idx2_lt0 x
  have hx1 := idx2_lt1 x
  by_cases h : (x 1).val < 128
  · have e : (Rect.unit (s := S128x256) ![0, 128 * (0 : Fin 2).val] S128x128.size (inb_h 0)).emb (ix2 (⟨(x 0).val, hx0⟩ : Fin 128) (⟨(x 1).val, h⟩ : Fin 128)) = x := by
      funext a; apply Fin.ext
      match a with
      | 0 => show 0 + 1 * (x 0).val = (x 0).val; omega
      | 1 => show 0 + 1 * (x 1).val = (x 1).val; omega
    have hn : x ∉ Finset.univ.map (Rect.unit (s := S128x256) ![0, 128 * (1 : Fin 2).val] S128x128.size (inb_h 1)).emb := by
      intro hm
      obtain ⟨y, -, hy⟩ := Finset.mem_map.mp hm
      have : 128 + 1 * (y 1).val = (x 1).val := congrArg (fun z : S128x256.Idx => (z 1).val) hy
      omega
    refine (View.read_slice_write_of_not_mem (v := (rSlot b).view) _ _ _ _ hn).trans ?_
    conv_lhs => rw [← e]
    refine (View.read_slice_write_emb (v := (rSlot b).view) _ _ _ (Finset.mem_univ _)).trans ?_
    rw [hg]
    congr 1; funext a; apply Fin.ext
    match a with
    | 0 => rfl
    | 1 => show 128 * 0 + (x 1).val = (x 1).val; omega
  · have e : (Rect.unit (s := S128x256) ![0, 128 * (1 : Fin 2).val] S128x128.size (inb_h 1)).emb (ix2 (⟨(x 0).val, hx0⟩ : Fin 128) (⟨(x 1).val - 128, by omega⟩ : Fin 128)) = x := by
      funext a; apply Fin.ext
      match a with
      | 0 => show 0 + 1 * (x 0).val = (x 0).val; omega
      | 1 => show 128 + 1 * ((x 1).val - 128) = (x 1).val; omega
    conv_lhs => rw [← e]
    refine (View.read_slice_write_emb (v := (rSlot b).view) _ _ _ (Finset.mem_univ _)).trans ?_
    rw [hg]
    congr 1; funext a; apply Fin.ext
    match a with
    | 0 => rfl
    | 1 => show 128 * 1 + ((x 1).val - 128) = (x 1).val; omega

end Cert.Proof.Gather

end
-- ==== Proof.Tile.lean ====
/-
  The gather on one vector subcore: 34 blocks of 128 rows, each fetched through one of two index buffers, gathered
  from the row table into one of two row buffers, and flushed to the result while the next block is on its way.
-/
module

public import proofs.«01_k».proof.Proof.Slots
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The logic the run is stated in -/

abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

/-! ## What the kernel computes -/

/-- The row a position names (any word is read as some row; those the kernel meets name theirs). -/
def rowNo (v : BitVec 32) : Fin 155648 := if h : v.toNat < 155648 then ⟨v.toNat, h⟩ else ⟨0, by decide⟩

theorem rowNo_val {v : BitVec 32} (h : v.toNat < 155648) : (rowNo v).val = v.toNat := by
  unfold rowNo; rw [dif_pos h]

/-- Row `j` of the result is the table's row that position `j` names. -/
def G (ys : S155648x256.Idx → Elt F .i32) (ix : S1x139264.Idx → Elt F .i32) : S139264x256.Idx → Elt F .i32 :=
  fun j => ys (ix2 (rowNo (ix (ix2 (0 : Fin 1) (⟨(j 0).val, idx2_lt0 j⟩ : Fin 139264)))) (⟨(j 1).val, idx2_lt1 j⟩ : Fin 256))

/-- Block `n` of it. -/
def GB (ys : S155648x256.Idx → Elt F .i32) (ix : S1x139264.Idx → Elt F .i32) (n : ℕ) (hn : n < 1088) : S128x256.Idx → Elt F .i32 :=
  fun x => ys (ix2 (rowNo (ix (ix2 (0 : Fin 1) (⟨128 * n + (x 0).val, by have := idx2_lt0 x; omega⟩ : Fin 139264)))) (⟨(x 1).val, idx2_lt1 x⟩ : Fin 256))

theorem G_emb (ys : S155648x256.Idx → Elt F .i32) (ix : S1x139264.Idx → Elt F .i32) (n : ℕ) (hn : n < 1088) (x : S128x256.Idx) :
    G ys ix ((outB n hn).view.emb x) = GB ys ix n hn x :=
  congrArg (G ys ix) (emb_outB n hn x)

section Tile

variable (d : Dev nD) (L : grid0.Coords)
variable (ys : S155648x256.Idx → Elt F .i32) (ix : S1x139264.Idx → Elt F .i32) (q : PosShare TreeShare) (qi : Fin 2 → PosShare TreeShare)

/-! ## The pieces a subcore holds -/

abbrev iAt (b : Fin 2) (f : Buf (Elt F) ((iSlot b).view.loc (thr d L))) : sProp 𝕄 :=
  (iSlot b).view.loc (thr d L) ↦[(iSlot b).view.set]{fullShare} f
abbrev rAt (b : Fin 2) (f : Buf (Elt F) ((rSlot b).view.loc (thr d L))) : sProp 𝕄 :=
  (rSlot b).view.loc (thr d L) ↦[(rSlot b).view.set]{fullShare} f
abbrev posAt (I : Finset S1x139264.Idx) (q : PosShare TreeShare) : sProp 𝕄 := posV.view.loc (thr d L) ↦[I]{q} ix
abbrev ysAt : sProp 𝕄 := ysV.view.loc (thr d L) ↦{q} ys
abbrev outAt (I : Finset S139264x256.Idx) (f : S139264x256.Idx → Elt F .i32) : sProp 𝕄 := outV.view.loc (thr d L) ↦[I]{fullShare} f

theorem blk_lt' {k : ℕ} (h : k < 34) : blk L k < 1088 := blk_lt L h

/-- Index buffer `b` at rest. -/
def iIdle (b : Fin 2) : sProp 𝕄 :=
  iprop((∃ f, iAt (F := F) d L b f) ∗ semVal (thr d L, SemLoc.dma (iSem b)) 0 ∗ posAt d L ix Finset.univ (qi b))

/-- What index buffer `b` holds once block `n`'s positions are in it. -/
def iFull (b : Fin 2) (n : ℕ) (hn : n < 1088) : sProp 𝕄 :=
  iprop(∃ f, ⌜∀ x, (iSlot b).view.read (Elt F) f x = (posB n hn).view.read (Elt F) ix x⌝ ∗ iAt (F := F) d L b f)

/-- Block `k`'s positions on their way. -/
def iBusy (k : ℕ) (hk : k < 34) : sProp 𝕄 :=
  iprop(Transfers.Flight countersEmb (thr d L) (SemLoc.dma (iSem (par k))) (default : HIx 1) (iSlot (par k)).view.dmaCredit
      iprop(iFull d L ix (par k) (blk L k) (blk_lt' L hk) ∗ posAt d L ix (posB (blk L k) (blk_lt' L hk)).view.set (qi (par k)))
    ∗ posAt d L ix (Finset.univ \ (posB (blk L k) (blk_lt' L hk)).view.set) (qi (par k)))

/-- Row buffer `b` at rest. -/
def rIdle (b : Fin 2) : sProp 𝕄 := iprop((∃ f, rAt (F := F) d L b f) ∗ semVal (thr d L, SemLoc.dma (rSem b)) 0)

/-- What row buffer `b` holds once block `n` is gathered into it. -/
def rFull (b : Fin 2) (n : ℕ) (hn : n < 1088) : sProp 𝕄 :=
  iprop(∃ f, ⌜∀ x, (rSlot b).view.read (Elt F) f x = GB ys ix n hn x⌝ ∗ rAt (F := F) d L b f)

/-- Block `k` on its way to the result. -/
def rBusy (k : ℕ) : sProp 𝕄 :=
  Transfers.Flight countersEmb (thr d L) (SemLoc.dma (rSem (par k))) (default : HIx 1) (outV.view.ref.dmaCredit S128x256 .i32)
      iprop(outAt d L (rowsSet (blk L k) (blk L k + 1)) (G ys ix) ∗ ∃ f, rAt (F := F) d L (par k) f)

variable [FloatOps F]

/-! ## The transfers -/

/-- A fetch of block `k`'s positions begins. -/
theorem fetch {k : ℕ} (hk : k < 34) {src : Memref sig .scVector .hbm S1x128 .i32} {dst : Memref sig .scVector .vmem S1x128 .i32} {sem : DmaSem sig}
    (hsrc : src = posB (blk L k) (blk_lt' L hk)) (hdst : dst = iSlot (par k)) (hsem : sem = iSem (par k))
    {h1 : src.view.WordExact} {h2 : dst.view.WordExact} {h3 : DmaTarget.Typed (nD := nD) (τ := τ) (p := (thr d L).2) .hbm (SemLoc.dma sem) (.here dst)} {Q : PUnit → sProp 𝕄} :
    iIdle d L ix qi (par k) ⊢ iprop((iBusy d L ix qi k hk -∗ Q ⟨⟩)
      -∗ wp frame (wpE (defs₀ (F := F)) 𝒱₀ (thr d L) none) Set.univ
          (Prog.lift (TpuEff.enqueueDma src (.here dst) (SemLoc.dma sem) h1 h2 h3)) Q) := by
  subst hsrc hdst hsem
  unfold iIdle iBusy
  iintro ⟨⟨%f, Hf⟩, Hsem, Hp⟩ Hk
  ihave Hps := (pointsTo_split_subset (q := qi (par k)) (f := ix) (S := Finset.univ) (Finset.subset_univ (posB (blk L k) (blk_lt' L hk)).view.set)).1 $$ Hp
  icases Hps with ⟨Hps, Hpr⟩
  iapply (Transfers.wp_dmaLocal countersEmb 𝒱₀ (thr d L) none (default : HIx 1) (iSlot (par k)).view.dmaCredit rfl
    (View.dmaCredit_pos _ (by decide)) (Finset.Subset.refl _)) $$ [Hf Hsem Hps]
  · isplitl [Hps]; · iexact Hps
    isplitl [Hf]; · iexact Hf
    iexact Hsem
  iintro Hfl
  rw [wp_ret]
  imodintro
  iapply Hk
  isplitl [Hfl]
  · iapply (Transfers.Flight_mono countersEmb (thr d L) (D := _) ?_) $$ Hfl
    iintro ⟨Hd, Hs⟩
    isplitl [Hd]
    · unfold iFull
      iexists _
      isplitr
      swap; · iexact Hd
      ipureintro
      intro x
      exact congrFun (View.read_write_univ _ _) x
    · iexact Hs
  · iexact Hpr

/-- What the subcore has recorded of its waits so far. -/
def Ow (O : CellTallies nD τ sig (HIx 1)) (W : Waits sig (HIx 1)) : sProp 𝕄 :=
  iprop(∃ W', ⌜∀ p ∈ W', p ∈ W ∨ p.2 = none⌝ ∗ owes (thr d L) O W')

variable (O : CellTallies nD τ sig (HIx 1)) (W : Waits sig (HIx 1))

/-- A wait for a transfer under way. -/
theorem wait {sp sp' : Space} {s s' : Shape} {e e' : EltTy} {src : Memref sig .scVector sp' s' e'} {dst : Memref sig .scVector sp s e} {sem : DmaSem sig} {N : ℕ} {D : sProp 𝕄}
    (hN : dst.view.dmaCredit = N) {h1 : src.view.WordExact} {h2 : dst.view.WordExact} {Q : PUnit → sProp 𝕄} :
    iprop(Transfers.Flight countersEmb (thr d L) (SemLoc.dma sem) (default : HIx 1) N D ∗ Ow d L O W ∗ Transfers.MayWaits (thr d L) (default : HIx 1) O)
      ⊢ iprop(((D ∗ semVal (thr d L, SemLoc.dma sem) 0 ∗ Ow d L O W) -∗ Q ⟨⟩)
        -∗ wp frame (wpE (defs₀ (F := F)) 𝒱₀ (thr d L) none) Set.univ (Prog.lift (TpuEff.waitDma2 sem src dst h1 h2)) Q) := by
  unfold Ow
  iintro ⟨Hfl, ⟨%W', %hW', HO⟩, Hmw⟩ Hk
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sem)) $$ Hmw
  iintro ⟨HD, Hsem, HO⟩
  rw [wp_ret]
  imodintro
  iapply Hk
  isplitl [HD]; · iexact HD
  isplitl [Hsem]; · iexact Hsem
  iexists _
  isplitr
  swap; · iexact HO
  ipureintro; intro p hp
  rcases Finset.mem_insert.mp hp with hp | hp; · exact .inr (hp ▸ rfl)
  exact hW' p hp

/-- The wait for block `k`'s positions. -/
theorem waitFetch {k : ℕ} (hk : k < 34) {src : Memref sig .scVector .hbm S1x128 .i32} {dst : Memref sig .scVector .vmem S1x128 .i32} {sem : DmaSem sig}
    (hdst : dst = iSlot (par k)) (hsem : sem = iSem (par k)) {h1 : src.view.WordExact} {h2 : dst.view.WordExact} {Q : PUnit → sProp 𝕄} :
    iprop(iBusy d L ix qi k hk ∗ Ow d L O W ∗ Transfers.MayWaits (thr d L) (default : HIx 1) O)
      ⊢ iprop(((iFull d L ix (par k) (blk L k) (blk_lt' L hk) ∗ semVal (thr d L, SemLoc.dma (iSem (par k))) 0
            ∗ posAt d L ix Finset.univ (qi (par k)) ∗ Ow d L O W) -∗ Q ⟨⟩)
        -∗ wp frame (wpE (defs₀ (F := F)) 𝒱₀ (thr d L) none) Set.univ (Prog.lift (TpuEff.waitDma2 sem src dst h1 h2)) Q) := by
  subst hdst hsem
  unfold iBusy
  iintro ⟨⟨Hfl, Hpr⟩, HO, Hmw⟩ Hk
  iapply (wait d L O W rfl) $$ [Hfl HO Hmw]
  · isplitl [Hfl]; · iexact Hfl
    isplitl [HO]; · iexact HO
    iexact Hmw
  iintro ⟨⟨Hf, Hps⟩, Hsem, HO⟩
  iapply Hk
  isplitl [Hf]; · iexact Hf
  isplitl [Hsem]; · iexact Hsem
  isplitl [Hps Hpr]
  · iapply (pointsTo_split_subset (q := qi (par k)) (f := ix) (S := Finset.univ) (Finset.subset_univ (posB (blk L k) (blk_lt' L hk)).view.set)).2
    isplitl [Hps]; · iexact Hps
    iexact Hpr
  iexact HO

/-- Block `k` of the result begins to be flushed. -/
theorem flush {k : ℕ} (hk : k < 34) {src : Memref sig .scVector .vmem S128x256 .i32} {dst : Memref sig .scVector .hbm S128x256 .i32} {sem : DmaSem sig}
    (hsrc : src = rSlot (par k)) (hdst : dst = outB (blk L k) (blk_lt' L hk)) (hsem : sem = rSem (par k))
    {h1 : src.view.WordExact} {h2 : dst.view.WordExact} {h3 : DmaTarget.Typed (nD := nD) (τ := τ) (p := (thr d L).2) .vmem (SemLoc.dma sem) (.here dst)} {fo : S139264x256.Idx → Elt F .i32} {Q : PUnit → sProp 𝕄} :
    iprop(rFull d L ys ix (par k) (blk L k) (blk_lt' L hk) ∗ semVal (thr d L, SemLoc.dma (rSem (par k))) 0 ∗ outAt d L (rowsSet (blk L k) (blk L k + 1)) fo)
      ⊢ iprop((rBusy d L ys ix k -∗ Q ⟨⟩)
      -∗ wp frame (wpE (defs₀ (F := F)) 𝒱₀ (thr d L) none) Set.univ
          (Prog.lift (TpuEff.enqueueDma src (.here dst) (SemLoc.dma sem) h1 h2 h3)) Q) := by
  subst hsrc hdst hsem
  unfold rFull rBusy
  iintro ⟨⟨%f, %hf, Hf⟩, Hsem, Ho⟩ Hk
  iapply (Transfers.wp_dmaLocal countersEmb 𝒱₀ (thr d L) none (default : HIx 1) (outV.view.ref.dmaCredit S128x256 .i32) rfl
    (View.dmaCredit_pos (outB (blk L k) (blk_lt' L hk)).view (by decide)) (Finset.Subset.refl _)) $$ [Hf Hsem Ho]
  · isplitl [Hf]; · iexact Hf
    isplitl [Ho]
    · rw [← set_outB (blk L k) (blk_lt' L hk)]; iexact Ho
    iexact Hsem
  iintro Hfl
  rw [wp_ret]
  imodintro
  iapply Hk
  iapply (Transfers.Flight_mono countersEmb (thr d L) (D := _) ?_) $$ Hfl
  iintro ⟨Hd, Hs⟩
  isplitl [Hd]
  · rw [← set_outB (blk L k) (blk_lt' L hk)]
    iapply (Entails.of_eq (pointsTo_congr ?_)) $$ Hd
    intro j hj
    obtain ⟨x, -, rfl⟩ := Finset.mem_map.mp hj
    rw [G_emb, ← hf x]
    exact View.write_emb_of_mem _ _ (Finset.mem_univ x)
  · iexists _; iexact Hs

/-- The wait for block `k`'s flush. -/
theorem waitFlush {k : ℕ} {n : ℕ} {hn : n < 1088} {src : Memref sig .scVector .vmem S128x256 .i32} {dst : Memref sig .scVector .hbm S128x256 .i32} {sem : DmaSem sig}
    (hdst : dst = outB n hn) (hsem : sem = rSem (par k)) {h1 : src.view.WordExact} {h2 : dst.view.WordExact} {Q : PUnit → sProp 𝕄} :
    iprop(rBusy d L ys ix k ∗ Ow d L O W ∗ Transfers.MayWaits (thr d L) (default : HIx 1) O)
      ⊢ iprop(((outAt d L (rowsSet (blk L k) (blk L k + 1)) (G ys ix) ∗ rIdle (F := F) d L (par k) ∗ Ow d L O W) -∗ Q ⟨⟩)
        -∗ wp frame (wpE (defs₀ (F := F)) 𝒱₀ (thr d L) none) Set.univ (Prog.lift (TpuEff.waitDma2 sem src dst h1 h2)) Q) := by
  subst hdst hsem
  unfold rBusy rIdle
  iintro ⟨Hfl, HO, Hmw⟩ Hk
  iapply (wait d L O W rfl) $$ [Hfl HO Hmw]
  · isplitl [Hfl]; · iexact Hfl
    isplitl [HO]; · iexact HO
    iexact Hmw
  iintro ⟨⟨Hout, Hr⟩, Hsem, HO⟩
  iapply Hk
  isplitl [Hout]; · iexact Hout
  isplitl [Hr Hsem]
  · isplitl [Hr]; · iexact Hr
    iexact Hsem
  iexact HO

/-! ## The indirect copies -/

/-- Columns half `s` of block `n`. -/
def payH (n : ℕ) (hn : n < 1088) (s : Fin 2) : S128x128.Idx → Elt F .i32 :=
  fun y => GB ys ix n hn (ix2 (⟨(y 0).val, idx2_lt0 y⟩ : Fin 128) (⟨128 * s.val + (y 1).val, by have := idx2_lt1 y; have := s.isLt; omega⟩ : Fin 256))

theorem offs_lt (hix : ∀ j, (ix j).toNat < 155648) {b : Fin 2} {n : ℕ} {hn : n < 1088} {fi : Buf (Elt F) ((iSlot b).view.loc (thr d L))}
    (hfi : ∀ x, (iSlot b).view.read (Elt F) fi x = (posB n hn).view.read (Elt F) ix x) (x : S128.Idx) :
    ((offs b).view.read (Elt F) fi x).toNat < 155648 := by
  rw [read_offs, hfi, read_posB]; exact hix _

theorem gatherPayload_eq (hix : ∀ j, (ix j).toNat < 155648) {b s : Fin 2} {n : ℕ} {hn : n < 1088} {fi : Buf (Elt F) ((iSlot b).view.loc (thr d L))}
    (hfi : ∀ x, (iSlot b).view.read (Elt F) fi x = (posB n hn).view.read (Elt F) ix x)
    (hg : S155648x128.Gathers 0 S128x128) (hn' : S128.numel = S128x128.size hg.axis')
    (hin : ∀ x, ((offs b).view.read (Elt F) fi x).toNat < S155648x128.size hg.axis) :
    SparseCore.gatherPayload hg ((yHalf s).view.read (Elt F) ys) (SparseCore.rows ((offs b).view.read (Elt F) fi) hn' hin) = payH ys ix n hn s := by
  funext y
  unfold SparseCore.gatherPayload payH GB
  rw [read_yHalf]
  refine congrArg ys (ext2 (n0 := 155648) (n1 := 256) ?_ ?_)
  · refine Eq.trans ?_ (rowNo_val (hix _)).symm
    refine (congrArg Fin.val (Shape.Gathers.idx_axis hg (SparseCore.rows ((offs b).view.read (Elt F) fi) hn' hin) y)).trans ?_
    show ((offs b).view.read (Elt F) fi (S128.rowMajor.symm ((y hg.axis').cast hn'.symm))).toNat = _
    have hx := congrArg Fin.val (S128.rowMajor.apply_symm_apply ((y hg.axis').cast hn'.symm))
    rw [Shape.rowMajor_val_one] at hx
    rw [read_offs, hfi, read_posB]
    refine congrArg BitVec.toNat (congrArg ix (ext2 (n0 := 1) (n1 := 139264) rfl ?_))
    show 128 * n + ((S128.rowMajor.symm ((y hg.axis').cast hn'.symm)) 0).val = 128 * n + (y 0).val
    rw [hx]; rfl
  · show 128 * s.val + ((hg.idx _ y) 1).val = 128 * s.val + (y 1).val
    rw [Shape.Gathers.idx_of_ne hg _ y (1 : Fin 2) (by decide)]
    rfl

theorem credit_rows (b s : Fin 2) (h : S155648x128.Gathers 0 S128x128) :
    ∑ j, ((rHalf b s).slice (S128x128.rowRect h.axis' j) (S128x128.stride_rowRect h.axis' j)).view.dmaCredit
      = (rHalf b s).view.ref.dmaCredit S128x128 .i32 := by
  revert b s h; decide

/-- An indirect copy begins: half `s` of the columns of the 128 rows listed, through index and row buffers `b`. -/
theorem gatherCore {b s : Fin 2} {sem : DmaSem sig}
    {fo : Buf (Elt F) ((offs b).view.loc (thr d L))} {f : Buf (Elt F) ((rHalf b s).view.loc (thr d L))}
    (hin : ∀ x, ((offs b).view.read (Elt F) fo x).toNat < 155648)
    {h1 h2 h3 h4 h5 h6} {Q : PUnit → sProp 𝕄} :
    iprop(((yHalf s).view.loc (thr d L) ↦[(yHalf s).view.set]{q} ys) ∗ ((rHalf b s).view.loc (thr d L) ↦[(rHalf b s).view.set]{fullShare} f)
        ∗ ((offs b).view.loc (thr d L) ↦[(offs b).view.set]{fullShare} fo) ∗ semVal (thr d L, SemLoc.dma sem) 0)
      ⊢ iprop((Transfers.Flight countersEmb (thr d L) (SemLoc.dma sem) (default : HIx 1) ((rHalf b s).view.ref.dmaCredit S128x128 .i32)
          iprop(((rHalf b s).view.loc (thr d L) ↦[(rHalf b s).view.set]{fullShare} (rHalf b s).view.write (Elt F) f
             (SparseCore.gatherPayload gathers_S155648x128_S128x128 ((yHalf s).view.read (Elt F) ys) (SparseCore.rows ((offs b).view.read (Elt F) fo) h2 hin)) Finset.univ)
          ∗ ((yHalf s).view.loc (thr d L) ↦[(yHalf s).view.set]{q} ys)
          ∗ ((offs b).view.loc (thr d L) ↦[(offs b).view.set]{fullShare} fo)) -∗ Q ⟨⟩)
        -∗ wp frame (wpE (defs₀ (F := F)) 𝒱₀ (thr d L) none) Set.univ
            (SparseCore.enqueueIndirectGather (p := (thr d L).2) h1 (yHalf s) (rHalf b s) gathers_S155648x128_S128x128 (offs b) h2 sem h3 h4 h5 h6) Q) := by
  have key := SparseCore.wp_indirectGatherLocal (F := F) (Q := Q) (Λ := Λ₀) (defs := defs₀ (F := F)) countersEmb 𝒱₀ (thr d L) none (src := yHalf s) (dst := rHalf b s) (hg := gathers_S155648x128_S128x128) (offs := offs b)
    (hn := h2) (sem := sem) (hp := h1) (hsrc := h3) (he := h4) (hsp := h5) (hr := h6) (k := pure) (q := q) (qo := fullShare) (fs := ys) (fd := f) (fo := fo) (default : HIx 1)
      ((rHalf b s).view.ref.dmaCredit S128x128 .i32) (credit_rows b s _) (by decide) hin
  rw [bind_pure] at key
  iintro H Hk
  iapply key $$ H
  iintro Hfl
  rw [wp_pure]
  imodintro
  iapply Hk
  iexact Hfl

theorem pts_offs (b : Fin 2) (f : Buf (Elt F) ((iSlot b).view.loc (thr d L))) :
    ((iSlot b).view.loc (thr d L) ↦[(offs b).view.set]{fullShare} f : sProp 𝕄) = (offs b).view.loc (thr d L) ↦[(offs b).view.set]{fullShare} f := rfl
theorem pts_yHalf (s : Fin 2) :
    (ysV.view.loc (thr d L) ↦[(yHalf s).view.set]{q} ys : sProp 𝕄) = (yHalf s).view.loc (thr d L) ↦[(yHalf s).view.set]{q} ys := rfl
theorem pts_rHalf (b s : Fin 2) (f : Buf (Elt F) ((rSlot b).view.loc (thr d L))) :
    ((rSlot b).view.loc (thr d L) ↦[(rHalf b s).view.set]{fullShare} f : sProp 𝕄) = (rHalf b s).view.loc (thr d L) ↦[(rHalf b s).view.set]{fullShare} f := rfl

/-- One indirect copy and its wait: half `s` of the columns of the 128 rows listed. -/
theorem gatherHalf (hix : ∀ j, (ix j).toNat < 155648) {b s : Fin 2} {n : ℕ} {hn : n < 1088} {sem : DmaSem sig}
    {src src' : Memref sig .scVector .hbm S155648x128 .i32} {dst dst' : Memref sig .scVector .vmem S128x128 .i32} {off : Memref sig .scVector .vmem S128 .i32}
    (hsrc : src = yHalf s) (hdst : dst = rHalf b s) (hdst' : dst' = rHalf b s) (hoff : off = offs b)
    {fi : Buf (Elt F) ((iSlot b).view.loc (thr d L))} {f : Buf (Elt F) ((rHalf b s).view.loc (thr d L))}
    (hfi : ∀ x, (iSlot b).view.read (Elt F) fi x = (posB n hn).view.read (Elt F) ix x)
    {h1 h2 h3 h4 h5 h6 h7 h8} {Q : PUnit → sProp 𝕄} :
    iprop(ysAt d L ys q ∗ ((rHalf b s).view.loc (thr d L) ↦[(rHalf b s).view.set]{fullShare} f) ∗ iAt (F := F) d L b fi
        ∗ semVal (thr d L, SemLoc.dma sem) 0 ∗ Ow d L O W ∗ Transfers.MayWaits (thr d L) (default : HIx 1) O)
      ⊢ iprop(((ysAt d L ys q
            ∗ ((rHalf b s).view.loc (thr d L) ↦[(rHalf b s).view.set]{fullShare} (rHalf b s).view.write (Elt F) f (payH ys ix n hn s) Finset.univ)
            ∗ iAt (F := F) d L b fi ∗ semVal (thr d L, SemLoc.dma sem) 0 ∗ Ow d L O W) -∗ Q ⟨⟩)
        -∗ wp frame (wpE (defs₀ (F := F)) 𝒱₀ (thr d L) none) Set.univ
            (SparseCore.enqueueIndirectGather (p := (thr d L).2) h1 src dst gathers_S155648x128_S128x128 off h2 sem h3 h4 h5 h6)
            fun _ => wp frame (wpE (defs₀ (F := F)) 𝒱₀ (thr d L) none) Set.univ
              (SparseCore.waitIndirectGather (p := (thr d L).2) sem src' dst' h7 h8) Q) := by
  subst hsrc hdst hdst' hoff
  iintro ⟨Hy, Hr, Hi, Hsem, HO, Hmw⟩ Hk
  ihave Hys := (pointsTo_split_subset (q := q) (f := ys) (S := Finset.univ) (Finset.subset_univ (yHalf s).view.set)).1 $$ Hy
  icases Hys with ⟨Hys, Hyr⟩
  ihave His := (pointsTo_split_subset (q := fullShare) (f := fi) (set_offs_subset b)).1 $$ Hi
  icases His with ⟨His, Hir⟩
  ihave Hys := (Entails.of_eq (pts_yHalf (F := F) d L ys q s)) $$ Hys
  ihave His := (Entails.of_eq (pts_offs (F := F) d L b fi)) $$ His
  iapply (gatherCore d L ys q (b := b) (s := s) (fo := fi) (f := f) (offs_lt d L ix hix hfi)) $$ [Hys Hr His Hsem]
  · isplitl [Hys]; · iexact Hys
    isplitl [Hr]; · iexact Hr
    isplitl [His]; · iexact His
    iexact Hsem
  iintro Hfl
  unfold SparseCore.waitIndirectGather
  iapply (wait d L O W rfl) $$ [Hfl HO Hmw]
  · isplitl [Hfl]; · iexact Hfl
    isplitl [HO]; · iexact HO
    iexact Hmw
  iintro ⟨⟨Hr, Hys, His⟩, Hsem, HO⟩
  ihave Hys := (Entails.of_eq (pts_yHalf (F := F) d L ys q s).symm) $$ Hys
  ihave His := (Entails.of_eq (pts_offs (F := F) d L b fi).symm) $$ His
  iapply Hk
  isplitl [Hys Hyr]
  · iapply (pointsTo_split_subset (q := q) (f := ys) (S := Finset.univ) (Finset.subset_univ (yHalf s).view.set)).2
    isplitl [Hys]; · iexact Hys
    iexact Hyr
  isplitl [Hr]
  · iapply (Entails.of_eq (congrArg (fun p => ((rHalf b s).view.loc (thr d L) ↦[(rHalf b s).view.set]{fullShare} (rHalf b s).view.write (Elt F) f p Finset.univ : sProp 𝕄))
      (gatherPayload_eq d L ys ix hix (s := s) hfi gathers_S155648x128_S128x128 h2 (offs_lt d L ix hix hfi)))) $$ Hr
  isplitl [His Hir]
  · iapply (pointsTo_split_subset (q := fullShare) (f := fi) (set_offs_subset b)).2
    isplitl [His]; · iexact His
    iexact Hir
  isplitl [Hsem]; · iexact Hsem
  iexact HO

/-! ## A row buffer in halves -/

abbrev hAt (b s : Fin 2) (f : Buf (Elt F) ((rHalf b s).view.loc (thr d L))) : sProp 𝕄 :=
  (rHalf b s).view.loc (thr d L) ↦[(rHalf b s).view.set]{fullShare} f
/-- What is left of row buffer `b` beside its two column halves. -/
def rRest (b : Fin 2) (f : Buf (Elt F) ((rSlot b).view.loc (thr d L))) : sProp 𝕄 :=
  (rSlot b).view.loc (thr d L) ↦[((rSlot b).view.set \ (rHalf b 0).view.set) \ (rHalf b 1).view.set]{fullShare} f

theorem rHalf_one_subset (b : Fin 2) : (rHalf b 1).view.set ⊆ (rSlot b).view.set \ (rHalf b 0).view.set :=
  Finset.subset_sdiff.mpr ⟨set_rHalf_subset b 1, (halves_disjoint b).symm⟩

theorem rSplit (b : Fin 2) (f : Buf (Elt F) ((rSlot b).view.loc (thr d L))) :
    (rAt (F := F) d L b f : sProp 𝕄) ⊣⊢ iprop(hAt (F := F) d L b 0 f ∗ hAt (F := F) d L b 1 f ∗ rRest (F := F) d L b f) := by
  have e1 : (rAt (F := F) d L b f : sProp 𝕄) ⊣⊢ iprop(hAt (F := F) d L b 0 f
      ∗ ((rSlot b).view.loc (thr d L) ↦[(rSlot b).view.set \ (rHalf b 0).view.set]{fullShare} f)) :=
    pointsTo_split_subset (q := fullShare) (f := f) (set_rHalf_subset b 0)
  have e2 : ((rSlot b).view.loc (thr d L) ↦[(rSlot b).view.set \ (rHalf b 0).view.set]{fullShare} f : sProp 𝕄) ⊣⊢ iprop(hAt (F := F) d L b 1 f
      ∗ ((rSlot b).view.loc (thr d L) ↦[((rSlot b).view.set \ (rHalf b 0).view.set) \ (rHalf b 1).view.set]{fullShare} f)) :=
    pointsTo_split_subset (q := fullShare) (f := f) (rHalf_one_subset b)
  unfold rRest
  constructor
  · iintro H
    ihave H := e1.1 $$ H
    icases H with ⟨H0, H⟩
    ihave H := e2.1 $$ H
    icases H with ⟨H1, H⟩
    isplitl [H0]; · iexact H0
    isplitl [H1]; · iexact H1
    iexact H
  · iintro ⟨H0, H1, H⟩
    iapply e1.2
    isplitl [H0]; · iexact H0
    iapply e2.2
    isplitl [H1]; · iexact H1
    iexact H

/-- Both halves written: the row buffer holds the block. -/
theorem rJoin (b : Fin 2) (n : ℕ) (hn : n < 1088) (f : Buf (Elt F) ((rSlot b).view.loc (thr d L))) :
    iprop(hAt (F := F) d L b 0 ((rHalf b 0).view.write (Elt F) f (payH ys ix n hn 0) Finset.univ)
      ∗ hAt (F := F) d L b 1 ((rHalf b 1).view.write (Elt F) f (payH ys ix n hn 1) Finset.univ) ∗ rRest (F := F) d L b f)
    ⊢ rFull d L ys ix b n hn := by
  unfold rFull
  have E0 : (hAt (F := F) d L b 0 ((rHalf b 0).view.write (Elt F) f (payH ys ix n hn 0) Finset.univ) : sProp 𝕄)
      = hAt (F := F) d L b 0 ((rHalf b 1).view.write (Elt F) ((rHalf b 0).view.write (Elt F) f (payH ys ix n hn 0) Finset.univ) (payH ys ix n hn 1) Finset.univ) := by
    refine pointsTo_congr fun j hj => ?_
    symm
    exact View.write_of_not_mem _ _ _ (fun h => Finset.disjoint_left.mp (halves_disjoint b) hj h)
  have E1 : (hAt (F := F) d L b 1 ((rHalf b 1).view.write (Elt F) f (payH ys ix n hn 1) Finset.univ) : sProp 𝕄)
      = hAt (F := F) d L b 1 ((rHalf b 1).view.write (Elt F) ((rHalf b 0).view.write (Elt F) f (payH ys ix n hn 0) Finset.univ) (payH ys ix n hn 1) Finset.univ) := by
    refine pointsTo_congr fun j hj => ?_
    obtain ⟨x, -, rfl⟩ := Finset.mem_map.mp hj
    exact (View.write_emb_of_mem _ _ (Finset.mem_univ x)).trans (View.write_emb_of_mem _ _ (Finset.mem_univ x)).symm
  have E2 : (rRest (F := F) d L b f : sProp 𝕄)
      = rRest (F := F) d L b ((rHalf b 1).view.write (Elt F) ((rHalf b 0).view.write (Elt F) f (payH ys ix n hn 0) Finset.univ) (payH ys ix n hn 1) Finset.univ) := by
    refine pointsTo_congr fun j hj => ?_
    obtain ⟨hj, h1⟩ := Finset.mem_sdiff.mp hj
    obtain ⟨-, h0⟩ := Finset.mem_sdiff.mp hj
    symm
    exact (View.write_of_not_mem _ _ _ h1).trans (View.write_of_not_mem _ _ _ h0)
  rw [E0, E1, E2]
  iintro H
  iexists _
  isplitr
  swap
  · iapply (rSplit (F := F) d L b ((rHalf b 1).view.write (Elt F) ((rHalf b 0).view.write (Elt F) f (payH ys ix n hn 0) Finset.univ) (payH ys ix n hn 1) Finset.univ)).2 $$ H
  · ipureintro
    exact read_halves b f (fun s => payH ys ix n hn s) (GB ys ix n hn) (fun s y => rfl)

end Tile

end Cert.Proof.Gather

end
-- ==== Proof.Body.lean ====
/-
  One subcore's whole run: the loop's invariant, one trip, and the prologue and epilogue around the 34 of them.
-/
module

public import proofs.«01_k».proof.Proof.Tile

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (ys : S155648x256.Idx → Elt F .i32) (ix : S1x139264.Idx → Elt F .i32) (q : PosShare TreeShare) (qi : Fin 2 → PosShare TreeShare)
variable (fo : S139264x256.Idx → Elt F .i32)
variable [FloatOps F]
variable (O : CellTallies nD τ sig (HIx 1)) (W : Waits sig (HIx 1))

/-- The index buffer trip `k` reads, as the trip finds it. -/
def inSt (k : ℕ) : sProp 𝕄 := if h : k < 34 then iBusy d L ix qi k h else iIdle d L ix qi (par k)
/-- The row buffer the trip before `k` wrote, as trip `k` finds it. -/
def outSt (k : ℕ) : sProp 𝕄 := if k = 0 then rIdle (F := F) d L (par 1) else rBusy d L ys ix (k - 1)

/-- Between trips: the index buffer of trip `k` filling, the other idle; the row buffer of trip `k` idle, the other
    flushing; the blocks below the flushing one written, those from `k` on untouched. -/
def inv (k : ℕ) (acc : BitVec 32 × BitVec 32 × BitVec 32 × BitVec 32 × BitVec 32) : sProp 𝕄 :=
  iprop(⌜acc = words k⌝ ∗ Transfers.MayWaits (thr d L) (default : HIx 1) O ∗ ysAt d L ys q ∗ inSt d L ix qi k ∗ iIdle d L ix qi (par (k + 1)) ∗ rIdle (F := F) d L (par k) ∗ outSt d L ys ix k
    ∗ outAt d L (rowsSet (blk L 0) (blk L (k - 1))) (G ys ix) ∗ outAt d L (rowsSet (blk L k) (blk L 34)) fo
    ∗ semVal (thr d L, SemLoc.dma cc0_scoped4.sem) 0 ∗ semVal (thr d L, SemLoc.dma cc0_scoped5.sem) 0 ∗ Ow d L O W)

omit d ys ix q qi fo O W in
theorem assume_ok {d : Dev nD} {P : Prop} {dec : Decidable P} (h : P) {Q : PLift P → sProp 𝕄} :
    Q ⟨h⟩ ⊢ wp frame (wpE (defs₀ (F := F)) 𝒱₀ (thr d L) none) Set.univ (Prog.lift (TpuEff.assume P dec)) Q := by
  show _ ⊢ wp frame (wpE (defs₀ (F := F)) 𝒱₀ (thr d L) none) Set.univ (.op (.assume P dec) .ret) Q
  rw [wp_assume_of 𝒱₀ (thr d L) none Set.univ h, wp_ret]
  iintro H
  imodintro
  iexact H

/-! ## The three parts of a trip -/

abbrev part1K (k : Fin k0_t1_loop.trips) :=
  k0_part1 (F := F) L ysV (Memref.isWhole_whole _) posV (Memref.isWhole_whole _) outV (Memref.isWhole_whole _)
    ibV (Memref.isWhole_whole _) cc0_scoped1 rbV (Memref.isWhole_whole _) cc0_scoped3 cc0_scoped4 cc0_scoped5 (base L) 0#32 1#32 k
    (w (min (k.val + 1) 34)) (w k.val) (w k.val) (w (k.val - 1)) (w (k.val % 34))

/-- The next block's positions set out. -/
theorem part1 (k : Fin k0_t1_loop.trips) {Q : _ → sProp 𝕄} :
    iIdle d L ix qi (par (k.val + 1)) ⊢ iprop((inSt d L ix qi (k.val + 1)
        -∗ Q ⟨chk3_ok k, chk2_ok k, chk1_ok L k, aNum k, aFirst k, aLast k, aHere L k, aPrev L k, aNext L k, aFetched L k, Scalar.cmpi .ne (aHere L k) (aPrev L k)⟩)
      -∗ wp frame (wpE (defs₀ (F := F)) 𝒱₀ (thr d L) none) Set.univ (part1K (F := F) L k) Q) := by
  have hk : k.val < 34 := lt_of_lt_of_eq k.isLt trips_eq
  unfold part1K
  rw [k0_part1_eq_skeleton]
  unfold k0_part1_skel
  simp only [wp_bind]
  iintro H Hk
  iapply (assume_ok L (chk3_ok k))
  iapply (assume_ok L (chk2_ok k))
  iapply (assume_ok L (chk1_ok L k))
  unfold inSt
  by_cases h : k.val < 33
  · have hc : k0_cond1 L k (w (k.val % 34)) = 1#1 := (cond1_eq L k).trans (if_pos h)
    rw [dif_pos (show k.val + 1 < 34 by omega)]
    simp only [dif_pos hc, wp_bind, wp_pure]
    have e : min (k.val + 1) 34 = k.val + 1 := by omega
    have o4 := off4_eq ⟨min (k.val + 1) 34, by omega⟩
    have o6 := off6_eq ⟨min (k.val + 1) 34, by omega⟩
    have o5 := off5_blk L ⟨k.val, h⟩
    simp only [e] at o4 o6 o5
    iapply (fetch d L ix qi (k := k.val + 1) (by omega) (posB_eq (blk_lt' L (by omega)) o5 _) (iSlot_eq (by rw [e]; exact o4) _) (iSem_eq (by rw [e]; exact o6) _)) $$ H
    iintro H
    imodintro
    iapply Hk $$ H
  · have hc : ¬k0_cond1 L k (w (k.val % 34)) = 1#1 := by rw [(cond1_eq L k).trans (if_neg h)]; decide
    rw [dif_neg (show ¬(k.val + 1 < 34) by omega)]
    simp only [dif_neg hc, wp_pure]
    imodintro
    iapply Hk $$ H

abbrev part2K (k : Fin k0_t1_loop.trips) (a5 : BitVec 32) (a64 : BitVec 1) (a66 a71 : BitVec 32) (a96 : BitVec 1) :=
  k0_part2 (F := F) L ysV (Memref.isWhole_whole _) posV (Memref.isWhole_whole _) outV (Memref.isWhole_whole _)
    ibV (Memref.isWhole_whole _) cc0_scoped1 rbV (Memref.isWhole_whole _) cc0_scoped3 cc0_scoped4 cc0_scoped5 k
    (w (min (k.val + 1) 34)) (w k.val) (w k.val) (w (k.val - 1)) (w (k.val % 34)) (chk3_ok k) (chk2_ok k) (chk1_ok L k) a5 a64 a66 a71 a96

/-- The block's positions awaited and the left half of the columns copied. -/
theorem part2 (hix : ∀ j, (ix j).toNat < 155648) (k : Fin k0_t1_loop.trips) (hk : k.val < 34) (a5 : BitVec 32) (a64 : BitVec 1) (a66 a71 : BitVec 32) (a96 : BitVec 1)
    (f : Buf (Elt F) ((rSlot (par k.val)).view.loc (thr d L))) {Q : PUnit → sProp 𝕄} :
    iprop(Transfers.MayWaits (thr d L) (default : HIx 1) O ∗ ysAt d L ys q ∗ iBusy d L ix qi k.val hk ∗ hAt (F := F) d L (par k.val) 0 f
        ∗ semVal (thr d L, SemLoc.dma cc0_scoped4.sem) 0 ∗ Ow d L O W)
      ⊢ iprop((∀ fi, iprop(⌜∀ x, (iSlot (par k.val)).view.read (Elt F) fi x = (posB (blk L k.val) (blk_lt' L hk)).view.read (Elt F) ix x⌝
          ∗ ysAt d L ys q ∗ iAt (F := F) d L (par k.val) fi ∗ semVal (thr d L, SemLoc.dma (iSem (par k.val))) 0 ∗ posAt d L ix Finset.univ (qi (par k.val))
          ∗ hAt (F := F) d L (par k.val) 0 ((rHalf (par k.val) 0).view.write (Elt F) f (payH ys ix (blk L k.val) (blk_lt' L hk) 0) Finset.univ)
          ∗ semVal (thr d L, SemLoc.dma cc0_scoped4.sem) 0 ∗ Ow d L O W) -∗ Q ⟨⟩)
        -∗ wp frame (wpE (defs₀ (F := F)) 𝒱₀ (thr d L) none) Set.univ (part2K (F := F) L k a5 a64 a66 a71 a96) Q) := by
  unfold part2K
  rw [k0_part2_eq_skeleton]
  unfold k0_part2_skel
  have hc : k0_cond2 L k (w (k.val % 34)) = 1#1 := cond2_eq L k
  simp only [dif_pos hc, ite_self, wp_bind, wp_pure]
  have o7 := off7_eq ⟨k.val, by omega⟩
  have o9 := off9_eq ⟨k.val, by omega⟩
  have o10 := off10_eq ⟨k.val, by omega⟩
  have o11 := off11_eq ⟨k.val, by omega⟩
  iintro ⟨#Hmw, Hys, Hin, Hh, Hs4, HO⟩ Hk
  iapply (waitFetch d L ix qi O W hk (iSlot_eq o7 _) (iSem_eq o9 _)) $$ [Hin HO]
  · isplitl [Hin]; · iexact Hin
    isplitl [HO]; · iexact HO
    iexact Hmw
  iintro ⟨Hfull, Hsem, Hpos, HO⟩
  unfold iFull
  icases Hfull with ⟨%fi, %hfi, Hi⟩
  iapply (gatherHalf d L ys ix q O W hix (b := par k.val) (s := 0) (n := blk L k.val) (hn := blk_lt' L hk) (fi := fi) (f := f) yHalf_zero
    (congrArg (fun m : Memref sig .scVector .vmem S128x256 .i32 => m.slice (Rect.unit (s := S128x256) ![0, 0] S128x128.size inb_S128x256_S128x128_0_0) (fun _ => rfl)) (rSlot_eq o10 _))
    (congrArg (fun m : Memref sig .scVector .vmem S128x256 .i32 => m.slice (Rect.unit (s := S128x256) ![0, 0] S128x128.size inb_S128x256_S128x128_0_0) (fun _ => rfl)) (rSlot_eq o10 _))
    (congrArg (fun m : Memref sig .scVector .vmem S1x128 .i32 => (m.slice (Rect.unit (s := S1x128) ![0, 0] S1x128.size inb_S1x128_S1x128_0_0) (fun _ => rfl)).squeeze S128 squeezes_S1x128_S128) (iSlot_eq o11 _))
    hfi) $$ [Hys Hh Hi Hs4 HO]
  · isplitl [Hys]; · iexact Hys
    isplitl [Hh]; · iexact Hh
    isplitl [Hi]; · iexact Hi
    isplitl [Hs4]; · iexact Hs4
    isplitl [HO]; · iexact HO
    iexact Hmw
  iintro ⟨Hys, Hh, Hi, Hs4, HO⟩
  imodintro
  iapply Hk
  isplitr; · ipureintro; exact hfi
  isplitl [Hys]; · iexact Hys
  isplitl [Hi]; · iexact Hi
  isplitl [Hsem]; · iexact Hsem
  isplitl [Hpos]; · iexact Hpos
  isplitl [Hh]; · iexact Hh
  isplitl [Hs4]; · iexact Hs4
  iexact HO

abbrev part3K (k : Fin k0_t1_loop.trips) :=
  k0_part3 (F := F) L ysV (Memref.isWhole_whole _) posV (Memref.isWhole_whole _) outV (Memref.isWhole_whole _)
    ibV (Memref.isWhole_whole _) cc0_scoped1 rbV (Memref.isWhole_whole _) cc0_scoped3 cc0_scoped4 cc0_scoped5 k
    (w (min (k.val + 1) 34)) (w k.val) (w k.val) (w (k.val - 1)) (w (k.val % 34)) (chk3_ok k) (chk2_ok k) (chk1_ok L k)
    (aFirst k) (aLast k) (aHere L k) (aPrev L k) (aNext L k)

/-- The right half of the columns copied and the block's flush begun. -/
theorem part3 (hix : ∀ j, (ix j).toNat < 155648) (k : Fin k0_t1_loop.trips) (hk : k.val < 34)
    (f : Buf (Elt F) ((rSlot (par k.val)).view.loc (thr d L))) (fi : Buf (Elt F) ((iSlot (par k.val)).view.loc (thr d L)))
    (hfi : ∀ x, (iSlot (par k.val)).view.read (Elt F) fi x = (posB (blk L k.val) (blk_lt' L hk)).view.read (Elt F) ix x) {Q : _ → sProp 𝕄} :
    iprop(Transfers.MayWaits (thr d L) (default : HIx 1) O ∗ ysAt d L ys q ∗ iAt (F := F) d L (par k.val) fi
        ∗ hAt (F := F) d L (par k.val) 0 ((rHalf (par k.val) 0).view.write (Elt F) f (payH ys ix (blk L k.val) (blk_lt' L hk) 0) Finset.univ)
        ∗ hAt (F := F) d L (par k.val) 1 f ∗ rRest (F := F) d L (par k.val) f
        ∗ semVal (thr d L, SemLoc.dma cc0_scoped5.sem) 0 ∗ semVal (thr d L, SemLoc.dma (rSem (par k.val))) 0
        ∗ outAt d L (rowsSet (blk L k.val) (blk L k.val + 1)) fo ∗ Ow d L O W)
      ⊢ iprop((iprop(ysAt d L ys q ∗ iAt (F := F) d L (par k.val) fi ∗ rBusy d L ys ix k.val ∗ semVal (thr d L, SemLoc.dma cc0_scoped5.sem) 0 ∗ Ow d L O W)
            -∗ Q ⟨aWritten L k, aMoved L k, Scalar.extui (aMoved L k), 0#32⟩)
        -∗ wp frame (wpE (defs₀ (F := F)) 𝒱₀ (thr d L) none) Set.univ (part3K (F := F) L k) Q) := by
  unfold part3K
  rw [k0_part3_eq_skeleton]
  unfold k0_part3_skel
  have hc : k0_cond5 L k (w (k.val % 34)) = 1#1 := cond5_eq L k
  simp only [dif_pos hc, ite_self, wp_bind, wp_pure]
  have o10 := off10_eq ⟨k.val, by omega⟩
  have o11 := off11_eq ⟨k.val, by omega⟩
  have o12 := off12_eq ⟨k.val, by omega⟩
  have o14 := off14_eq ⟨k.val, by omega⟩
  have o13 := off13_blk L ⟨k.val, hk⟩
  iintro ⟨#Hmw, Hys, Hi, Hh0, Hh1, Hrest, Hs5, Hsem, Hout, HO⟩ Hk
  iapply (gatherHalf d L ys ix q O W hix (b := par k.val) (s := 1) (n := blk L k.val) (hn := blk_lt' L hk) (fi := fi) (f := f) yHalf_one
    (congrArg (fun m : Memref sig .scVector .vmem S128x256 .i32 => m.slice (Rect.unit (s := S128x256) ![0, 128] S128x128.size inb_S128x256_S128x128_0_128) (fun _ => rfl)) (rSlot_eq o10 _))
    (congrArg (fun m : Memref sig .scVector .vmem S128x256 .i32 => m.slice (Rect.unit (s := S128x256) ![0, 128] S128x128.size inb_S128x256_S128x128_0_128) (fun _ => rfl)) (rSlot_eq o10 _))
    (congrArg (fun m : Memref sig .scVector .vmem S1x128 .i32 => (m.slice (Rect.unit (s := S1x128) ![0, 0] S1x128.size inb_S1x128_S1x128_0_0) (fun _ => rfl)).squeeze S128 squeezes_S1x128_S128) (iSlot_eq o11 _))
    hfi) $$ [Hys Hh1 Hi Hs5 HO]
  · isplitl [Hys]; · iexact Hys
    isplitl [Hh1]; · iexact Hh1
    isplitl [Hi]; · iexact Hi
    isplitl [Hs5]; · iexact Hs5
    isplitl [HO]; · iexact HO
    iexact Hmw
  iintro ⟨Hys, Hh1, Hi, Hs5, HO⟩
  ihave Hfull := (rJoin d L ys ix (par k.val) (blk L k.val) (blk_lt' L hk) f) $$ [Hh0 Hh1 Hrest]
  · isplitl [Hh0]; · iexact Hh0
    isplitl [Hh1]; · iexact Hh1
    iexact Hrest
  iapply (flush d L ys ix (k := k.val) hk (rSlot_eq o12 _) (outB_eq (blk_lt' L hk) o13 _) (rSem_eq o14 _) (fo := fo)) $$ [Hfull Hsem Hout]
  · isplitl [Hfull]; · iexact Hfull
    isplitl [Hsem]; · iexact Hsem
    iexact Hout
  iintro Hb
  imodintro
  iapply Hk
  isplitl [Hys]; · iexact Hys
  isplitl [Hi]; · iexact Hi
  isplitl [Hb]; · iexact Hb
  isplitl [Hs5]; · iexact Hs5
  iexact HO

/-! ## One trip -/

/-- The loop body of one subcore. -/
abbrev bodyK (k : Fin k0_t1_loop.trips) (acc : BitVec 32 × BitVec 32 × BitVec 32 × BitVec 32 × BitVec 32) :=
  k0_t1_body (F := F) L ysV (Memref.isWhole_whole _) posV (Memref.isWhole_whole _) outV (Memref.isWhole_whole _)
    ibV (Memref.isWhole_whole _) cc0_scoped1 rbV (Memref.isWhole_whole _) cc0_scoped3 cc0_scoped4 cc0_scoped5 (base L) k acc

omit [FloatOps F] in
theorem outAt_union (a b c : ℕ) (hab : a ≤ b) (hbc : b ≤ c) (g : S139264x256.Idx → Elt F .i32) :
    (outAt (F := F) d L (rowsSet a c) g : sProp 𝕄) ⊣⊢ iprop(outAt (F := F) d L (rowsSet a b) g ∗ outAt (F := F) d L (rowsSet b c) g) := by
  have h := pointsTo_union (nD := nD) (τ := τ) (sig := sig) (Ix := HIx 1) (Val := Elt F) (Name := ℕ) (U := UU) (Lvl := ℕ) (ℓ := outV.view.loc (thr d L)) (q := fullShare) (f := g) (rowsSet_disjoint a c (le_refl b))
  rw [← rowsSet_union hab hbc]
  exact h

theorem trip (hix : ∀ j, (ix j).toNat < 155648) (k : Fin k0_t1_loop.trips) (acc : BitVec 32 × BitVec 32 × BitVec 32 × BitVec 32 × BitVec 32) :
    inv d L ys ix q qi fo O W k.val acc
      ⊢ wp frame (wpE (defs₀ (F := F)) 𝒱₀ (thr d L) none) Set.univ (bodyK (F := F) L k acc) (inv d L ys ix q qi fo O W (k.val + 1)) := by
  have hk : k.val < 34 := lt_of_lt_of_eq k.isLt trips_eq
  unfold inv
  iintro ⟨%hacc, #Hmw, Hys, Hin, Hii, Hri, Hout, HoG, HoF, Hs4, Hs5, HO⟩
  subst hacc
  unfold bodyK words k0_t1_body
  simp only [wp_bind]
  iapply (part1 d L ix qi k) $$ Hii
  iintro Hin'
  dsimp only
  ihave Hri := (show rIdle (F := F) d L (par k.val) ⊢ iprop((∃ f, rAt (F := F) d L (par k.val) f) ∗ semVal (thr d L, SemLoc.dma (rSem (par k.val))) 0) from .rfl) $$ Hri
  icases Hri with ⟨⟨%f, Hr⟩, Hrs⟩
  ihave Hr := (rSplit (F := F) d L (par k.val) f).1 $$ Hr
  icases Hr with ⟨Hh0, Hh1, Hrest⟩
  ihave Hin := (Entails.of_eq (show inSt d L ix qi k.val = iBusy d L ix qi k.val hk from dif_pos hk)) $$ Hin
  iapply (part2 d L ys ix q qi O W hix k hk _ _ _ _ _ f) $$ [Hys Hin Hh0 Hs4 HO]
  · isplitr; · iexact Hmw
    isplitl [Hys]; · iexact Hys
    isplitl [Hin]; · iexact Hin
    isplitl [Hh0]; · iexact Hh0
    isplitl [Hs4]; · iexact Hs4
    iexact HO
  iintro %fi ⟨%hfi, Hys, Hi, His, Hpos, Hh0, Hs4, HO⟩
  ihave HoF := (outAt_union (F := F) d L (blk L k.val) (blk L k.val + 1) (blk L 34) (by omega) (by unfold blk; omega) fo).1 $$ HoF
  icases HoF with ⟨Ho, HoF⟩
  iapply (part3 d L ys ix q fo O W hix k hk f fi hfi) $$ [Hys Hi Hh0 Hh1 Hrest Hs5 Hrs Ho HO]
  · isplitr; · iexact Hmw
    isplitl [Hys]; · iexact Hys
    isplitl [Hi]; · iexact Hi
    isplitl [Hh0]; · iexact Hh0
    isplitl [Hh1]; · iexact Hh1
    isplitl [Hrest]; · iexact Hrest
    isplitl [Hs5]; · iexact Hs5
    isplitl [Hrs]; · iexact Hrs
    isplitl [Ho]; · iexact Ho
    iexact HO
  iintro ⟨Hys, Hi, Hb, Hs5, HO⟩
  dsimp only
  simp only [ite_self, wp_bind, wp_pure]
  have hnext := next_words L k
  unfold words at hnext
  have hpar : par (k.val + 1 + 1) = par k.val := par_add_two _
  by_cases h0 : k.val = 0
  · have hc : ¬k0_cond7 L k (w (k.val % 34)) = 1#1 := by rw [(cond7_eq L k).trans (if_pos h0)]; decide
    simp only [dif_neg hc, wp_pure]
    imodintro
    isplitr; · ipureintro; exact hnext
    isplitr; · iexact Hmw
    isplitl [Hys]; · iexact Hys
    isplitl [Hin']; · iexact Hin'
    isplitl [Hi His Hpos]
    · rw [hpar]; unfold iIdle
      isplitl [Hi]; · iexists fi; iexact Hi
      isplitl [His]; · iexact His
      iexact Hpos
    isplitl [Hout]
    · iapply (Entails.of_eq (show outSt d L ys ix k.val = rIdle (F := F) d L (par (k.val + 1)) by rw [h0]; exact if_pos rfl)) $$ Hout
    isplitl [Hb]
    · iapply (Entails.of_eq (show rBusy d L ys ix k.val = outSt d L ys ix (k.val + 1) from (if_neg (Nat.succ_ne_zero _)).symm)) $$ Hb
    isplitl [HoG]
    · iapply (Entails.of_eq (show (outAt d L (rowsSet (blk L 0) (blk L (k.val - 1))) (G ys ix) : sProp 𝕄) = outAt d L (rowsSet (blk L 0) (blk L (k.val + 1 - 1))) (G ys ix) by rw [h0])) $$ HoG
    isplitl [HoF]; · iexact HoF
    isplitl [Hs4]; · iexact Hs4
    isplitl [Hs5]; · iexact Hs5
    iexact HO
  · have hc : k0_cond7 L k (w (k.val % 34)) = 1#1 := (cond7_eq L k).trans (if_neg h0)
    simp only [dif_pos hc, wp_bind, wp_pure]
    have o17 := off17_eq ⟨k.val - 1, by omega⟩
    have o16 := off16_blk L ⟨k.val - 1, by omega⟩
    have e1 : k.val - 1 + 1 = k.val := by omega
    simp only [e1] at o16
    ihave Hout := (Entails.of_eq (show outSt d L ys ix k.val = rBusy d L ys ix (k.val - 1) from if_neg h0)) $$ Hout
    iapply (waitFlush d L ys ix O W (outB_eq (blk_lt' L (by omega)) o16 _) (rSem_eq o17 _)) $$ [Hout HO]
    · isplitl [Hout]; · iexact Hout
      isplitl [HO]; · iexact HO
      iexact Hmw
    iintro ⟨HoN, Hri, HO⟩
    imodintro
    isplitr; · ipureintro; exact hnext
    isplitr; · iexact Hmw
    isplitl [Hys]; · iexact Hys
    isplitl [Hin']; · iexact Hin'
    isplitl [Hi His Hpos]
    · rw [hpar]; unfold iIdle
      isplitl [Hi]; · iexists fi; iexact Hi
      isplitl [His]; · iexact His
      iexact Hpos
    isplitl [Hri]
    · rw [show par (k.val + 1) = par (k.val - 1) from (congrArg par (show k.val + 1 = k.val - 1 + 2 by omega)).trans (par_add_two _)]
      iexact Hri
    isplitl [Hb]
    · iapply (Entails.of_eq (show rBusy d L ys ix k.val = outSt d L ys ix (k.val + 1) from (if_neg (Nat.succ_ne_zero _)).symm)) $$ Hb
    isplitl [HoG HoN]
    · iapply (outAt_union (F := F) d L (blk L 0) (blk L (k.val - 1)) (blk L (k.val + 1 - 1)) (by unfold blk; omega) (by unfold blk; omega) (G ys ix)).2
      isplitl [HoG]; · iexact HoG
      rw [show blk L (k.val + 1 - 1) = blk L (k.val - 1) + 1 by unfold blk; omega]
      iexact HoN
    isplitl [HoF]; · iexact HoF
    isplitl [Hs4]; · iexact Hs4
    isplitl [Hs5]; · iexact Hs5
    iexact HO

end Cert.Proof.Gather

end
-- ==== Proof.Whole.lean ====
/-
  One subcore's whole run: the first fetch, the 34 trips, the last flush awaited; and the same from the buffers and
  semaphores a subcore is handed at its start.
-/
module

public import proofs.«01_k».proof.Proof.Body

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (ys : S155648x256.Idx → Elt F .i32) (ix : S1x139264.Idx → Elt F .i32) (q : PosShare TreeShare) (qi : Fin 2 → PosShare TreeShare)
variable (fo : S139264x256.Idx → Elt F .i32)
variable [FloatOps F]
variable (O : CellTallies nD τ sig (HIx 1)) (W : Waits sig (HIx 1))

/-- The whole body on one subcore. -/
theorem run (hix : ∀ j, (ix j).toNat < 155648) :
    iprop(Transfers.MayWaits (thr d L) (default : HIx 1) O ∗ ysAt d L ys q ∗ iIdle d L ix qi 0 ∗ iIdle d L ix qi 1
        ∗ rIdle (F := F) d L 0 ∗ rIdle (F := F) d L 1 ∗ outAt d L (rowsSet (blk L 0) (blk L 34)) fo
        ∗ semVal (thr d L, SemLoc.dma cc0_scoped4.sem) 0 ∗ semVal (thr d L, SemLoc.dma cc0_scoped5.sem) 0 ∗ Ow d L O W)
      ⊢ wp frame (wpE (defs₀ (F := F)) 𝒱₀ (thr d L) none) Set.univ
          (cc0_gather_kernel (F := F) L ysV (Memref.isWhole_whole _) posV (Memref.isWhole_whole _) outV (Memref.isWhole_whole _)
            ibV (Memref.isWhole_whole _) cc0_scoped1 rbV (Memref.isWhole_whole _) cc0_scoped3 cc0_scoped4 cc0_scoped5)
          fun _ => iprop(ysAt d L ys q ∗ iIdle d L ix qi 0 ∗ iIdle d L ix qi 1
            ∗ rIdle (F := F) d L 0 ∗ rIdle (F := F) d L 1 ∗ outAt d L (rowsSet (blk L 0) (blk L 34)) (G ys ix)
            ∗ semVal (thr d L, SemLoc.dma cc0_scoped4.sem) 0 ∗ semVal (thr d L, SemLoc.dma cc0_scoped5.sem) 0 ∗ Ow d L O W) := by
  have h34 : 0 < 34 := by decide
  rw [cc0_gather_kernel_eq_skeleton]
  unfold cc0_gather_kernel_skel
  rw [k0_part4_eq_skeleton, k0_part5_eq_skeleton]
  unfold k0_part4_skel k0_part5_skel
  simp only [wp_bind, wp_pure]
  iintro ⟨#Hmw, Hys, Hi0, Hi1, Hr0, Hr1, Ho, Hs4, Hs5, HO⟩
  ihave Hi0 := (Entails.of_eq (show iIdle d L ix qi 0 = iIdle d L ix qi (par 0) from rfl)) $$ Hi0
  iapply (fetch d L ix qi (k := 0) (by omega) (posB_eq (blk_lt' L (by omega)) (off2_blk L) _) (iSlot_eq off1_eq _) (iSem_eq off3_eq _)) $$ Hi0
  iintro Hin
  imodintro
  iapply (Scf.wp_for frame (wpE (defs₀ (F := F)) 𝒱₀ (thr d L) none) Set.univ _ _ _ _ _ _ (inv d L ys ix q qi fo O W) (trip d L ys ix q qi fo O W hix))
  isplitr []
  · unfold inv
    isplitr; · ipureintro; decide
    isplitr; · iexact Hmw
    isplitl [Hys]; · iexact Hys
    isplitl [Hin]; · iapply (Entails.of_eq (show inSt d L ix qi 0 = iBusy d L ix qi 0 h34 from dif_pos h34).symm) $$ Hin
    isplitl [Hi1]; · iexact Hi1
    isplitl [Hr0]; · iexact Hr0
    isplitl [Hr1]; · iapply (Entails.of_eq (show rIdle (F := F) d L 1 = outSt d L ys ix 0 from (if_pos rfl).symm)) $$ Hr1
    isplitr
    · rw [show rowsSet (blk L 0) (blk L (0 - 1)) = ∅ from rowsSet_empty _]
      iapply (Entails.of_eq (pointsTo_empty (ℓ := outV.view.loc (thr d L)) (q := fullShare) (f := G ys ix)).symm)
      iempintro
    isplitl [Ho]; · iexact Ho
    isplitl [Hs4]; · iexact Hs4
    isplitl [Hs5]; · iexact Hs5
    iexact HO
  iintro %acc Hinv
  ihave Hinv := (Entails.of_eq (show inv d L ys ix q qi fo O W (Scf.trips _ _ _) acc = inv d L ys ix q qi fo O W 34 acc from congrArg (fun n => inv d L ys ix q qi fo O W n acc) trips_eq)) $$ Hinv
  unfold inv
  icases Hinv with ⟨%hacc, -, Hys, Hin, Hi1, Hr0, Hout, HoG, HoF, Hs4, Hs5, HO⟩
  subst hacc
  unfold words
  dsimp only
  iapply (assume_ok L (chk5_ok L))
  iapply (assume_ok L chk4_ok)
  imodintro
  ihave Hout := (Entails.of_eq (show outSt d L ys ix 34 = rBusy d L ys ix 33 from if_neg (by decide))) $$ Hout
  have o20 := off20_eq ⟨33, by omega⟩
  iapply (waitFlush d L ys ix O W (outB_eq (blk_lt' L (k := 33) (by omega)) (off19_blk L) _) (rSem_eq o20 _)) $$ [Hout HO]
  · isplitl [Hout]; · iexact Hout
    isplitl [HO]; · iexact HO
    iexact Hmw
  iintro ⟨HoN, Hr1, HO⟩
  imodintro
  isplitl [Hys]; · iexact Hys
  isplitl [Hin]; · iapply (Entails.of_eq (show inSt d L ix qi 34 = iIdle d L ix qi 0 from dif_neg (by decide))) $$ Hin
  isplitl [Hi1]; · iexact Hi1
  isplitl [Hr0]; · iexact Hr0
  isplitl [Hr1]; · iexact Hr1
  isplitl [HoG HoN]
  · iapply (outAt_union (F := F) d L (blk L 0) (blk L 33) (blk L 34) (by unfold blk; omega) (by unfold blk; omega) (G ys ix)).2
    isplitl [HoG]; · iexact HoG
    rw [show blk L 34 = blk L 33 + 1 by unfold blk; omega]
    iexact HoN
  isplitl [Hs4]; · iexact Hs4
  isplitl [Hs5]; · iexact Hs5
  iexact HO

/-! ## What a subcore is handed: its two scratch buffers whole, its six transfer semaphores at zero -/

omit [FloatOps F] in
theorem iSlots_disjoint : Disjoint (iSlot 0).view.set (iSlot 1).view.set := by
  show Disjoint (((ibV.view.slice (Rect.unit (s := S2x1x128) ![0, 0, 0] S1x1x128.size (inb_i 0))).reshape S1x128 squeezes_S1x1x128_S1x128.numel_eq).set)
    (((ibV.view.slice (Rect.unit (s := S2x1x128) ![1, 0, 0] S1x1x128.size (inb_i 1))).reshape S1x128 squeezes_S1x1x128_S1x128.numel_eq).set)
  rw [View.set_reshape, View.set_reshape]
  exact View.disjoint_slice (Rect.disjoint_of_separated _ _ (0 : Fin 3) (.inl (.inr (by decide))))
omit [FloatOps F] in
theorem rSlots_disjoint : Disjoint (rSlot 0).view.set (rSlot 1).view.set := by
  show Disjoint (((rbV.view.slice (Rect.unit (s := S2x128x256) ![0, 0, 0] S1x128x256.size (inb_r 0))).reshape S128x256 squeezes_S1x128x256_S128x256.numel_eq).set)
    (((rbV.view.slice (Rect.unit (s := S2x128x256) ![1, 0, 0] S1x128x256.size (inb_r 1))).reshape S128x256 squeezes_S1x128x256_S128x256.numel_eq).set)
  rw [View.set_reshape, View.set_reshape]
  exact View.disjoint_slice (Rect.disjoint_of_separated _ _ (0 : Fin 3) (.inl (.inr (by decide))))

omit [FloatOps F] in
/-- A buffer cut into two disjoint parts and the rest. -/
theorem cut {ℓ : Loc nD τ sig} {A B : Finset (Idx ℓ)} (h : Disjoint A B) (f : Buf (Elt F) ℓ) :
    (ℓ ↦{fullShare} f : sProp 𝕄) ⊢ iprop((ℓ ↦[A]{fullShare} f) ∗ (ℓ ↦[B]{fullShare} f) ∗ ℓ ↦[(Finset.univ \ A) \ B]{fullShare} f) := by
  iintro H
  ihave H := (pointsTo_split_subset (q := fullShare) (f := f) (S := Finset.univ) (Finset.subset_univ A)).1 $$ H
  icases H with ⟨HA, H⟩
  ihave H := (pointsTo_split_subset (q := fullShare) (f := f) (Finset.subset_sdiff.mpr ⟨Finset.subset_univ B, h.symm⟩)).1 $$ H
  icases H with ⟨HB, H⟩
  isplitl [HA]; · iexact HA
  isplitl [HB]; · iexact HB
  iexact H

omit [FloatOps F] in
/-- The parts, whatever they hold, put together again. -/
theorem mend {ℓ : Loc nD τ sig} {A B : Finset (Idx ℓ)} (h : Disjoint A B) (f g e : Buf (Elt F) ℓ) :
    iprop((ℓ ↦[A]{fullShare} f) ∗ (ℓ ↦[B]{fullShare} g) ∗ ℓ ↦[(Finset.univ \ A) \ B]{fullShare} e) ⊢ (iprop(∃ f, ℓ ↦{fullShare} f) : sProp 𝕄) := by
  have hB : B ⊆ Finset.univ \ A := Finset.subset_sdiff.mpr ⟨Finset.subset_univ B, h.symm⟩
  iintro ⟨HA, HB, HC⟩
  ihave H := (pointsTo_join (q := fullShare) (f := g) (g := e) (Finset.disjoint_sdiff (s := B) (t := Finset.univ \ A))) $$ [HB HC]
  · isplitl [HB]; · iexact HB
    iexact HC
  rw [Finset.union_sdiff_of_subset hB]
  ihave H := (pointsTo_join (q := fullShare) (f := f) (Finset.disjoint_sdiff (s := A) (t := Finset.univ))) $$ [HA H]
  · isplitl [HA]; · iexact HA
    iexact H
  rw [Finset.union_sdiff_of_subset (Finset.subset_univ A)]
  iexists _; iexact H

abbrev cell (s : DmaSem sig) : GSem nD τ sig := (thr d L, SemLoc.dma s)

omit [FloatOps F] in
theorem mem_cell (s : DmaSem sig) : cell d L s ∈ ownCells (thr d L) :=
  mem_ownCells.mpr ⟨rfl, by show (SemLoc.dma s : SemLoc sig).isScoped .scVector = true; revert s; decide⟩
omit [FloatOps F] in
theorem cell_ne {s t : DmaSem sig} (h : s ≠ t) : cell d L s ≠ cell d L t :=
  fun e => h (by have := congrArg Prod.snd e; exact SemLoc.dma.inj this)

omit [FloatOps F] in
theorem ownSems0_V :
    (ownSems0 (thr d L) : sProp 𝕄)
      = iprop(semVal (cell d L (iSem 0)) 0 ∗ semVal (cell d L (iSem 1)) 0 ∗ semVal (cell d L (rSem 0)) 0 ∗ semVal (cell d L (rSem 1)) 0
          ∗ semVal (cell d L cc0_scoped4.sem) 0 ∗ semVal (cell d L cc0_scoped5.sem) 0
          ∗ bigSep (((((((ownCells (thr d L)).erase (cell d L (iSem 0))).erase (cell d L (iSem 1))).erase (cell d L (rSem 0))).erase (cell d L (rSem 1))).erase
              (cell d L cc0_scoped4.sem)).erase (cell d L cc0_scoped5.sem)) fun g => semVal g 0) := by
  unfold SparseCore.Cfg.ownSems0
  rw [SparseCore.bigSep_erase' (mem_cell d L (iSem 0)),
    SparseCore.bigSep_erase' (i := cell d L (iSem 1)) (by
      simp only [Finset.mem_erase]; exact ⟨cell_ne d L (by decide), mem_cell d L _⟩),
    SparseCore.bigSep_erase' (i := cell d L (rSem 0)) (by
      simp only [Finset.mem_erase]; exact ⟨cell_ne d L (by decide), cell_ne d L (by decide), mem_cell d L _⟩),
    SparseCore.bigSep_erase' (i := cell d L (rSem 1)) (by
      simp only [Finset.mem_erase]; exact ⟨cell_ne d L (by decide), cell_ne d L (by decide), cell_ne d L (by decide), mem_cell d L _⟩),
    SparseCore.bigSep_erase' (i := cell d L cc0_scoped4.sem) (by
      simp only [Finset.mem_erase]; exact ⟨cell_ne d L (by decide), cell_ne d L (by decide), cell_ne d L (by decide), cell_ne d L (by decide), mem_cell d L _⟩),
    SparseCore.bigSep_erase' (i := cell d L cc0_scoped5.sem) (by
      simp only [Finset.mem_erase]
      exact ⟨cell_ne d L (by decide), cell_ne d L (by decide), cell_ne d L (by decide), cell_ne d L (by decide), cell_ne d L (by decide), mem_cell d L _⟩)]

omit [FloatOps F] in
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

abbrev ΛP : Labels := Pipeline.Sig Λ₀ (Fin 0) fun p => (pcfgs (F := F) p).Adm
abbrev K : SparseCore.Cfg τ sig (ΛP (F := F)) 1 := sc (F := F)

/-- The body from what the launch hands a subcore: shares of the table and of the positions, its rows of the result. -/
theorem tile_body (hF : (K (F := F)).Facts) (hix : ∀ j, (ix j).toNat < 155648) (hO : ∀ g, O g none = 0) (p : PosShare TreeShare) :
    iprop(levAts (K (F := F)).L (K (F := F)).lev ∗ emp
        ∗ (ysAt d L ys q ∗ posAt d L ix Finset.univ p ∗ outAt d L (rowsSet (blk L 0) (blk L 34)) fo)
        ∗ scopedBufs (thr d L) ∗ scopedSems0 (thr d L) ∗ owes (thr d L) O W)
      ⊢ wp frame (wpE (defs₀ (F := F)) 𝒱₀ (thr d L) none) Set.univ
          (cc0_gather_kernel (F := F) L ysV (Memref.isWhole_whole _) posV (Memref.isWhole_whole _) outV (Memref.isWhole_whole _)
            ibV (Memref.isWhole_whole _) cc0_scoped1 rbV (Memref.isWhole_whole _) cc0_scoped3 cc0_scoped4 cc0_scoped5)
          fun _ => iprop((ysAt d L ys q ∗ posAt d L ix Finset.univ p ∗ outAt d L (rowsSet (blk L 0) (blk L 34)) (G ys ix))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hy, Hp, Ho⟩, ⟨⟨%fi, Hi⟩, ⟨%fr, Hr⟩, Hbufs⟩, ⟨Hs0, Hs1, Hs2, Hs3, Hs4, Hs5, Hsems⟩, HO⟩
  ihave #Hmw := (show levAts (K (F := F)).L (K (F := F)).lev ⊢ Transfers.MayWaits (thr d L) (default : HIx 1) O from
    (K (F := F)).mayWaits_none (thr := thr d L) hO) $$ Hlv
  ihave Hi := (cut (F := F) (ℓ := (thr d L).loc cc0_scoped0) (A := (iSlot 0).view.set) (B := (iSlot 1).view.set) iSlots_disjoint fi) $$ Hi
  icases Hi with ⟨Hi0, Hi1, Hie⟩
  ihave Hr := (cut (F := F) (ℓ := (thr d L).loc cc0_scoped2) (A := (rSlot 0).view.set) (B := (rSlot 1).view.set) rSlots_disjoint fr) $$ Hr
  icases Hr with ⟨Hr0, Hr1, Hre⟩
  ihave Hp := (pointsTo_share (ℓ := posV.view.loc (thr d L)) (I := Finset.univ) (f := ix) (PosShare.mem_left_op_right p)).1 $$ Hp
  icases Hp with ⟨Hp0, Hp1⟩
  iapply ((run d L ys ix q ![p.left, p.right] fo O W hix).trans (wp_wand frame (wpE (defs₀ (F := F)) 𝒱₀ (thr d L) none) Set.univ)) $$ [Hy Hp0 Hp1 Ho Hi0 Hi1 Hr0 Hr1 Hs0 Hs1 Hs2 Hs3 Hs4 Hs5 HO]
  · unfold iIdle rIdle Ow
    isplitr; · iexact Hmw
    isplitl [Hy]; · iexact Hy
    isplitl [Hi0 Hs0 Hp0]
    · isplitl [Hi0]; · iexists fi; iexact Hi0
      isplitl [Hs0]; · iexact Hs0
      iexact Hp0
    isplitl [Hi1 Hs1 Hp1]
    · isplitl [Hi1]; · iexists fi; iexact Hi1
      isplitl [Hs1]; · iexact Hs1
      iexact Hp1
    isplitl [Hr0 Hs2]
    · isplitl [Hr0]; · iexists fr; iexact Hr0
      iexact Hs2
    isplitl [Hr1 Hs3]
    · isplitl [Hr1]; · iexists fr; iexact Hr1
      iexact Hs3
    isplitl [Ho]; · iexact Ho
    isplitl [Hs4]; · iexact Hs4
    isplitl [Hs5]; · iexact Hs5
    iexists W
    isplitr; · ipureintro; exact fun p hp => .inl hp
    iexact HO
  iintro %_ ⟨Hy, Hi0, Hi1, Hr0, Hr1, Ho, Hs4, Hs5, HO⟩
  ihave Hi0 := (show iIdle d L ix ![p.left, p.right] 0 ⊢ iprop((∃ f, iAt (F := F) d L 0 f) ∗ semVal (cell d L (iSem 0)) 0 ∗ posAt d L ix Finset.univ p.left) from .rfl) $$ Hi0
  icases Hi0 with ⟨⟨%f0, Hi0⟩, Hs0, Hp0⟩
  ihave Hi1 := (show iIdle d L ix ![p.left, p.right] 1 ⊢ iprop((∃ f, iAt (F := F) d L 1 f) ∗ semVal (cell d L (iSem 1)) 0 ∗ posAt d L ix Finset.univ p.right) from .rfl) $$ Hi1
  icases Hi1 with ⟨⟨%f1, Hi1⟩, Hs1, Hp1⟩
  ihave Hr0 := (show rIdle (F := F) d L 0 ⊢ iprop((∃ f, rAt (F := F) d L 0 f) ∗ semVal (cell d L (rSem 0)) 0) from .rfl) $$ Hr0
  icases Hr0 with ⟨⟨%g0, Hr0⟩, Hs2⟩
  ihave Hr1 := (show rIdle (F := F) d L 1 ⊢ iprop((∃ f, rAt (F := F) d L 1 f) ∗ semVal (cell d L (rSem 1)) 0) from .rfl) $$ Hr1
  icases Hr1 with ⟨⟨%g1, Hr1⟩, Hs3⟩
  isplitl [Hy Hp0 Hp1 Ho]
  · isplitl [Hy]; · iexact Hy
    isplitl [Hp0 Hp1]
    · iapply (pointsTo_share (ℓ := posV.view.loc (thr d L)) (I := Finset.univ) (f := ix) (PosShare.mem_left_op_right p)).2
      isplitl [Hp0]; · iexact Hp0
      iexact Hp1
    iexact Ho
  isplitl [Hi0 Hi1 Hie Hr0 Hr1 Hre Hbufs]
  · isplitl [Hi0 Hi1 Hie]
    · iapply (mend (F := F) (ℓ := (thr d L).loc cc0_scoped0) (A := (iSlot 0).view.set) (B := (iSlot 1).view.set) iSlots_disjoint f0 f1 fi)
      isplitl [Hi0]; · iexact Hi0
      isplitl [Hi1]; · iexact Hi1
      iexact Hie
    isplitl [Hr0 Hr1 Hre]
    · iapply (mend (F := F) (ℓ := (thr d L).loc cc0_scoped2) (A := (rSlot 0).view.set) (B := (rSlot 1).view.set) rSlots_disjoint g0 g1 fr)
      isplitl [Hr0]; · iexact Hr0
      isplitl [Hr1]; · iexact Hr1
      iexact Hre
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  ihave HO := (show Ow d L O W ⊢ iprop(∃ W', ⌜∀ p ∈ W', p ∈ W ∨ p.2 = none⌝ ∗ owes (thr d L) O W') from .rfl) $$ HO
  iexact HO

end Cert.Proof.Gather

end
-- ==== Proof.Launch.lean ====
/-
  The launch: the one call's operands cut over two SparseCores and their sixteen subcores each, the subcores' runs, the
  reshapes around the call, and what memory holds when every thread has returned.
-/
module

public import proofs.«01_k».proof.Proof.Whole

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The program as the launch theorem sees it -/

theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Memory: the table, the positions as given, the positions in one row, the result in rows, the result -/

variable (m : (ℓ : Loc nD τ sig) → Buf (Elt F) ℓ) (ρ : Dev nD → PrngReg)

abbrev yLoc (d : Dev nD) : Loc nD τ sig := (SparseCore.T d).loc main_arg0
abbrev pLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev Y (d : Dev nD) : S155648x256.Idx → Elt F .i32 := m (yLoc d)
/-- The positions laid out in one row. -/
def X (d : Dev nD) : S1x139264.Idx → Elt F .i32 := shapeCast S1x139264 (m (pLoc d) : S4x34816.Idx → Elt F .i32) shapeCasts_S4x34816_S1x139264
/-- The rows gathered. -/
abbrev GR (d : Dev nD) : S139264x256.Idx → Elt F .i32 := G (Y m d) (X m d)
/-- The result: the rows gathered, grouped by the positions' rows. -/
def Rv (d : Dev nD) : S4x34816x256.Idx → Elt F .i32 := shapeCast S4x34816x256 (GR m d) shapeCasts_S139264x256_S4x34816x256

/-- What the run asks of the launch memory: every position names a row of the table. -/
def PreOK : Prop := ∀ (d : Dev nD) (j : S4x34816.Idx), ((m (pLoc d) : S4x34816.Idx → Elt F .i32) j).toNat < 155648

theorem X_lt (h : PreOK m) (d : Dev nD) (j : S1x139264.Idx) : (X m d j).toNat < 155648 := h d _

/-! ## The cuts -/

/-- The rows SparseCore `c` writes, and subcore `i` of it. -/
abbrev cRows (c : Fin 2) : Finset S139264x256.Idx := rowsSet (544 * c.val) (544 * c.val + 544)
abbrev tRows (c : Fin 2) (i : Fin 16) : Finset S139264x256.Idx := rowsSet (34 * (16 * c.val + i.val)) (34 * (16 * c.val + i.val) + 34)
/-- The shares they read at. -/
abbrev cq (c : Fin 2) : PosShare TreeShare := ShareLeaves.leaf 1 fullShare c
abbrev tq (c : Fin 2) (i : Fin 16) : PosShare TreeShare := ShareLeaves.leaf 4 (cq c) i

theorem cRows_disjoint : ∀ c ∈ (Finset.univ : Finset (Fin 2)), ∀ c' ∈ (Finset.univ : Finset (Fin 2)), c ≠ c' → Disjoint (cRows c) (cRows c') := by
  intro c _ c' _ h
  have h' : c.val ≠ c'.val := fun e => h (Fin.ext e)
  rw [Finset.disjoint_left]; intro j; simp only [mem_rowsSet]; omega
theorem cRows_cover : (Finset.univ : Finset (Fin 2)).biUnion cRows = Finset.univ := by
  ext j
  simp only [Finset.mem_biUnion, Finset.mem_univ, true_and, iff_true, mem_rowsSet]
  have hj : (j 0).val < 139264 := idx2_lt0 j
  exact ⟨⟨(j 0).val / 69632, by omega⟩, by dsimp only; omega, by dsimp only; omega⟩
theorem tRows_disjoint (c : Fin 2) : ∀ i ∈ (Finset.univ : Finset (Fin 16)), ∀ i' ∈ (Finset.univ : Finset (Fin 16)), i ≠ i' → Disjoint (tRows c i) (tRows c i') := by
  intro i _ i' _ h
  have h' : i.val ≠ i'.val := fun e => h (Fin.ext e)
  rw [Finset.disjoint_left]; intro j; simp only [mem_rowsSet]; omega
theorem tRows_cover (c : Fin 2) : (Finset.univ : Finset (Fin 16)).biUnion (tRows c) = cRows c := by
  ext j
  simp only [Finset.mem_biUnion, Finset.mem_univ, true_and, mem_rowsSet]
  constructor
  · rintro ⟨i, h⟩; have := i.isLt; omega
  · intro h
    exact ⟨⟨((j 0).val - 69632 * c.val) / 4352, by omega⟩, by dsimp only; omega, by dsimp only; omega⟩

variable [FloatOps F]

abbrev yAt (d : Dev nD) (q : PosShare TreeShare) : sProp 𝕄 := yLoc d ↦{q} Y m d
abbrev xAt (d : Dev nD) (q : PosShare TreeShare) : sProp 𝕄 := xLoc d ↦{q} X m d
abbrev oAt (d : Dev nD) (I : Finset S139264x256.Idx) (f : S139264x256.Idx → Elt F .i32) : sProp 𝕄 := oLoc d ↦[I]{fullShare} f

theorem yAt_cores (d : Dev nD) : (yAt m d fullShare : sProp 𝕄) = bigSep Finset.univ fun c : Fin 2 => yAt m d (cq c) :=
  ShareLeaves.pointsTo_leaves Finset.univ _ 1 fullShare
theorem xAt_cores (d : Dev nD) : (xAt m d fullShare : sProp 𝕄) = bigSep Finset.univ fun c : Fin 2 => xAt m d (cq c) :=
  ShareLeaves.pointsTo_leaves Finset.univ _ 1 fullShare
theorem yAt_tiles (d : Dev nD) (c : Fin 2) : (yAt m d (cq c) : sProp 𝕄) = bigSep Finset.univ fun i : Fin 16 => yAt m d (tq c i) :=
  ShareLeaves.pointsTo_leaves Finset.univ _ 4 (cq c)
theorem xAt_tiles (d : Dev nD) (c : Fin 2) : (xAt m d (cq c) : sProp 𝕄) = bigSep Finset.univ fun i : Fin 16 => xAt m d (tq c i) :=
  ShareLeaves.pointsTo_leaves Finset.univ _ 4 (cq c)
omit [FloatOps F] in
theorem oAt_cores (d : Dev nD) (f : S139264x256.Idx → Elt F .i32) : (oAt d Finset.univ f : sProp 𝕄) = bigSep Finset.univ fun c : Fin 2 => oAt d (cRows c) f := by
  rw [← pointsTo_biUnion Finset.univ (ℓ := oLoc d) cRows cRows_disjoint, cRows_cover]
omit [FloatOps F] in
theorem oAt_tiles (d : Dev nD) (c : Fin 2) (f : S139264x256.Idx → Elt F .i32) : (oAt d (cRows c) f : sProp 𝕄) = bigSep Finset.univ fun i : Fin 16 => oAt d (tRows c i) f := by
  rw [← pointsTo_biUnion Finset.univ (ℓ := oLoc d) (tRows c) (tRows_disjoint c), tRows_cover]

/-! ## What the handshakes carry -/

abbrev stC (d : Dev nD) (c : Fin 2) (f : S139264x256.Idx → Elt F .i32) : sProp 𝕄 := iprop(yAt m d (cq c) ∗ xAt m d (cq c) ∗ oAt d (cRows c) f)
abbrev stT (d : Dev nD) (c : Fin 2) (i : Fin 16) (f : S139264x256.Idx → Elt F .i32) : sProp 𝕄 :=
  iprop(yAt m d (tq c i) ∗ xAt m d (tq c i) ∗ oAt d (tRows c i) f)

/-- The call's operands in `P`'s places: a core's, a subcore's; the result's rows at what memory held, then gathered. -/
def P : (K (F := F)).Pay (nD := nD) (Val := Elt F) (Name := ℕ) (U := UU) where
  st := fun q d c => match q with | 0 => stC m d (Fin.cast nCore_zero c) (m (oLoc d))
  dn := fun q d c => match q with | 0 => stC m d (Fin.cast nCore_zero c) (GR m d)
  go := fun q d c i => match q with | 0 => stT m d (Fin.cast nCore_zero c) (Fin.cast nSub_zero i) (m (oLoc d))
  td := fun q d c i => match q with | 0 => stT m d (Fin.cast nCore_zero c) (Fin.cast nSub_zero i) (GR m d)
  x := fun _ _ => iprop(emp)

instance P_storable : (P (F := F) m).IsStorable where
  st q d c := match q with
    | 0 => (inferInstance : BI.Storable (upEmb : UEmb _ 𝕄) (stC m d (Fin.cast nCore_zero c) (m (oLoc d))))
  dn q d c := match q with
    | 0 => (inferInstance : BI.Storable (upEmb : UEmb _ 𝕄) (stC m d (Fin.cast nCore_zero c) (GR m d)))
  go q d c i := match q with
    | 0 => (inferInstance : BI.Storable (upEmb : UEmb _ 𝕄) (stT m d (Fin.cast nCore_zero c) (Fin.cast nSub_zero i) (m (oLoc d))))
  td q d c i := match q with
    | 0 => (inferInstance : BI.Storable (upEmb : UEmb _ 𝕄) (stT m d (Fin.cast nCore_zero c) (Fin.cast nSub_zero i) (GR m d)))

/-! ## The subcores' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          ysV (Memref.isWhole_whole _) posV (Memref.isWhole_whole _) outV (Memref.isWhole_whole _)
          ibV (Memref.isWhole_whole _) cc0_scoped1 rbV (Memref.isWhole_whole _) cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Y m d) (X m d) (tq (Fin.cast nCore_zero c) (Fin.cast nSub_zero i)) (m (oLoc d)) O W facts (X_lt m hpre d) hO
    (tq (Fin.cast nCore_zero c) (Fin.cast nSub_zero i))).trans (wp_mono frame _ _ fun _ => obl_post)

/-! ## The split over the subcores -/

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem stC_tiles (d : Dev nD) (c : Fin 2) (f : S139264x256.Idx → Elt F .i32) :
    (stC m d c f : sProp 𝕄) = bigSep Finset.univ fun i : Fin 16 => stT m d c i f := by
  rw [bigSep_sep', bigSep_sep', ← yAt_tiles, ← xAt_tiles, ← oAt_tiles]

theorem stC_cores (d : Dev nD) (f : S139264x256.Idx → Elt F .i32) :
    (bigSep Finset.univ fun c : Fin 2 => stC m d c f) = (iprop(yAt m d fullShare ∗ xAt m d fullShare ∗ oAt d Finset.univ f) : sProp 𝕄) := by
  rw [bigSep_sep', bigSep_sep', ← yAt_cores, ← xAt_cores, ← oAt_cores]

theorem vecSplit : (K (F := F)).VecSplit' (P m) 0 := by
  intro d c
  show stC m d (Fin.cast nCore_zero c) (m (oLoc d)) ⊢ |={Set.univ}=> iprop(
      (bigSep Finset.univ fun i : Fin ((K (F := F)).nSub 0) => stT m d (Fin.cast nCore_zero c) (Fin.cast nSub_zero i) (m (oLoc d)))
      ∗ ((bigSep Finset.univ fun i : Fin ((K (F := F)).nSub 0) => stT m d (Fin.cast nCore_zero c) (Fin.cast nSub_zero i) (GR m d))
          -∗ stC m d (Fin.cast nCore_zero c) (GR m d)))
  rw [bigSep_tiles (F := F) (fun i => stT m d (Fin.cast nCore_zero c) i (m (oLoc d))), bigSep_tiles (F := F) (fun i => stT m d (Fin.cast nCore_zero c) i (GR m d)),
    ← stC_tiles, ← stC_tiles]
  iintro H; imodintro
  isplitl [H]; · iexact H
  iintro H
  iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev y' : DevRef τ sig := Proc.devRef .tc (main_arg0 : Ref sig .tc)
abbrev p' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opX : HloOp τ sig (Elt F) := StableHlo.reshape main_arg1 main_v0 (rfl : (.i32 : EltTy) = .i32) shapeCasts_S4x34816_S1x139264
abbrev opR : HloOp τ sig (Elt F) := StableHlo.reshape main_v1 main_v2 (rfl : (.i32 : EltTy) = .i32) shapeCasts_S139264x256_S4x34816x256

abbrev S5 : Finset (DevRef τ sig) := {y', p', x', o', r'}

omit [FloatOps F] in
theorem held_S5 (d : Dev nD) (W : Valuation τ sig (Elt F)) :
    (held (T d) S5 W : sProp 𝕄)
      = iprop((yLoc d ↦{fullShare} W y') ∗ (pLoc d ↦{fullShare} W p') ∗ (xLoc d ↦{fullShare} W x')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((yLoc d ↦{fullShare} W main_arg0) ∗ (pLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- Memory at the launch, and after the call. -/
def V0 (d : Dev nD) : Valuation τ sig (Elt F) := fun b => m (d, b)
def V1 (d : Dev nD) : Valuation τ sig (Elt F) := (opX (F := F)).result (V0 m d)
def V2 (d : Dev nD) : Valuation τ sig (Elt F) := Function.update (V1 m d) o' (GR m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_ne (d : Dev nD) {b : DevRef τ sig} (h : b ∉ ({x'} : Finset (DevRef τ sig))) : V1 m d b = m (d, b) :=
  (opX (F := F)).result_of_not_mem _ h
omit [FloatOps F] in
theorem V1_x (d : Dev nD) : V1 m d x' = X m d := StableHlo.reshape_result _ _ _ _ _ _ _

omit [FloatOps F] in
theorem held_V1 (d : Dev nD) :
    (held (T d) S5 ((opX (F := F)).result (V0 m d)) : sProp 𝕄)
      = iprop((yLoc d ↦{fullShare} Y m d) ∗ (pLoc d ↦{fullShare} m (pLoc d)) ∗ (xLoc d ↦{fullShare} X m d)
          ∗ (oLoc d ↦{fullShare} m (oLoc d)) ∗ rLoc d ↦{fullShare} m (rLoc d)) := by
  show held (SparseCore.T d) S5 (V1 m d) = _
  rw [held_S5, V1_x, V1_ne m d (b := y') (by decide), V1_ne m d (b := p') (by decide), V1_ne m d (b := o') (by decide), V1_ne m d (b := r') (by decide)]

theorem held_V2 (d : Dev nD) :
    (held (T d) S5 (V2 m d) : sProp 𝕄)
      = iprop((yLoc d ↦{fullShare} Y m d) ∗ (pLoc d ↦{fullShare} m (pLoc d)) ∗ (xLoc d ↦{fullShare} X m d)
          ∗ (oLoc d ↦{fullShare} GR m d) ∗ rLoc d ↦{fullShare} m (rLoc d)) := by
  unfold V2
  rw [held_S5, Function.update_self, Function.update_of_ne (show y' ≠ o' by decide), Function.update_of_ne (show p' ≠ o' by decide),
    Function.update_of_ne (show x' ≠ o' by decide), Function.update_of_ne (show r' ≠ o' by decide),
    V1_x, V1_ne m d (b := y') (by decide), V1_ne m d (b := p') (by decide), V1_ne m d (b := r') (by decide)]

theorem V3_r (d : Dev nD) : (opR (F := F)).result (V2 m d) r' = Rv m d := by
  refine (StableHlo.reshape_result _ _ _ _ _ _ _).trans ?_
  unfold V2 Rv
  rw [Function.update_self]
  rfl
theorem V3_y (d : Dev nD) : (opR (F := F)).result (V2 m d) y' = m (yLoc d) := by
  rw [(opR (F := F)).result_of_not_mem _ (show y' ∉ ({r'} : Finset (DevRef τ sig)) by decide)]
  exact (Function.update_of_ne (show y' ≠ o' by decide) _ _).trans (V1_ne m d (by decide))
theorem V3_p (d : Dev nD) : (opR (F := F)).result (V2 m d) p' = m (pLoc d) := by
  rw [(opR (F := F)).result_of_not_mem _ (show p' ∉ ({r'} : Finset (DevRef τ sig)) by decide)]
  exact (Function.update_of_ne (show p' ≠ o' by decide) _ _).trans (V1_ne m d (by decide))

theorem held_V3 (d : Dev nD) :
    (held (T d) S5 ((opR (F := F)).result (V2 m d)) : sProp 𝕄)
      = iprop((yLoc d ↦{fullShare} m (yLoc d)) ∗ (pLoc d ↦{fullShare} m (pLoc d)) ∗ (xLoc d ↦{fullShare} (opR (F := F)).result (V2 m d) x')
          ∗ (oLoc d ↦{fullShare} (opR (F := F)).result (V2 m d) o') ∗ rLoc d ↦{fullShare} Rv m d) := by
  rw [held_S5, V3_r, V3_y, V3_p]

theorem st0_eq (d : Dev nD) : (bigSep Finset.univ fun c : Fin ((K (F := F)).nCore 0) => (P m).st 0 d c)
    = iprop(yAt m d fullShare ∗ xAt m d fullShare ∗ oAt d Finset.univ (m (oLoc d))) :=
  (bigSep_cores (F := F) (fun c => stC m d c (m (oLoc d)))).trans (stC_cores m d _)
theorem dn0_eq (d : Dev nD) : (bigSep Finset.univ fun c : Fin ((K (F := F)).nCore 0) => (P m).dn 0 d c)
    = iprop(yAt m d fullShare ∗ xAt m d fullShare ∗ oAt d Finset.univ (GR m d)) :=
  (bigSep_cores (F := F) (fun c => stC m d c (GR m d))).trans (stC_cores m d _)

omit [FloatOps F] in
theorem hX : (opX (F := F)).bufs ⊆ S5 := show ({p', x'} : Finset (DevRef τ sig)) ⊆ S5 by decide
omit [FloatOps F] in
theorem hR : (opR (F := F)).bufs ⊆ S5 := show ({o', r'} : Finset (DevRef τ sig)) ⊆ S5 by decide

/-- What @main leaves: the arguments as launched, the result. -/
abbrev FIN (d : Dev nD) : sProp 𝕄 := iprop((yLoc d ↦{fullShare} m (yLoc d)) ∗ (pLoc d ↦{fullShare} m (pLoc d)) ∗ rLoc d ↦{fullShare} Rv m d)

/-- @main on device `d`'s TensorCore: the positions laid out in one row, the call, its rows grouped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S5) hX (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hy, Hp, Hx, Ho, Hr⟩
  iapply ((K (F := F)).wp_run (D (F := F)) 𝒱 (EH := EH) (P := P m) κ d 0) $$ [Hst Hy Hx Ho Hb Hp Hr Hts]
  isplitr; · iexact Hctx
  isplitl [Hst]; · iexact Hst
  isplitl [Hy Hx Ho]
  · rw [st0_eq]
    isplitl [Hy]; · iexact Hy
    isplitl [Hx]; · iexact Hx
    iexact Ho
  iintro ⟨Hst, Hdn⟩
  ihave Hdn' := (Entails.of_eq (dn0_eq m d)) $$ Hdn
  icases Hdn' with ⟨Hy, Hx, Ho⟩
  iapply (wp_hlo_within 𝒱 (SparseCore.T d) none Set.univ (op := opR) (S := S5) hR (V := V2 m d)) $$ [Hb Hy Hp Hx Ho Hr]
  · isplitl [Hb]; · iexact Hb
    rw [held_V2]
    isplitl [Hy]; · iexact Hy
    isplitl [Hp]; · iexact Hp
    isplitl [Hx]; · iexact Hx
    isplitl [Ho]; · iexact Ho
    iexact Hr
  iintro ⟨Hb, Hheld⟩
  ihave Hh := (Entails.of_eq (held_V3 (F := F) m d)) $$ Hheld
  icases Hh with ⟨Hy, Hp, -, -, Hr⟩
  rw [wp_ret]; imodintro; imodintro
  isplitl [Hst]; · iexact Hst
  isplitr [Hb Hts]
  · isplitl [Hy]; · iexact Hy
    isplitl [Hp]; · iexact Hp
    iexact Hr
  isplitl [Hb] <;> iassumption

/-- What the claims read of device `d`'s memory at the end. -/
def fq (d : Dev nD) (s' : Phys nD τ sig (Elt F)) : Prop :=
  s'.mem.mem (rLoc d) = Rv m d ∧ s'.mem.mem (yLoc d) = m (yLoc d) ∧ s'.mem.mem (pLoc d) = m (pLoc d)

set_option maxRecDepth 16384 in
theorem hfin (d : Dev nD) (s' : Phys nD τ sig (Elt F)) : iprop(FIN m d ∗ SI s') ⊢ (⌜fq m d s'⌝ : sProp 𝕄) := by
  iintro ⟨⟨Hy, Hp, Hr⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := rLoc d) (I := Finset.univ) (q := fullShare) (f := Rv m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (rLoc c) = Rv m c ∧ r.2.mem (yLoc c) = m (yLoc c) ∧ r.2.mem (pLoc c) = m (pLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The value: the precondition read at the positions, the reference's run, and the reference's result element by
  element against the kernel's. The reference wraps a negative position and then gathers the row each position names;
  at positions in range the wrap and the gather's clamp change nothing.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.Reference
public import proofs.«01_k».proof.Proof.Gen.Pre_pos_in_rows
public import Idealize.ShloMosaic.Lib.StableHlo.Run

@[expose] public section

noncomputable section

namespace Cert.Proof.Gather

open Idealize.ShloMosaic Idealize.ShloMosaic.ValueIdx Idealize.ShloMosaic.TcCoe Idealize.ShloMosaic.StableHlo Idealize.SL.Sem

variable {F : FTy → Type} [FloatOps F]

/-! ## The precondition -/

/-- A 32-bit position that is at least zero and below 155648, both read signed. -/
theorem word_range {v : BitVec 32}
    (e : IntOp.andi (IntOp.cmpi .sge v 0#32) (IntOp.cmpi .slt v 155648#32) = 1#1) : v.toNat < 155648 := by
  have and_eq (a b : Bool) : IntOp.andi (BitVec.ofBool a) (BitVec.ofBool b) = BitVec.ofBool (a && b) := by
    cases a <;> cases b <;> decide
  have one_eq (a : Bool) : (BitVec.ofBool a = 1#1) ↔ a = true := by cases a <;> decide
  simp only [IntOp.cmpi, and_eq, one_eq, Bool.and_eq_true, BitVec.sle_eq_decide, BitVec.slt_eq_decide,
    decide_eq_true_eq, BitVec.toInt_eq_toNat_cond, BitVec.toNat_ofNat, Nat.reducePow, Nat.reduceMod] at e
  omega

theorem pos_lt (ys : IVec Cert.Pre_pos_in_rows.S155648x256 32) (p : IVec Cert.Pre_pos_in_rows.S4x34816 32)
    (h : Cert.Pre_pos_in_rows.fn (F := F) ys p = fun _ => 1#1) (j : Cert.Pre_pos_in_rows.S4x34816.Idx) : (p j).toNat < 155648 := by
  have e := congrFun h j
  simp only [Cert.Pre_pos_in_rows.fn, andi, cmpi, broadcastInDim, constantI] at e
  exact word_range e

/-! ## The reference's run -/

namespace R

open Cert.ReferenceIdeal Cert.ReferenceIdeal.Facts₀

abbrev ops : List (HloOp τ sig (Elt F)) :=
  [ nullary main_c (constantI S_ 32 0#32),
    unary main_c main_v0 (broadcastInDim S4x34816 ![] bcast_S_S4x34816 : (⟨S_, .i32⟩ : BufTy).Contents (Elt F) → (⟨S4x34816, .i32⟩ : BufTy).Contents (Elt F)),
    binary main_arg1 main_v0 main_v1 (cmpi .slt : (⟨S4x34816, .i32⟩ : BufTy).Contents (Elt F) → (⟨S4x34816, .i32⟩ : BufTy).Contents (Elt F) → (⟨S4x34816, .i1⟩ : BufTy).Contents (Elt F)),
    nullary main_c_0 (constantI S_ 32 155648#32),
    unary main_c_0 main_v2 (broadcastInDim S4x34816 ![] bcast_S_S4x34816 : (⟨S_, .i32⟩ : BufTy).Contents (Elt F) → (⟨S4x34816, .i32⟩ : BufTy).Contents (Elt F)),
    binary main_arg1 main_v2 main_v3 (addi : (⟨S4x34816, .i32⟩ : BufTy).Contents (Elt F) → (⟨S4x34816, .i32⟩ : BufTy).Contents (Elt F) → (⟨S4x34816, .i32⟩ : BufTy).Contents (Elt F)),
    ternary main_v1 main_v3 main_arg1 main_v4 (select : (⟨S4x34816, .i1⟩ : BufTy).Contents (Elt F) → (⟨S4x34816, .i32⟩ : BufTy).Contents (Elt F) → (⟨S4x34816, .i32⟩ : BufTy).Contents (Elt F) → (⟨S4x34816, .i32⟩ : BufTy).Contents (Elt F)),
    unary main_v4 main_v5 (broadcastInDim S4x34816x1 ![0, 1] bcast_S4x34816_S4x34816x1_0_1 : (⟨S4x34816, .i32⟩ : BufTy).Contents (Elt F) → (⟨S4x34816x1, .i32⟩ : BufTy).Contents (Elt F)),
    binary main_arg0 main_v5 main_v6 ((fun x i => Host.gather gather_S155648x256_S4x34816x1_S4x34816x256_2_0_n_n_0_2_1256 x i) : (⟨S155648x256, .i32⟩ : BufTy).Contents (Elt F) → (⟨S4x34816x1, .i32⟩ : BufTy).Contents (Elt F) → (⟨S4x34816x256, .i32⟩ : BufTy).Contents (Elt F)) ]

theorem main_eq (c : Dev nD) : main (F := F) c = seq ops := by
  simp only [main, seq]

/-- The positions with negative ones wrapped round the table. -/
def wrapped (p : S4x34816.Idx → Elt F .i32) : S4x34816.Idx → Elt F .i32 :=
  select (cmpi .slt p (broadcastInDim S4x34816 ![] bcast_S_S4x34816 (constantI S_ 32 0#32)))
    (addi p (broadcastInDim S4x34816 ![] bcast_S_S4x34816 (constantI S_ 32 155648#32))) p

/-- The reference's result of a table and positions. -/
def out (ys : S155648x256.Idx → Elt F .i32) (p : S4x34816.Idx → Elt F .i32) : S4x34816x256.Idx → Elt F .i32 :=
  Host.gather gather_S155648x256_S4x34816x1_S4x34816x256_2_0_n_n_0_2_1256 ys
    (broadcastInDim S4x34816x1 ![0, 1] bcast_S4x34816_S4x34816x1_0_1 (wrapped (F := F) p))

theorem out_eq (V : Valuation τ sig (Elt F)) :
    after ops V (main_v6 : DevRef τ sig) = out (F := F) (V (main_arg0 : DevRef τ sig)) (V (main_arg1 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- Every run of the reference ends with its result at `out` of its arguments, the arguments as they were, every counter
    at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
            = out (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v6).trans (out_eq _), (h c main_arg0).trans (arg0_eq _),
      (h c main_arg1).trans (arg1_eq _)⟩, Idealize.ShloMosaic.sem_eq_zero_of_no_sems (by decide) r.2⟩)
    (run_seq scopedRefs_eq scopedSems_eq defs main (fun _ => ops) main_eq (fun _ => ops_sub) m ρ)

/-! ### The gather read at an index -/

/-- The start index a result index takes its row from. -/
abbrev startIdx (y : S4x34816x256.Idx) : S4x34816x1.Idx := fun a =>
  match a with | ⟨0, _⟩ => ⟨(y 0).val, (y 0).isLt⟩ | ⟨1, _⟩ => ⟨(y 1).val, (y 1).isLt⟩ | ⟨2, _⟩ => ⟨0, Nat.one_pos⟩

theorem gather_apply (x : S155648x256.Idx → BitVec 32) (idx : S4x34816x1.Idx → BitVec 32) (y : S4x34816x256.Idx) :
    Host.gather gather_S155648x256_S4x34816x1_S4x34816x256_2_0_n_n_0_2_1256 x idx y
      = x (ix2 ⟨min (idx (startIdx y)).toInt.toNat 155647, by omega⟩ ⟨(y 2).val, (y 2).isLt⟩) := by
  set d := gather_S155648x256_S4x34816x1_S4x34816x256_2_0_n_n_0_2_1256
  unfold Host.gather
  congr 1
  funext a
  refine Fin.ext ?_
  show d.start y idx a + d.batchCoord y a + d.offCoord y a = _
  rw [GatherDims.batchCoord_eq_zero _ _ _ (show a ∉ d.operandBatchingDims from List.not_mem_nil)]
  match a with
  | ⟨0, h⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h⟩ : Fin 2) ∈ d.startIndexMap from List.mem_singleton.mpr rfl)]
    have hsi : d.siIdx y ⟨List.idxOf (⟨0, h⟩ : Fin 2) d.startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  | ⟨1, h⟩ =>
    have hs : d.start y idx ⟨1, h⟩ = 0 := dif_neg (show (1 : Fin 2) ∉ ([0] : List (Fin 2)) from by decide)
    have hk : (⟨1, h⟩ : Fin 2) ∈ d.sKept :=
      (GatherDims.mem_sKept d _).mpr ⟨show (1 : Fin 2) ∉ ([0] : List (Fin 2)) from by decide, List.not_mem_nil⟩
    have ho : d.offCoord y ⟨1, h⟩ = (y 2).val := (dif_pos hk).trans rfl
    rw [hs, ho]
    show 0 + 0 + (y 2).val = (y 2).val
    omega

/-- At a position in range the wrap changes nothing. -/
theorem wrapped_apply (p : S4x34816.Idx → Elt F .i32) (j : S4x34816.Idx) (h : ((p j : BitVec 32)).toNat < 155648) :
    wrapped (F := F) p j = p j := by
  have e : IntOp.cmpi .slt (p j : BitVec 32) 0#32 = 0#1 := by
    have : (BitVec.slt (p j : BitVec 32) 0#32) = false := by
      simp only [BitVec.slt_eq_decide, decide_eq_false_iff_not, BitVec.toInt_eq_toNat_cond, BitVec.toNat_ofNat, Nat.reducePow, Nat.reduceMod]
      omega
    simp only [IntOp.cmpi, this]
    rfl
  show (if IntOp.cmpi .slt (p j : BitVec 32) 0#32 = 1#1 then _ else p j) = p j
  rw [e]
  exact if_neg (by decide)

end R

/-! ## The kernel's result is the reference's -/

open Cert.KernelIdeal Cert.KernelIdeal.Facts₀

/-- The rows gathered at the positions laid out in one row, grouped by the positions' rows, are the reference's result. -/
theorem rows_eq (ys : S155648x256.Idx → Elt F .i32) (p : S4x34816.Idx → Elt F .i32) (h : ∀ j, (p j : BitVec 32).toNat < 155648) :
    (shapeCast S4x34816x256 (G ys (shapeCast S1x139264 p shapeCasts_S4x34816_S1x139264)) shapeCasts_S139264x256_S4x34816x256
      : S4x34816x256.Idx → Elt F .i32) = R.out (F := F) ys p := by
  funext y
  have h0 : (y 0).val < 4 := (y 0).isLt
  have h1 : (y 1).val < 34816 := (y 1).isLt
  have h2 : (y 2).val < 256 := (y 2).isLt
  let q : S4x34816.Idx := ix2 ⟨(y 0).val, h0⟩ ⟨(y 1).val, h1⟩
  have e1 : Shape.reshapeEquiv (show S4x34816x256.numel = S139264x256.numel from by decide) y
      = ix2 (⟨34816 * (y 0).val + (y 1).val, by omega⟩ : Fin 139264) (⟨(y 2).val, h2⟩ : Fin 256) := by
    refine Shape.reshapeEquiv_eq_of_rowMajor _ ?_
    rw [Shape.rowMajor_val_two, Shape.rowMajor_val_three]
    show (34816 * (y 0).val + (y 1).val) * 256 + (y 2).val = ((y 0).val * 34816 + (y 1).val) * 256 + (y 2).val
    omega
  have e2 : Shape.reshapeEquiv (show S1x139264.numel = S4x34816.numel from by decide)
      (ix2 (0 : Fin 1) (⟨34816 * (y 0).val + (y 1).val, by omega⟩ : Fin 139264)) = q := by
    refine Shape.reshapeEquiv_eq_of_rowMajor _ ?_
    rw [Shape.rowMajor_val_two, Shape.rowMajor_val_two]
    show (y 0).val * 34816 + (y 1).val = 0 * 139264 + (34816 * (y 0).val + (y 1).val)
    omega
  have el : (shapeCast S4x34816x256 (G ys (shapeCast S1x139264 p shapeCasts_S4x34816_S1x139264)) shapeCasts_S139264x256_S4x34816x256
      : S4x34816x256.Idx → Elt F .i32) y = ys (ix2 (rowNo (p q)) ⟨(y 2).val, h2⟩) := by
    show G ys (shapeCast S1x139264 p shapeCasts_S4x34816_S1x139264) (Shape.reshapeEquiv _ y) = _
    rw [e1]
    show ys (ix2 (rowNo (p (Shape.reshapeEquiv _ _))) _) = _
    rw [e2]
  have hw : (broadcastInDim Cert.ReferenceIdeal.S4x34816x1 ![0, 1] Cert.ReferenceIdeal.Facts₀.bcast_S4x34816_S4x34816x1_0_1
      (R.wrapped (F := F) p)) (R.startIdx y) = p q := by
    refine Eq.trans ?_ (R.wrapped_apply (F := F) p q (h q))
    show R.wrapped (F := F) p _ = R.wrapped (F := F) p q
    congr 1
    funext a
    match a with
    | ⟨0, _⟩ => rfl
    | ⟨1, _⟩ => rfl
  rw [el]
  unfold R.out
  refine Eq.trans ?_ (R.gather_apply _ _ y).symm
  have hr : (rowNo (p q)).val = min (p q : BitVec 32).toInt.toNat 155647 := by
    have hq := h q
    rw [rowNo_val (h q), BitVec.toInt_eq_toNat_cond]
    split <;> omega
  exact congrArg ys (congrArg₂ ix2 (Fin.ext (hr.trans (congrArg (fun w : BitVec 32 => min w.toInt.toNat 155647) hw.symm))) rfl)

end Cert.Proof.Gather

end
-- ==== Proof.ExpBData.lean ====
/- The experts' pipeline at the tables a launch memory holds: its blocks, what the scratches hold once filled, and what
   the body leaves in each output's staging buffer. -/
module

public import proofs.«01_k».proof.Proof.ExpBSched
public import Idealize.ShloMosaic.Lib.Pipeline.Quiescent
public import Idealize.ShloMosaic.Lib.Claim
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.ExpertsBits

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables whose blocks lie inside the arrays. -/
abbrev Adm := (pcfg0 (F := Bits)).Adm

variable (A : Adm)

/-- The pipeline at such tables, alone in the program. -/
abbrev cfgA : Pipeline.Cfg sig Λ₀ := cfg0 (F := Bits) A
abbrev pcs : Fin 1 → Pipeline.Cfg sig Λ₀ := Pipeline.pin (pcfgs (F := Bits)) fun _ => A

/-- A point's coordinates. -/
abbrev crd (t : Fin (cfgA A).N) : grid0.Coords := (cfgA A).grid.coords t

/-- The staging buffer of each window at a point, and that it is whole. -/
abbrev st0 (t : Fin (cfgA A).N) : Memref sig .tc .vmem S512x256 .i32 := spec0_0.stage ((cfgA A).slots t (0 : Fin 8))
abbrev st1 (t : Fin (cfgA A).N) : Memref sig .tc .vmem S512x256 .i32 := spec0_1.stage ((cfgA A).slots t (1 : Fin 8))
abbrev st2 (t : Fin (cfgA A).N) : Memref sig .tc .vmem S1x1x1024x2048 .f32 := spec0_2.stage ((cfgA A).slots t (2 : Fin 8))
abbrev st3 (t : Fin (cfgA A).N) : Memref sig .tc .vmem S1x1x1x2048 .f32 := spec0_3.stage ((cfgA A).slots t (3 : Fin 8))
abbrev st4 (t : Fin (cfgA A).N) : Memref sig .tc .vmem S1x1x1024x1024 .f32 := spec0_4.stage ((cfgA A).slots t (4 : Fin 8))
abbrev st5 (t : Fin (cfgA A).N) : Memref sig .tc .vmem S1x1x1x1024 .f32 := spec0_5.stage ((cfgA A).slots t (5 : Fin 8))
abbrev st6 (t : Fin (cfgA A).N) : Memref sig .tc .vmem S1024x256 .bf16 := spec0_6.stage ((cfgA A).slots t (6 : Fin 8))
abbrev st7 (t : Fin (cfgA A).N) : Memref sig .tc .vmem S1024x256 .bf16 := spec0_7.stage ((cfgA A).slots t (7 : Fin 8))
abbrev wh0 (t : Fin (cfgA A).N) : (st0 A t).IsWhole := hstage0_0 (((cfgA A).slots t (0 : Fin 8)).cast nbuf0_0)
abbrev wh1 (t : Fin (cfgA A).N) : (st1 A t).IsWhole := hstage0_1 (((cfgA A).slots t (1 : Fin 8)).cast nbuf0_1)
abbrev wh2 (t : Fin (cfgA A).N) : (st2 A t).IsWhole := hstage0_2 (((cfgA A).slots t (2 : Fin 8)).cast nbuf0_2)
abbrev wh3 (t : Fin (cfgA A).N) : (st3 A t).IsWhole := hstage0_3 (((cfgA A).slots t (3 : Fin 8)).cast nbuf0_3)
abbrev wh4 (t : Fin (cfgA A).N) : (st4 A t).IsWhole := hstage0_4 (((cfgA A).slots t (4 : Fin 8)).cast nbuf0_4)
abbrev wh5 (t : Fin (cfgA A).N) : (st5 A t).IsWhole := hstage0_5 (((cfgA A).slots t (5 : Fin 8)).cast nbuf0_5)
abbrev wh6 (t : Fin (cfgA A).N) : (st6 A t).IsWhole := hstage0_6 (((cfgA A).slots t (6 : Fin 8)).cast nbuf0_6)
abbrev wh7 (t : Fin (cfgA A).N) : (st7 A t).IsWhole := hstage0_7 (((cfgA A).slots t (7 : Fin 8)).cast nbuf0_7)

/-! ## Both outputs are written at every point, and written back at every point -/

/-- Whatever the count read, one of the two guarded parts of the body runs. -/
theorem cond_or (i : grid0.Coords) (w : BitVec 32) : k0_cond2 i w = 1#1 ∨ k0_cond3 i w = 1#1 := by
  show Scalar.cmpi .ne (Scalar.extui (Scalar.cmpi .slt (BitVec.ofNat 32 (i 0).val) w)) 0#32 = 1#1
    ∨ Scalar.cmpi .ne (Scalar.extui (Scalar.xori (Scalar.cmpi .slt (BitVec.ofNat 32 (i 0).val) w) 1#1)) 0#32 = 1#1
  generalize Scalar.cmpi .slt (BitVec.ofNat 32 (i 0).val) w = b
  rcases bit_cases b with rfl | rfl <;> decide

theorem not_idle (i : grid0.Coords) (w : BitVec 32) : (!(k0_cond2 i w == 1#1) && !(k0_cond3 i w == 1#1)) = false := by
  rcases cond_or i w with h | h
  · rw [h]; rfl
  · rw [h, Bool.and_eq_false_iff]; exact Or.inr rfl

theorem idle6 (i : grid0.Coords) : (cfgA A).idle (6 : Fin 8) i = false := not_idle i _
theorem idle7 (i : grid0.Coords) : (cfgA A).idle (7 : Fin 8) i = false := not_idle i _

/-- Point `t` works on tile `t`. -/
theorem crd_val : ∀ t : Fin (cfgA A).N, (crd A t 0).val = t.val := by
  show ∀ t : Fin grid0.N, (grid0.coords t 0).val = t.val
  decide +kernel

theorem N_eq : (cfgA A).N = 304 := by
  show grid0.N = 304
  decide +kernel

theorem flush6 (t : Fin (cfgA A).N) : ((cfgA A).win (6 : Fin 8)).flush t = true := by
  rw [Window.flush_eq_flushF]
  unfold Window.flushF
  rw [Bool.and_eq_true]
  refine ⟨rfl, ?_⟩
  by_cases h : t.val + 1 = (cfgA A).N
  · simp [h]
  · rw [Bool.or_eq_true]; refine Or.inr (decide_eq_true ⟨Nat.lt_of_le_of_ne t.isLt h, 0, ?_⟩)
    show (BitVec.ofNat 32 (crd A ⟨t.val + 1, _⟩ 0).val).toNat ≠ (BitVec.ofNat 32 (crd A t 0).val).toNat
    have hN := N_eq A
    have := t.isLt
    rw [crd_val, crd_val, BitVec.toNat_ofNat, BitVec.toNat_ofNat, Nat.mod_eq_of_lt (by show t.val + 1 < _; omega), Nat.mod_eq_of_lt (by omega)]
    show t.val + 1 ≠ _
    omega

theorem flush7 (t : Fin (cfgA A).N) : ((cfgA A).win (7 : Fin 8)).flush t = true := by
  rw [Window.flush_eq_flushF]
  unfold Window.flushF
  rw [Bool.and_eq_true]
  refine ⟨rfl, ?_⟩
  by_cases h : t.val + 1 = (cfgA A).N
  · simp [h]
  · rw [Bool.or_eq_true]; refine Or.inr (decide_eq_true ⟨Nat.lt_of_le_of_ne t.isLt h, 0, ?_⟩)
    show (BitVec.ofNat 32 (crd A ⟨t.val + 1, _⟩ 0).val).toNat ≠ (BitVec.ofNat 32 (crd A t 0).val).toNat
    have hN := N_eq A
    have := t.isLt
    rw [crd_val, crd_val, BitVec.toNat_ofNat, BitVec.toNat_ofNat, Nat.mod_eq_of_lt (by show t.val + 1 < _; omega), Nat.mod_eq_of_lt (by omega)]
    show t.val + 1 ≠ _
    omega

/-- So nothing of an earlier point is ever held in an output's buffer. -/
theorem fresh6 (n : ℕ) (h : n ≤ (cfgA A).N) : (cfgA A).fresh (6 : Fin 8) n = true := by
  rcases n with _ | n
  · exact Pipeline.Cfg.fresh_zero _ _
  · rw [Pipeline.Cfg.fresh_succ _ _ n h, flush6]; rfl

theorem fresh7 (n : ℕ) (h : n ≤ (cfgA A).N) : (cfgA A).fresh (7 : Fin 8) n = true := by
  rcases n with _ | n
  · exact Pipeline.Cfg.fresh_zero _ _
  · rw [Pipeline.Cfg.fresh_succ _ _ n h, flush7]; rfl

/-! ## The blocks and the scratches -/

variable (m : (ℓ : Loc nD τ sig) → Buf (Elt Bits) ℓ) (ρ : Dev nD → PrngReg)

/-- A window's block at a point, read off its array at launch. -/
def iblk (c : Dev nD) (w : Fin (cfgA A).W) (t : Fin (cfgA A).N) : (((cfgA A).win w).xblock (crd A t)).Idx → Elt Bits ((cfgA A).win w).elt :=
  (((cfgA A).win w).blk t).view.read (Elt Bits) ((s₀ m ρ).mem (((cfgA A).win w).arr.view.loc (c : Thread nD τ)))

abbrev b0 (c : Dev nD) (t : Fin (cfgA A).N) : S512x256.Idx → Elt Bits .i32 := iblk A m ρ c (0 : Fin 8) t
abbrev b1 (c : Dev nD) (t : Fin (cfgA A).N) : S512x256.Idx → Elt Bits .i32 := iblk A m ρ c (1 : Fin 8) t
abbrev b2 (c : Dev nD) (t : Fin (cfgA A).N) : S1x1x1024x2048.Idx → Elt Bits .f32 := iblk A m ρ c (2 : Fin 8) t
abbrev b3 (c : Dev nD) (t : Fin (cfgA A).N) : S1x1x1x2048.Idx → Elt Bits .f32 := iblk A m ρ c (3 : Fin 8) t
abbrev b4 (c : Dev nD) (t : Fin (cfgA A).N) : S1x1x1024x1024.Idx → Elt Bits .f32 := iblk A m ρ c (4 : Fin 8) t
abbrev b5 (c : Dev nD) (t : Fin (cfgA A).N) : S1x1x1x1024.Idx → Elt Bits .f32 := iblk A m ρ c (5 : Fin 8) t

/-- What the body leaves in the scratches when it fills them from the weights' blocks staged in `a5`, `a7`. -/
def gateUp (c : Dev nD) (a5 : Memref sig .tc .vmem S1x1x1024x2048 .f32) (x2 : S1x1x1024x2048.Idx → Elt Bits .f32) : Buf (Elt Bits) ((c : Thread nD τ).loc cc0_scratch0) :=
  scM0_0.view.writes (Elt Bits) scM0_0.view.junk (kernelRun0_A.sl.HS0_4 a5 x2)
def down (c : Dev nD) (a7 : Memref sig .tc .vmem S1x1x1024x1024 .f32) (x4 : S1x1x1024x1024.Idx → Elt Bits .f32) : Buf (Elt Bits) ((c : Thread nD τ).loc cc0_scratch1) :=
  scM0_1.view.writes (Elt Bits) scM0_1.view.junk (kernelRun0_A.sl.HS1_4 a7 x4)

/-- It does not matter which buffer the weights were staged in. -/
theorem gateUp_slot (c : Dev nD) (a a' : Memref sig .tc .vmem S1x1x1024x2048 .f32) (x : S1x1x1024x2048.Idx → Elt Bits .f32) : gateUp c a x = gateUp c a' x := by
  unfold gateUp kernelRun0_A.sl.HS0_4
  simp only [View.readAt_rep]
theorem down_slot (c : Dev nD) (a a' : Memref sig .tc .vmem S1x1x1024x1024 .f32) (x : S1x1x1024x1024.Idx → Elt Bits .f32) : down c a x = down c a' x := by
  unfold down kernelRun0_A.sl.HS1_4 kernelRun0_A.sl.r_3
  simp only [View.readAt_rep]

/-- The outputs of a point in use, from the staged blocks and the scratches; and of a point not in use. -/
abbrev pieces6 (c : Dev nD) (t : Fin (cfgA A).N) (s0 : Buf (Elt Bits) ((c : Thread nD τ).loc cc0_scratch0)) (s1 : Buf (Elt Bits) ((c : Thread nD τ).loc cc0_scratch1)) :=
  kernelRun0_B.sl.HO6_1 c (st0 A t) (st1 A t) (st3 A t) (st5 A t) (b0 A m ρ c t) (b1 A m ρ c t) (b3 A m ρ c t) (b5 A m ρ c t) s0 s1
abbrev pieces7 (c : Dev nD) (t : Fin (cfgA A).N) (s0 : Buf (Elt Bits) ((c : Thread nD τ).loc cc0_scratch0)) (s1 : Buf (Elt Bits) ((c : Thread nD τ).loc cc0_scratch1)) :=
  kernelRun0_B.sl.HO7_1 c (st0 A t) (st1 A t) (st3 A t) (st5 A t) (b0 A m ρ c t) (b1 A m ρ c t) (b3 A m ρ c t) (b5 A m ρ c t) s0 s1

open Classical in
/-- What the body leaves in the staging buffers of the two outputs. -/
def left6 (c : Dev nD) (t : Fin (cfgA A).N) : S1024x256.Idx → Elt Bits .bf16 :=
  View.read (Elt Bits) VO0_6 (VO0_6.writes (Elt Bits) VO0_6.junk
    (if Used A.1 (crd A t) then pieces6 A m ρ c t (gateUp c (st2 A t) (b2 A m ρ c t)) (down c (st4 A t) (b4 A m ρ c t)) else kernelRun0_C.sl.HO6_1))
open Classical in
def left7 (c : Dev nD) (t : Fin (cfgA A).N) : S1024x256.Idx → Elt Bits .bf16 :=
  View.read (Elt Bits) VO0_7 (VO0_7.writes (Elt Bits) VO0_7.junk
    (if Used A.1 (crd A t) then pieces7 A m ρ c t (gateUp c (st2 A t) (b2 A m ρ c t)) (down c (st4 A t) (b4 A m ρ c t)) else kernelRun0_C.sl.HO7_1))

/-! ## What the runs of the body's three paths leave, by these names -/

section
variable (c : Dev nD) (i : grid0.Coords)
  (a3 : Memref sig .tc .vmem S512x256 .i32) (h3 : a3.IsWhole) (a4 : Memref sig .tc .vmem S512x256 .i32) (h4 : a4.IsWhole)
  (a5 : Memref sig .tc .vmem S1x1x1024x2048 .f32) (h5 : a5.IsWhole) (a6 : Memref sig .tc .vmem S1x1x1x2048 .f32) (h6 : a6.IsWhole)
  (a7 : Memref sig .tc .vmem S1x1x1024x1024 .f32) (h7 : a7.IsWhole) (a8 : Memref sig .tc .vmem S1x1x1x1024 .f32) (h8 : a8.IsWhole)
  (a9 : Memref sig .tc .vmem S1024x256 .bf16) (h9 : a9.IsWhole) (a10 : Memref sig .tc .vmem S1024x256 .bf16) (h10 : a10.IsWhole)
  (w0 : S304.Idx → Elt Bits .i32) (w1 : S1.Idx → Elt Bits .i32)
  (x0 : S512x256.Idx → Elt Bits .i32) (x1 : S512x256.Idx → Elt Bits .i32) (x2 : S1x1x1024x2048.Idx → Elt Bits .f32)
  (x3 : S1x1x1x2048.Idx → Elt Bits .f32) (x4 : S1x1x1024x1024.Idx → Elt Bits .f32) (x5 : S1x1x1x1024.Idx → Elt Bits .f32)
  (s0 : Buf (Elt Bits) ((c : Thread nD τ).loc cc0_scratch0)) (s1 : Buf (Elt Bits) ((c : Thread nD τ).loc cc0_scratch1))
theorem runA6 (k1 k2 k3) : (kernelRun0_A c i a3 h3 a4 h4 a5 h5 a6 h6 a7 h7 a8 h8 a9 h9 a10 h10 w0 w1 x0 x1 x2 x3 x4 x5 k1 k2 k3).1 = kernelRun0_B.sl.HO6_1 c a3 a4 a6 a8 x0 x1 x3 x5 (gateUp c a5 x2) (down c a7 x4) := by delta kernelRun0_A; dsimp only; rfl
theorem runA7 (k1 k2 k3) : (kernelRun0_A c i a3 h3 a4 h4 a5 h5 a6 h6 a7 h7 a8 h8 a9 h9 a10 h10 w0 w1 x0 x1 x2 x3 x4 x5 k1 k2 k3).2.1 = kernelRun0_B.sl.HO7_1 c a3 a4 a6 a8 x0 x1 x3 x5 (gateUp c a5 x2) (down c a7 x4) := by delta kernelRun0_A; dsimp only; rfl
theorem runA0 (k1 k2 k3) : (kernelRun0_A c i a3 h3 a4 h4 a5 h5 a6 h6 a7 h7 a8 h8 a9 h9 a10 h10 w0 w1 x0 x1 x2 x3 x4 x5 k1 k2 k3).2.2.1 = gateUp c a5 x2 := by delta kernelRun0_A; dsimp only; rfl
theorem runA1 (k1 k2 k3) : (kernelRun0_A c i a3 h3 a4 h4 a5 h5 a6 h6 a7 h7 a8 h8 a9 h9 a10 h10 w0 w1 x0 x1 x2 x3 x4 x5 k1 k2 k3).2.2.2.1 = down c a7 x4 := by delta kernelRun0_A; dsimp only; rfl
theorem runB6 (k1 k2 k3) : (kernelRun0_B c i a3 h3 a4 h4 a5 h5 a6 h6 a7 h7 a8 h8 a9 h9 a10 h10 w0 w1 x0 x1 x2 x3 x4 x5 s0 s1 k1 k2 k3).1 = kernelRun0_B.sl.HO6_1 c a3 a4 a6 a8 x0 x1 x3 x5 s0 s1 := by delta kernelRun0_B; dsimp only
theorem runB7 (k1 k2 k3) : (kernelRun0_B c i a3 h3 a4 h4 a5 h5 a6 h6 a7 h7 a8 h8 a9 h9 a10 h10 w0 w1 x0 x1 x2 x3 x4 x5 s0 s1 k1 k2 k3).2.1 = kernelRun0_B.sl.HO7_1 c a3 a4 a6 a8 x0 x1 x3 x5 s0 s1 := by delta kernelRun0_B; dsimp only
theorem runB0 (k1 k2 k3) : (kernelRun0_B c i a3 h3 a4 h4 a5 h5 a6 h6 a7 h7 a8 h8 a9 h9 a10 h10 w0 w1 x0 x1 x2 x3 x4 x5 s0 s1 k1 k2 k3).2.2.1 = s0 := by delta kernelRun0_B; dsimp only
theorem runB1 (k1 k2 k3) : (kernelRun0_B c i a3 h3 a4 h4 a5 h5 a6 h6 a7 h7 a8 h8 a9 h9 a10 h10 w0 w1 x0 x1 x2 x3 x4 x5 s0 s1 k1 k2 k3).2.2.2.1 = s1 := by delta kernelRun0_B; dsimp only
theorem runC6 (k1 k2 k3) : (kernelRun0_C c i a3 h3 a4 h4 a5 h5 a6 h6 a7 h7 a8 h8 a9 h9 a10 h10 w0 w1 x0 x1 x2 x3 x4 x5 s0 s1 k1 k2 k3).1 = kernelRun0_C.sl.HO6_1 := by delta kernelRun0_C; dsimp only
theorem runC7 (k1 k2 k3) : (kernelRun0_C c i a3 h3 a4 h4 a5 h5 a6 h6 a7 h7 a8 h8 a9 h9 a10 h10 w0 w1 x0 x1 x2 x3 x4 x5 s0 s1 k1 k2 k3).2.1 = kernelRun0_C.sl.HO7_1 := by delta kernelRun0_C; dsimp only
end

/-- The expert of a point's tile. -/
theorem expert_lt (t : Fin (cfgA A).N) : (T0 A.1 (tile (crd A t 0))).toNat < 32 := by
  obtain ⟨h, -⟩ := A.2.1 (crd A t)
  have h1 := h 1
  rw [← ownWord_eq A.1 (crd A t)]
  have h2 : ((ownWord A.1 (crd A t)).toNat + 1) * 1 ≤ 32 := h1
  omega
def expert (t : Fin (cfgA A).N) : Fin 32 := ⟨(T0 A.1 (tile (crd A t 0))).toNat, expert_lt A t⟩

/-- The weights of an expert, and its biases, at an element of their blocks. -/
def inGU (e : Fin 32) (y : S1x1x1024x2048.Idx) : S4x32x1024x2048.Idx := fun | 0 => (0 : Fin 4) | 1 => e | 2 => y 2 | 3 => y 3
def inGUb (e : Fin 32) (y : S1x1x1x2048.Idx) : S4x32x1x2048.Idx := fun | 0 => (0 : Fin 4) | 1 => e | 2 => (0 : Fin 1) | 3 => y 3
def inD (e : Fin 32) (y : S1x1x1024x1024.Idx) : S4x32x1024x1024.Idx := fun | 0 => (0 : Fin 4) | 1 => e | 2 => y 2 | 3 => y 3
def inDb (e : Fin 32) (y : S1x1x1x1024.Idx) : S4x32x1x1024.Idx := fun | 0 => (0 : Fin 4) | 1 => e | 2 => (0 : Fin 1) | 3 => y 3
/-- A point's rows. -/
def inRows (t : Fin 304) (y : S1024x256.Idx) : S311296x256.Idx := fun | 0 => ⟨1024 * t.val + (y 0).val, by have := (y 0).isLt; have h : (y 0).val < 1024 := this; have := t.isLt; show _ < 311296; omega⟩ | 1 => y 1
/-- A point's words. -/
def inWords (t : Fin 304) (y : S512x256.Idx) : S155648x256.Idx := fun | 0 => ⟨512 * t.val + (y 0).val, by have := (y 0).isLt; have h : (y 0).val < 512 := this; have := t.isLt; show _ < 155648; omega⟩ | 1 => y 1

theorem b2_eq (c : Dev nD) (t : Fin (cfgA A).N) (y : S1x1x1024x2048.Idx) :
    b2 A m ρ c t y = m ((c : Thread nD τ).loc main_arg4) (inGU (expert A t) y) := by
  show m ((c : Thread nD τ).loc main_arg4) ((((cfgA A).win (2 : Fin 8)).rect t).emb y) = _
  refine congrArg _ (funext fun a => Fin.ext ?_)
  refine (Window.rect_emb_val ((cfgA A).win (2 : Fin 8)) t y a (hk := rfl)).trans ?_
  show ![0, (ownWord A.1 (crd A t)).toNat, 0, 0] a * ![1, 1, 1024, 2048] a + (y a).val = _
  rw [ownWord_eq]
  have h0 : (y 0).val < 1 := (y 0).isLt
  have h1 : (y 1).val < 1 := (y 1).isLt
  match a with
  | 0 => show 0 * 1 + (y 0).val = 0; omega
  | 1 => show (T0 A.1 (tile (crd A t 0))).toNat * 1 + (y 1).val = (T0 A.1 (tile (crd A t 0))).toNat; omega
  | 2 => show 0 * 1024 + (y 2).val = (y 2).val; omega
  | 3 => show 0 * 2048 + (y 3).val = (y 3).val; omega

theorem b4_eq (c : Dev nD) (t : Fin (cfgA A).N) (y : S1x1x1024x1024.Idx) :
    b4 A m ρ c t y = m ((c : Thread nD τ).loc main_arg6) (inD (expert A t) y) := by
  show m ((c : Thread nD τ).loc main_arg6) ((((cfgA A).win (4 : Fin 8)).rect t).emb y) = _
  refine congrArg _ (funext fun a => Fin.ext ?_)
  refine (Window.rect_emb_val ((cfgA A).win (4 : Fin 8)) t y a (hk := rfl)).trans ?_
  show ![0, (ownWord A.1 (crd A t)).toNat, 0, 0] a * ![1, 1, 1024, 1024] a + (y a).val = _
  rw [ownWord_eq]
  have h0 : (y 0).val < 1 := (y 0).isLt
  have h1 : (y 1).val < 1 := (y 1).isLt
  match a with
  | 0 => show 0 * 1 + (y 0).val = 0; omega
  | 1 => show (T0 A.1 (tile (crd A t 0))).toNat * 1 + (y 1).val = (T0 A.1 (tile (crd A t 0))).toNat; omega
  | 2 => show 0 * 1024 + (y 2).val = (y 2).val; omega
  | 3 => show 0 * 1024 + (y 3).val = (y 3).val; omega

theorem b3_eq (c : Dev nD) (t : Fin (cfgA A).N) (y : S1x1x1x2048.Idx) :
    b3 A m ρ c t y = m ((c : Thread nD τ).loc main_arg5) (inGUb (expert A t) y) := by
  show m ((c : Thread nD τ).loc main_arg5) ((((cfgA A).win (3 : Fin 8)).rect t).emb y) = _
  refine congrArg _ (funext fun a => Fin.ext ?_)
  refine (Window.rect_emb_val ((cfgA A).win (3 : Fin 8)) t y a (hk := rfl)).trans ?_
  show ![0, (ownWord A.1 (crd A t)).toNat, 0, 0] a * ![1, 1, 1, 2048] a + (y a).val = _
  rw [ownWord_eq]
  have h0 : (y 0).val < 1 := (y 0).isLt
  have h1 : (y 1).val < 1 := (y 1).isLt
  have h2 : (y 2).val < 1 := (y 2).isLt
  match a with
  | 0 => show 0 * 1 + (y 0).val = 0; omega
  | 1 => show (T0 A.1 (tile (crd A t 0))).toNat * 1 + (y 1).val = (T0 A.1 (tile (crd A t 0))).toNat; omega
  | 2 => show 0 * 1 + (y 2).val = 0; omega
  | 3 => show 0 * 2048 + (y 3).val = (y 3).val; omega

theorem b5_eq (c : Dev nD) (t : Fin (cfgA A).N) (y : S1x1x1x1024.Idx) :
    b5 A m ρ c t y = m ((c : Thread nD τ).loc main_arg7) (inDb (expert A t) y) := by
  show m ((c : Thread nD τ).loc main_arg7) ((((cfgA A).win (5 : Fin 8)).rect t).emb y) = _
  refine congrArg _ (funext fun a => Fin.ext ?_)
  refine (Window.rect_emb_val ((cfgA A).win (5 : Fin 8)) t y a (hk := rfl)).trans ?_
  show ![0, (ownWord A.1 (crd A t)).toNat, 0, 0] a * ![1, 1, 1, 1024] a + (y a).val = _
  rw [ownWord_eq]
  have h0 : (y 0).val < 1 := (y 0).isLt
  have h1 : (y 1).val < 1 := (y 1).isLt
  have h2 : (y 2).val < 1 := (y 2).isLt
  match a with
  | 0 => show 0 * 1 + (y 0).val = 0; omega
  | 1 => show (T0 A.1 (tile (crd A t 0))).toNat * 1 + (y 1).val = (T0 A.1 (tile (crd A t 0))).toNat; omega
  | 2 => show 0 * 1 + (y 2).val = 0; omega
  | 3 => show 0 * 1024 + (y 3).val = (y 3).val; omega

theorem rows_val (i : grid0.Coords) : (BitVec.ofNat 32 (i 0).val).toNat = (i 0).val := by
  have h : (i 0).val < 304 := (i 0).isLt
  rw [BitVec.toNat_ofNat, Nat.mod_eq_of_lt (by omega)]

theorem b0_eq (c : Dev nD) (t : Fin (cfgA A).N) (y : S512x256.Idx) :
    b0 A m ρ c t y = m ((c : Thread nD τ).loc main_arg2) (inWords (crd A t 0) y) := by
  show m ((c : Thread nD τ).loc main_arg2) ((((cfgA A).win (0 : Fin 8)).rect t).emb y) = _
  refine congrArg _ (funext fun a => Fin.ext ?_)
  refine (Window.rect_emb_val ((cfgA A).win (0 : Fin 8)) t y a (hk := rfl)).trans ?_
  show ![(BitVec.ofNat 32 (crd A t 0).val).toNat, 0] a * ![512, 256] a + (y a).val = _
  rw [rows_val]
  match a with
  | 0 => show (crd A t 0).val * 512 + (y 0).val = 512 * (crd A t 0).val + (y 0).val; omega
  | 1 => show 0 * 256 + (y 1).val = (y 1).val; omega

theorem b1_eq (c : Dev nD) (t : Fin (cfgA A).N) (y : S512x256.Idx) :
    b1 A m ρ c t y = m ((c : Thread nD τ).loc main_arg3) (inWords (crd A t 0) y) := by
  show m ((c : Thread nD τ).loc main_arg3) ((((cfgA A).win (1 : Fin 8)).rect t).emb y) = _
  refine congrArg _ (funext fun a => Fin.ext ?_)
  refine (Window.rect_emb_val ((cfgA A).win (1 : Fin 8)) t y a (hk := rfl)).trans ?_
  show ![(BitVec.ofNat 32 (crd A t 0).val).toNat, 0] a * ![512, 256] a + (y a).val = _
  rw [rows_val]
  match a with
  | 0 => show (crd A t 0).val * 512 + (y 0).val = 512 * (crd A t 0).val + (y 0).val; omega
  | 1 => show 0 * 256 + (y 1).val = (y 1).val; omega

/-- At a point in use that fills nothing, the scratches of the point before are the ones it would fill. -/
theorem kept (c : Dev nD) (t : Fin (cfgA A).N) (hu : Used A.1 (crd A t)) (h : ¬ Fills A.1 (crd A t)) :
    ∃ t' : Fin (cfgA A).N, t'.val + 1 = t.val ∧ Used A.1 (crd A t') ∧ b2 A m ρ c t' = b2 A m ρ c t ∧ b4 A m ρ c t' = b4 A m ρ c t := by
  obtain ⟨h0, hw⟩ := kept_of_not_fills _ _ hu h
  have hN := N_eq A
  have ht := t.isLt
  have hpos : t.val ≠ 0 := by
    intro e; rw [crd_val, e] at h0; exact h0 rfl
  have e1 : t.val - 1 + 1 = t.val := by omega
  let t' : Fin (cfgA A).N := ⟨t.val - 1, by omega⟩
  have hc : (crd A t' 0).val + 1 = (crd A t 0).val := by rw [crd_val, crd_val]; exact e1
  rw [ownWord_eq, prevWord_eq A.1 (crd A t) (crd A t' 0) hc] at hw
  have he : expert A t' = expert A t := Fin.ext (by
    show (T0 A.1 (tile (crd A t' 0))).toNat = (T0 A.1 (tile (crd A t 0))).toNat
    rw [hw])
  exact ⟨t', e1, used_pred _ _ _ hc hu, funext fun y => by rw [b2_eq, b2_eq, he], funext fun y => by rw [b4_eq, b4_eq, he]⟩

end Cert.Proof.ExpertsBits

end
-- ==== Proof.ExpBLaunch.lean ====
/- The launch of the experts' call: from any memory whose table names experts that exist it runs to the end, with the two
   results at what the pipeline computes, the arguments unchanged and every counter at zero. -/
module

public import proofs.«01_k».proof.Defs
public import proofs.«01_k».proof.Proof.Gen.Pre_experts_exist
public import proofs.«01_k».proof.Proof.ExpBBody

@[expose] public section

set_option maxRecDepth 16384
set_option Elab.async false

noncomputable section

namespace Cert.Proof.ExpertsBits

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (A : Adm) (m : (ℓ : Loc nD τ sig) → Buf (Elt Bits) ℓ) (ρ : Dev nD → PrngReg)

/-- The memory's tables are the ones the pipeline is set up at. -/
abbrev Holds : Prop := ∀ (c : Dev nD) (j : Fin 2), m ((c : Thread nD τ).loc (pre0.ref j)) = A.1 j

abbrev EP : Emb (UR sig nD τ) 𝕄 := emb₁

def u₀ : UR sig nD τ :=
  initOf (Pipeline.cells (pcs A) ((launch0 (F := Bits)).cellOf_inj fun _ => A))
    (Pipeline.launchToks (pcs A) ((launch0 (F := Bits)).cellOf_inj fun _ => A))

theorem share_eq (c : Dev nD) (w : Fin (cfgA A).W) : (dats A m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) A.1 ∗ Pipeline.scopedRest spec0 c) ⊢ (dats A m ρ 0 c).Φ 0 := by
  rw [prefHeld_eq, scopedRest0_eq, show (dats A m ρ 0 c).Φ 0 = Phi A m ρ c 0 from rfl]
  unfold Phi
  iintro ⟨-, ⟨HT0, HT1⟩, ⟨%a0, HS0⟩, ⟨%a1, HS1⟩⟩
  iexists a0, a1; isplitr; swap
  · isplitl [HS0]; · iexact HS0
    isplitl [HS1]; · iexact HS1
    isplitl [HT0]; · iexact HT0
    iexact HT1
  · ipureintro; intro t h; exact absurd h (Nat.succ_ne_zero _)

theorem phi_exit (c : Dev nD) : (dats A m ρ 0 c).Φ (Fin.last (cfgA A).N) ⊢ iprop(BI.emp ∗ Pipeline.scopedRest spec0 c) := by
  rw [scopedRest0_eq, show (dats A m ρ 0 c).Φ (Fin.last (cfgA A).N) = Phi A m ρ c (Fin.last _) from rfl]
  unfold Phi
  iintro ⟨%a0, %a1, -, HS0, HS1, -, -⟩
  isplitr; · iempintro
  isplitl [HS0]
  · iexists a0; iexact HS0
  iexists a1; iexact HS1

/-- Where the run ends: each window's array as the pipeline leaves it, each table as it was. -/
def Ends : PUnit × MemSt nD τ sig (Elt Bits) → Prop := fun r =>
  ∀ c : Dev nD, (∀ w : Fin (cfgA A).W, r.2.mem (((cfgA A).win w).arr.view.loc (c : Thread nD τ)) = (dats A m ρ 0 c).arrAt w (cfgA A).N)
    ∧ ∀ j, r.2.mem ((c : Thread nD τ).loc (pre0.ref j)) = A.1 j

set_option backward.isDefEq.respectTransparency.types false in
set_option maxHeartbeats 4000000 in
theorem run_ends (hp : Holds A m) : θ_run (defs (F := Bits)) (onTc (τ := τ) (main (F := Bits))) (s₀ m ρ) (fun r => Ends A m ρ r ∧ r.2.sem = fun _ => 0) :=
  Pipeline.θ_run_region_noSem_pf_quiescent pcfgs (fun _ => A) (dats A m ρ) () ((launch0 (F := Bits)).cellOf_inj fun _ => A) (0 : Fin 1)
    (launch0 (F := Bits)).win.to₀ (launch0 (F := Bits)).pre EP defs₀ Variants.none m ρ main
    (hbody := fun c => (body_obligation A m ρ c).loose) (hne := (launch0 (F := Bits)).block_pos)
    (harr := (launch0 (F := Bits)).arr_whole) (hstage := (launch0 (F := Bits)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs A) (dats A m ρ) 0 (launch0 (F := Bits)).win.arr_inj c (launch0 (F := Bits)).arr_whole
      (share_eq A m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro A m ρ)
    (hout := phi_exit A m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, at the results and the arguments by name. -/
theorem run_main (hp : Holds A m) : θ_run (defs (F := Bits)) (onTc (τ := τ) (main (F := Bits))) ⟨m, fun _ => 0, ρ⟩ (fun r => (∀ c : Dev nD,
      (r.2.mem ((c.tc : Thread nD τ).loc main_v0_0) = (dats A m ρ 0 c).arrAt (6 : Fin 8) (cfgA A).N
        ∧ r.2.mem ((c.tc : Thread nD τ).loc main_v0_1) = (dats A m ρ 0 c).arrAt (7 : Fin 8) (cfgA A).N)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨⟨(h.1 c).1 (6 : Fin 8), (h.1 c).1 (7 : Fin 8)⟩, ((h.1 c).2 0).trans (hp c 0).symm, ((h.1 c).2 1).trans (hp c 1).symm,
    ((h.1 c).1 (0 : Fin 8)).trans ((dats A m ρ 0 c).arrAt_in (0 : Fin 8) rfl _), ((h.1 c).1 (1 : Fin 8)).trans ((dats A m ρ 0 c).arrAt_in (1 : Fin 8) rfl _), ((h.1 c).1 (2 : Fin 8)).trans ((dats A m ρ 0 c).arrAt_in (2 : Fin 8) rfl _), ((h.1 c).1 (3 : Fin 8)).trans ((dats A m ρ 0 c).arrAt_in (3 : Fin 8) rfl _), ((h.1 c).1 (4 : Fin 8)).trans ((dats A m ρ 0 c).arrAt_in (4 : Fin 8) rfl _), ((h.1 c).1 (5 : Fin 8)).trans ((dats A m ρ 0 c).arrAt_in (5 : Fin 8) rfl _)⟩, h.2⟩)
    (run_ends A m ρ hp)

/-! ## The tables a memory holds, under the precondition -/

/-- The tables of a memory. -/
def tablesOf : Tables := fun j => m (((0 : Dev nD) : Thread nD τ).loc (pre0.ref j))

/-- A word at least zero and below 32, signed, is below 32. -/
theorem word_lt (w : BitVec 32) (h : Scalar.andi (Scalar.cmpi .sge w 0#32) (Scalar.cmpi .slt w 32#32) = 1#1) : w.toNat < 32 := by
  have h1 : (0#32).sle w = true := by
    change BitVec.ofBool ((0#32).sle w) &&& BitVec.ofBool (w.slt 32#32) = 1#1 at h
    by_contra hn; rw [Bool.not_eq_true] at hn; rw [hn] at h
    rcases Bool.eq_false_or_eq_true (w.slt 32#32) with e | e <;> rw [e] at h <;> exact absurd h (by decide)
  have h2 : w.slt 32#32 = true := by
    change BitVec.ofBool ((0#32).sle w) &&& BitVec.ofBool (w.slt 32#32) = 1#1 at h
    rw [h1] at h
    by_contra hn; rw [Bool.not_eq_true] at hn; rw [hn] at h; exact absurd h (by decide)
  rw [BitVec.sle, decide_eq_true_eq] at h1
  rw [BitVec.slt, decide_eq_true_eq] at h2
  have e0 : (0#32).toInt = 0 := by decide
  have e32 : (32#32).toInt = 32 := by decide
  rw [e0] at h1; rw [e32] at h2
  rw [BitVec.toInt_eq_toNat_cond] at h1 h2
  have := w.isLt
  split_ifs at h1 h2 <;> omega

theorem expert_in (h : Cert.Pre_Experts m) (x : S304.Idx) : (T0 (tablesOf m) x).toNat < 32 :=
  word_lt _ (congrFun (h 0) x)

theorem ok_tables (h : Cert.Pre_Experts m) : ok0 (F := Bits) (tablesOf m) := by
  have key : ∀ i : grid0.Coords, (ownWord (tablesOf m) i).toNat < 32 := fun i => by rw [ownWord_eq]; exact expert_in m h _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    have hk := key i
    match a with
    | 0 => show (0 + 1) * 1 ≤ 4; omega
    | 1 => show ((ownWord (tablesOf m) i).toNat + 1) * 1 ≤ 32; omega
    | 2 => exact Nat.le_refl _
    | 3 => exact Nat.le_refl _

/-- The pipeline of a memory the precondition holds of. -/
def admOf (h : Cert.Pre_Experts m) : Adm := ⟨tablesOf m, ok_tables m h⟩

theorem holds_admOf (h : Cert.Pre_Experts m) : Holds (admOf m h) m := fun c j => by
  obtain rfl : c = 0 := Subsingleton.elim _ _
  rfl

theorem frame : Cert.quiescent_Experts := fun m ρ h =>
  (θ_run (defs (F := Bits)) _ _).mono (fun _ r => ⟨fun c => (r.1 c).2, r.2⟩) (run_main (admOf m h) m ρ (holds_admOf m h))

end Cert.Proof.ExpertsBits

end
-- ==== Proof.CombMath.lean ====
/-
  The weighted sum of the experts' rows and its layer norm, on extended reals: what one row of the layer's result is of
  that row's features, weights and gate.
-/
module

public import Idealize.ShloMosaic.Lib.Pointwise

@[expose] public section

noncomputable section

namespace Cert.Proof.CombMath

open Idealize.ShloMosaic
open scoped BigOperators

/-- The bf16 value in a word's low half, and the one in its high half. -/
def low (w : BitVec 32) : EReal := Ideal.ofBits .f32 (w <<< (16#32 : BitVec 32))
def high (w : BitVec 32) : EReal := Ideal.ofBits .f32 (w &&& 4294901760#32)

/-- A value of a row whose quarters lie in four places. -/
def quarter (a b a' b' : Fin 256 → EReal) (j : Fin 1024) : EReal :=
  if j.val < 256 then a ⟨j.val % 256, by omega⟩
  else if j.val < 512 then b ⟨j.val % 256, by omega⟩
  else if j.val < 768 then a' ⟨j.val % 256, by omega⟩
  else b' ⟨j.val % 256, by omega⟩

/-- The row before its norm: the scaled input and the gated sum of the four weighted rows. -/
def pre (x gate : Fin 1024 → EReal) (w : Fin 4 → EReal) (y : Fin 4 → Fin 1024 → EReal) (j : Fin 1024) : EReal :=
  Ideal.ofBits .f32 0x3FD744FD#32 * x j + gate j * (w 0 * y 0 j + w 1 * y 1 j + w 2 * y 2 j + w 3 * y 3 j)

/-- The mean of a row. -/
def mean (z : Fin 1024 → EReal) : EReal := Ideal.div (∑ k : Fin 1024, z k) (Ideal.ofBits .f32 0x44800000#32)

/-- The layer norm of a row, scaled and shifted. -/
def norm (z g b : Fin 1024 → EReal) (j : Fin 1024) : EReal :=
  (z j - mean z) * Ideal.rsqrt (mean (fun k => (z k - mean z) * (z k - mean z)) + Ideal.ofBits .f32 0x3727C5AC#32) * g j + b j

/-- The features of row `r` at its `k`th expert: the low halves of its words in each array, then the high ones. -/
def feat (ya yb : (⟨3, ![4, 32768, 256]⟩ : Shape).Idx → BitVec 32) (r : Fin 32768) (k : Fin 4) : Fin 1024 → EReal :=
  quarter (fun q => low (ya (ix3 k r q))) (fun q => low (yb (ix3 k r q))) (fun q => high (ya (ix3 k r q))) (fun q => high (yb (ix3 k r q)))

/-- Row `r` of the second half of the layer's result. -/
def row (x : (⟨2, ![32768, 1024]⟩ : Shape).Idx → EReal) (ya yb : (⟨3, ![4, 32768, 256]⟩ : Shape).Idx → BitVec 32)
    (route : (⟨2, ![16, 32768]⟩ : Shape).Idx → EReal) (mods : (⟨3, ![9, 1, 6144]⟩ : Shape).Idx → EReal)
    (g b : (⟨2, ![4, 1024]⟩ : Shape).Idx → EReal) (r : Fin 32768) : Fin 1024 → EReal :=
  norm (pre (fun k => x (ix2 r k)) (fun k => mods (ix3 ⟨r.val / 4096, by omega⟩ 0 ⟨5120 + k.val, by omega⟩)) (fun k => route (ix2 ⟨4 + k.val, by omega⟩ r))
    (feat ya yb r)) (fun k => g (ix2 3 k)) (fun k => b (ix2 3 k))

/-- The layer's result: the first half as it was, the second half row by row. -/
def out (x : (⟨2, ![32768, 1024]⟩ : Shape).Idx → EReal) (ya yb : (⟨3, ![4, 32768, 256]⟩ : Shape).Idx → BitVec 32)
    (route : (⟨2, ![16, 32768]⟩ : Shape).Idx → EReal) (mods : (⟨3, ![9, 1, 6144]⟩ : Shape).Idx → EReal)
    (g b : (⟨2, ![4, 1024]⟩ : Shape).Idx → EReal) (o : (⟨2, ![65536, 1024]⟩ : Shape).Idx → EReal) (i : Fin 65536) (j : Fin 1024) : EReal :=
  if i.val < 32768 then o (ix2 i j) else row x ya yb route mods g b ⟨i.val % 32768, by omega⟩ j

end Cert.Proof.CombMath

end

end
-- ==== Proof.ExpMath.lean ====
/-
  The experts' arithmetic on extended reals: a row's features, its two products with the activation between them, and
  the identity of the activation's two spellings.
-/
module

public import Idealize.ShloMosaic.Lib.Pointwise
public import proofs.«01_k».proof.Proof.CombMath

@[expose] public section

noncomputable section

namespace Cert.Proof.ExpMath

open Idealize.ShloMosaic
open scoped BigOperators

/-- The pattern of one half is one half. -/
theorem half_eq : Ideal.ofBits .f32 0x3F000000#32 = ((1 / 2 : ℝ) : EReal) := by
  simp [Ideal.ofBits, Ideal.ieee, -EReal.coe_mul]; norm_num

theorem sigmoid_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have p : Real.exp (1 / 2 * r) * Real.exp (-(1 / 2 * r)) = 1 := by
    rw [← Real.exp_add]; simp
  have h1 := Real.exp_pos (1 / 2 * r)
  have h2 := Real.exp_pos (-(1 / 2 * r))
  rw [Real.tanh_eq_sinh_div_cosh, Real.sinh_eq, Real.cosh_eq, e]
  generalize Real.exp (1 / 2 * r) = u at *
  generalize Real.exp (-(1 / 2 * r)) = v at *
  have hu : u = v⁻¹ := eq_inv_of_mul_eq_one_left p
  subst hu
  field_simp
  ring

/-- Half the hyperbolic tangent of half the argument, and a half: the logistic function. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_eq]
  change _ = Ideal.logistic x
  induction x with
  | bot =>
    rw [EReal.coe_mul_bot_of_pos (by norm_num), Ideal.tanh_bot, Ideal.logistic_bot, ← EReal.coe_one, ← EReal.coe_neg, ← EReal.coe_mul,
      ← EReal.coe_add, ← EReal.coe_zero]
    congr 1; norm_num
  | top =>
    rw [EReal.coe_mul_top_of_pos (by norm_num), Ideal.tanh_top, Ideal.logistic_top, ← EReal.coe_one, ← EReal.coe_mul,
      ← EReal.coe_add]
    congr 1; norm_num
  | coe r =>
    rw [← EReal.coe_mul, Ideal.tanh_coe, ← EReal.coe_mul, ← EReal.coe_add, Ideal.logistic_coe, sigmoid_real]

/-- The activation of a gate and an up value. -/
def act (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (-(Ideal.ofBits .f32 0x3FD9DB23#32 * min g (Ideal.ofBits .f32 0x40E00000#32)))))

/-- The features of row `n`: the low halves of its words in each array, then the high ones. -/
def feat (a b : (⟨2, ![155648, 256]⟩ : Shape).Idx → BitVec 32) (n : Fin 155648) (k : Fin 1024) : EReal :=
  if k.val < 256 then CombMath.low (a (ix2 n ⟨k.val % 256, by omega⟩))
  else if k.val < 512 then CombMath.low (b (ix2 n ⟨k.val % 256, by omega⟩))
  else if k.val < 768 then CombMath.high (a (ix2 n ⟨k.val % 256, by omega⟩))
  else CombMath.high (b (ix2 n ⟨k.val % 256, by omega⟩))

/-- One value of a row's first product at an expert, with its bias. -/
def lin (x : Fin 1024 → EReal) (W : (⟨4, ![4, 32, 1024, 2048]⟩ : Shape).Idx → EReal) (b : (⟨4, ![4, 32, 1, 2048]⟩ : Shape).Idx → EReal)
    (e : Fin 32) (f : Fin 2048) : EReal :=
  ∑ d : Fin 1024, x d * W (ix4 0 e d f) + b (ix4 0 e 0 f)

/-- One activated value of a row at an expert. -/
def hid (x : Fin 1024 → EReal) (W : (⟨4, ![4, 32, 1024, 2048]⟩ : Shape).Idx → EReal) (b : (⟨4, ![4, 32, 1, 2048]⟩ : Shape).Idx → EReal)
    (e : Fin 32) (f : Fin 1024) : EReal :=
  act (lin x W b e ⟨f.val, by omega⟩) (lin x W b e ⟨1024 + f.val, by omega⟩)

/-- One value of a row's result at an expert. -/
def res (x : Fin 1024 → EReal) (W : (⟨4, ![4, 32, 1024, 2048]⟩ : Shape).Idx → EReal) (b : (⟨4, ![4, 32, 1, 2048]⟩ : Shape).Idx → EReal)
    (Wd : (⟨4, ![4, 32, 1024, 1024]⟩ : Shape).Idx → EReal) (bd : (⟨4, ![4, 32, 1, 1024]⟩ : Shape).Idx → EReal)
    (e : Fin 32) (j : Fin 1024) : EReal :=
  ∑ f : Fin 1024, hid x W b e f * Wd (ix4 0 e f j) + bd (ix4 0 e 0 j)

/-- The result of row `n`: its tile's expert's, zero where the tile is not used. -/
def row (te : (⟨1, ![304]⟩ : Shape).Idx → BitVec 32) (nu : (⟨1, ![1]⟩ : Shape).Idx → BitVec 32)
    (a b : (⟨2, ![155648, 256]⟩ : Shape).Idx → BitVec 32)
    (W : (⟨4, ![4, 32, 1024, 2048]⟩ : Shape).Idx → EReal) (bg : (⟨4, ![4, 32, 1, 2048]⟩ : Shape).Idx → EReal)
    (Wd : (⟨4, ![4, 32, 1024, 1024]⟩ : Shape).Idx → EReal) (bd : (⟨4, ![4, 32, 1, 1024]⟩ : Shape).Idx → EReal)
    (n : Fin 155648) (j : Fin 1024) : EReal :=
  if IntOp.cmpi .slt (BitVec.ofNat 32 (n.val / 512)) (nu (ix1 0)) = 1#1 then
    res (feat a b n) W bg Wd bd ⟨(te (ix1 ⟨n.val / 512, by omega⟩)).toNat % 32, Nat.mod_lt _ (by omega)⟩ j
  else 0

/-- The two halves of the results: rows `2n` and `2n + 1` of half `q` are quarters `q` and `q + 2` of row `n`'s result. -/
def outAt (q : Nat) (hq : q < 2) (te : (⟨1, ![304]⟩ : Shape).Idx → BitVec 32) (nu : (⟨1, ![1]⟩ : Shape).Idx → BitVec 32)
    (a b : (⟨2, ![155648, 256]⟩ : Shape).Idx → BitVec 32)
    (W : (⟨4, ![4, 32, 1024, 2048]⟩ : Shape).Idx → EReal) (bg : (⟨4, ![4, 32, 1, 2048]⟩ : Shape).Idx → EReal)
    (Wd : (⟨4, ![4, 32, 1024, 1024]⟩ : Shape).Idx → EReal) (bd : (⟨4, ![4, 32, 1, 1024]⟩ : Shape).Idx → EReal)
    (r : Fin 311296) (j : Fin 256) : EReal :=
  row te nu a b W bg Wd bd ⟨r.val / 2, by omega⟩ ⟨512 * (r.val % 2) + 256 * q + j.val, by omega⟩

end Cert.Proof.ExpMath

end

end
-- ==== Proof.ExpISched.lean ====
/- The experts' pipeline at the tables a launch memory holds: the words its control reads, which points fill the
   scratches and which write zeros, the write-backs, and what each window's block is. -/
module

public import proofs.«01_k».proof.Proof.Gen.ExpertsIdeal.Flash.Runs
public import Idealize.ShloMosaic.Lib.Pipeline.Kit
public import Idealize.ShloMosaic.Lib.Pipeline.TableIdle
public import Idealize.ShloMosaic.Lib.Pipeline.Value

@[expose] public section

set_option maxRecDepth 16384
set_option Elab.async false

noncomputable section

namespace Cert.Proof.ExpertsIdeal

open Cert.ExpertsIdeal Cert.ExpertsIdeal.Gen
open Idealize.ShloMosaic Idealize.ShloMosaic.TcCoe Idealize.ShloMosaic.Tactic
open Idealize.ShloMosaic.Pipeline (Dat Cfg Window)

/-- The tables' contents, as the pipeline takes them. -/
abbrev Tables := pre0.Contents (Elt Ideal)

/-- The first table: the expert each tile of rows goes through; the second: how many tiles are in use. -/
abbrev T0 (pf : Tables) : S304.Idx → BitVec 32 := pf 0
abbrev T1 (pf : Tables) : S1.Idx → BitVec 32 := pf 1

variable (pf : Tables) (i : grid0.Coords)

/-- The word at a tile's own position, the one before it, and the count, as the body reads them. -/
abbrev ownWord : BitVec 32 := View.readAt (Elt Ideal) (tbM0_0).view (Rect.unit (s := S304) (k0_off1 i) S1.size (k0_off1_inb i)).toLoadRect (T0 pf) (Shape.Idx.first (numel1_S1.symm ▸ Nat.one_pos))
abbrev prevWord : BitVec 32 := View.readAt (Elt Ideal) (tbM0_0).view (Rect.unit (s := S304) (k0_off2 i) S1.size (k0_off2_inb i)).toLoadRect (T0 pf) (Shape.Idx.first (numel1_S1.symm ▸ Nat.one_pos))
abbrev countWord : BitVec 32 := View.readAt (Elt Ideal) (tbM0_1).view (Rect.unit (s := S1) ![0] S1.size inb_S1_S1_0).toLoadRect (T1 pf) (Shape.Idx.first (numel1_S1.symm ▸ Nat.one_pos))

/-- The body fills the scratches at this point. -/
abbrev Fills : Prop := Scalar.cmpi .ne (Scalar.extui (Scalar.andi (Scalar.cmpi .slt (BitVec.ofNat 32 (i 0).val) (countWord pf)) (Scalar.ori (Scalar.cmpi .eq (BitVec.ofNat 32 (i 0).val) 0#32) (Scalar.cmpi .ne (ownWord pf i) (prevWord pf i))))) 0#32 = 1#1
/-- The tile of this point is in use. -/
abbrev Used : Prop := k0_cond2 i (countWord pf) = 1#1

theorem bit_cases (b : BitVec 1) : b = 0#1 ∨ b = 1#1 := by
  rcases b with ⟨⟨v, hv⟩⟩
  have : v = 0 ∨ v = 1 := by omega
  rcases this with rfl | rfl
  · exact Or.inl rfl
  · exact Or.inr rfl

theorem used_iff : Used pf i ↔ Scalar.cmpi .slt (BitVec.ofNat 32 (i 0).val) (countWord pf) = 1#1 := by
  show Scalar.cmpi .ne (Scalar.extui (Scalar.cmpi .slt (BitVec.ofNat 32 (i 0).val) (countWord pf))) 0#32 = 1#1 ↔ _
  generalize Scalar.cmpi .slt (BitVec.ofNat 32 (i 0).val) (countWord pf) = b
  rcases bit_cases b with rfl | rfl <;> decide

theorem unused_iff : k0_cond3 i (countWord pf) = 1#1 ↔ ¬ Used pf i := by
  rw [used_iff]
  show Scalar.cmpi .ne (Scalar.extui (Scalar.xori (Scalar.cmpi .slt (BitVec.ofNat 32 (i 0).val) (countWord pf)) 1#1)) 0#32 = 1#1 ↔ _
  generalize Scalar.cmpi .slt (BitVec.ofNat 32 (i 0).val) (countWord pf) = b
  rcases bit_cases b with rfl | rfl <;> decide

theorem used_of_fills (h : Fills pf i) : Used pf i := by
  rw [used_iff]
  rcases bit_cases (Scalar.cmpi .slt (BitVec.ofNat 32 (i 0).val) (countWord pf)) with h' | h'
  · unfold Fills at h; rw [h'] at h
    rcases bit_cases (Scalar.ori (Scalar.cmpi .eq (BitVec.ofNat 32 (i 0).val) 0#32) (Scalar.cmpi .ne (ownWord pf i) (prevWord pf i))) with h2 | h2 <;> rw [h2] at h <;> exact absurd h (by decide)
  · exact h'

theorem cmpi_ne_one {w : ℕ} (a b : BitVec w) : Scalar.cmpi .ne a b = 1#1 ↔ a ≠ b := by
  show BitVec.ofBool (a != b) = 1#1 ↔ _
  by_cases h : a = b
  · subst h; simp
  · rw [show (a != b) = true from by simp [h]]; exact ⟨fun _ => h, fun _ => rfl⟩

theorem cmpi_eq_one {w : ℕ} (a b : BitVec w) : Scalar.cmpi .eq a b = 1#1 ↔ a = b := by
  show BitVec.ofBool (a == b) = 1#1 ↔ _
  by_cases h : a = b
  · subst h; simp
  · rw [show (a == b) = false from by simp [h]]; exact ⟨fun e => absurd e (by decide), fun e => absurd e h⟩

/-- A point in use that fills nothing is not the first, and its tile's expert is the one of the tile before. -/
theorem kept_of_not_fills (hu : Used pf i) (h : ¬ Fills pf i) : BitVec.ofNat 32 (i 0).val ≠ 0#32 ∧ ownWord pf i = prevWord pf i := by
  rw [used_iff] at hu
  unfold Fills at h; rw [hu] at h
  rcases bit_cases (Scalar.cmpi .eq (BitVec.ofNat 32 (i 0).val) 0#32) with h1 | h1 <;>
    rcases bit_cases (Scalar.cmpi .ne (ownWord pf i) (prevWord pf i)) with h2 | h2 <;>
    rw [h1, h2] at h <;> first | exact absurd (by decide) h | skip
  refine ⟨fun e => ?_, ?_⟩
  · rw [← cmpi_eq_one, h1] at e; exact absurd e (by decide)
  · by_contra e; rw [← ne_eq, ← cmpi_ne_one, h2] at e; exact absurd e (by decide)

/-- A tile's position in the first table. -/
def tile (n : Fin 304) : S304.Idx := fun | 0 => n

theorem ownWord_eq : ownWord pf i = T0 pf (tile (i 0)) := by
  show T0 pf _ = _
  refine congrArg (T0 pf) (funext fun a => Fin.ext ?_)
  obtain ⟨a, ha⟩ := a
  have hi : (i 0).val < 304 := (i 0).isLt
  obtain rfl : a = 0 := by have : a < 1 := ha; omega
  show (BitVec.ofNat 32 (i 0).val).toNat + 1 * 0 = _
  rw [BitVec.toNat_ofNat, Nat.mod_eq_of_lt (by omega)]; rfl

theorem prevWord_eq (n : Fin 304) (hn : n.val + 1 = (i 0).val) : prevWord pf i = T0 pf (tile n) := by
  show T0 pf _ = _
  refine congrArg (T0 pf) (funext fun a => Fin.ext ?_)
  obtain ⟨a, ha⟩ := a
  have hi : (i 0).val < 304 := (i 0).isLt
  obtain rfl : a = 0 := by have : a < 1 := ha; omega
  show (Scalar.maxsi (Scalar.subi (BitVec.ofNat 32 (i 0).val) 1#32) 0#32).toNat + 1 * 0 = n.val
  have key : ∀ k : Fin 304, (Scalar.maxsi (Scalar.subi (BitVec.ofNat 32 (k.val + 1)) 1#32) 0#32).toNat = k.val := by decide +kernel
  rw [← hn, key]; omega

theorem countWord_eq : countWord pf = T1 pf (Shape.Idx.first (numel1_S1.symm ▸ Nat.one_pos)) := by
  show T1 pf _ = _
  refine congrArg (T1 pf) (funext fun a => Fin.ext ?_)
  obtain ⟨a, ha⟩ := a
  obtain rfl : a = 0 := by have : a < 1 := ha; omega
  rfl

/-- Points in use are the first ones. -/
theorem used_pred (i' : grid0.Coords) (h : (i' 0).val + 1 = (i 0).val) (hu : Used pf i) : Used pf i' := by
  rw [used_iff] at hu ⊢
  have hi : (i 0).val < 304 := (i 0).isLt
  generalize countWord pf = c at hu ⊢
  have hlt : (i' 0).val < 304 := (i' 0).isLt
  rw [← h] at hu
  change BitVec.ofBool ((BitVec.ofNat 32 ((i' 0).val + 1)).slt c) = 1#1 at hu
  show BitVec.ofBool ((BitVec.ofNat 32 (i' 0).val).slt c) = 1#1
  generalize (i' 0).val = k at hu hlt
  have h0 : ∀ n, n < 306 → (BitVec.ofNat 32 n).toInt = (n : ℤ) := by
    intro n hn
    rw [BitVec.toInt_eq_toNat_cond, BitVec.toNat_ofNat, Nat.mod_eq_of_lt (by omega), if_pos (by omega)]
  rw [BitVec.slt, h0 _ (by omega)] at hu ⊢
  by_cases hd : (((k + 1 : ℕ)) : ℤ) < c.toInt
  · rw [show decide ((k : ℤ) < c.toInt) = true from by simp only [decide_eq_true_eq]; push_cast at hd; omega]; rfl
  · rw [show decide (((k + 1 : ℕ) : ℤ) < c.toInt) = false from by simpa using hd] at hu
    exact absurd hu (by decide)

end Cert.Proof.ExpertsIdeal

end
-- ==== Proof.ExpIData.lean ====
/- The experts' pipeline at the tables a launch memory holds: its blocks, what the scratches hold once filled, and what
   the body leaves in each output's staging buffer. -/
module

public import proofs.«01_k».proof.Proof.ExpISched
public import Idealize.ShloMosaic.Lib.Pipeline.Quiescent
public import Idealize.ShloMosaic.Lib.Claim
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.ExpertsIdeal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables whose blocks lie inside the arrays. -/
abbrev Adm := (pcfg0 (F := Ideal)).Adm

variable (A : Adm)

/-- The pipeline at such tables, alone in the program. -/
abbrev cfgA : Pipeline.Cfg sig Λ₀ := cfg0 (F := Ideal) A
abbrev pcs : Fin 1 → Pipeline.Cfg sig Λ₀ := Pipeline.pin (pcfgs (F := Ideal)) fun _ => A

/-- A point's coordinates. -/
abbrev crd (t : Fin (cfgA A).N) : grid0.Coords := (cfgA A).grid.coords t

/-- The staging buffer of each window at a point, and that it is whole. -/
abbrev st0 (t : Fin (cfgA A).N) : Memref sig .tc .vmem S512x256 .i32 := spec0_0.stage ((cfgA A).slots t (0 : Fin 8))
abbrev st1 (t : Fin (cfgA A).N) : Memref sig .tc .vmem S512x256 .i32 := spec0_1.stage ((cfgA A).slots t (1 : Fin 8))
abbrev st2 (t : Fin (cfgA A).N) : Memref sig .tc .vmem S1x1x1024x2048 .f32 := spec0_2.stage ((cfgA A).slots t (2 : Fin 8))
abbrev st3 (t : Fin (cfgA A).N) : Memref sig .tc .vmem S1x1x1x2048 .f32 := spec0_3.stage ((cfgA A).slots t (3 : Fin 8))
abbrev st4 (t : Fin (cfgA A).N) : Memref sig .tc .vmem S1x1x1024x1024 .f32 := spec0_4.stage ((cfgA A).slots t (4 : Fin 8))
abbrev st5 (t : Fin (cfgA A).N) : Memref sig .tc .vmem S1x1x1x1024 .f32 := spec0_5.stage ((cfgA A).slots t (5 : Fin 8))
abbrev st6 (t : Fin (cfgA A).N) : Memref sig .tc .vmem S1024x256 .bf16 := spec0_6.stage ((cfgA A).slots t (6 : Fin 8))
abbrev st7 (t : Fin (cfgA A).N) : Memref sig .tc .vmem S1024x256 .bf16 := spec0_7.stage ((cfgA A).slots t (7 : Fin 8))
abbrev wh0 (t : Fin (cfgA A).N) : (st0 A t).IsWhole := hstage0_0 (((cfgA A).slots t (0 : Fin 8)).cast nbuf0_0)
abbrev wh1 (t : Fin (cfgA A).N) : (st1 A t).IsWhole := hstage0_1 (((cfgA A).slots t (1 : Fin 8)).cast nbuf0_1)
abbrev wh2 (t : Fin (cfgA A).N) : (st2 A t).IsWhole := hstage0_2 (((cfgA A).slots t (2 : Fin 8)).cast nbuf0_2)
abbrev wh3 (t : Fin (cfgA A).N) : (st3 A t).IsWhole := hstage0_3 (((cfgA A).slots t (3 : Fin 8)).cast nbuf0_3)
abbrev wh4 (t : Fin (cfgA A).N) : (st4 A t).IsWhole := hstage0_4 (((cfgA A).slots t (4 : Fin 8)).cast nbuf0_4)
abbrev wh5 (t : Fin (cfgA A).N) : (st5 A t).IsWhole := hstage0_5 (((cfgA A).slots t (5 : Fin 8)).cast nbuf0_5)
abbrev wh6 (t : Fin (cfgA A).N) : (st6 A t).IsWhole := hstage0_6 (((cfgA A).slots t (6 : Fin 8)).cast nbuf0_6)
abbrev wh7 (t : Fin (cfgA A).N) : (st7 A t).IsWhole := hstage0_7 (((cfgA A).slots t (7 : Fin 8)).cast nbuf0_7)

/-! ## Both outputs are written at every point, and written back at every point -/

/-- Whatever the count read, one of the two guarded parts of the body runs. -/
theorem cond_or (i : grid0.Coords) (w : BitVec 32) : k0_cond2 i w = 1#1 ∨ k0_cond3 i w = 1#1 := by
  show Scalar.cmpi .ne (Scalar.extui (Scalar.cmpi .slt (BitVec.ofNat 32 (i 0).val) w)) 0#32 = 1#1
    ∨ Scalar.cmpi .ne (Scalar.extui (Scalar.xori (Scalar.cmpi .slt (BitVec.ofNat 32 (i 0).val) w) 1#1)) 0#32 = 1#1
  generalize Scalar.cmpi .slt (BitVec.ofNat 32 (i 0).val) w = b
  rcases bit_cases b with rfl | rfl <;> decide

theorem not_idle (i : grid0.Coords) (w : BitVec 32) : (!(k0_cond2 i w == 1#1) && !(k0_cond3 i w == 1#1)) = false := by
  rcases cond_or i w with h | h
  · rw [h]; rfl
  · rw [h, Bool.and_eq_false_iff]; exact Or.inr rfl

theorem idle6 (i : grid0.Coords) : (cfgA A).idle (6 : Fin 8) i = false := not_idle i _
theorem idle7 (i : grid0.Coords) : (cfgA A).idle (7 : Fin 8) i = false := not_idle i _

/-- Point `t` works on tile `t`. -/
theorem crd_val : ∀ t : Fin (cfgA A).N, (crd A t 0).val = t.val := by
  show ∀ t : Fin grid0.N, (grid0.coords t 0).val = t.val
  decide +kernel

theorem N_eq : (cfgA A).N = 304 := by
  show grid0.N = 304
  decide +kernel

theorem flush6 (t : Fin (cfgA A).N) : ((cfgA A).win (6 : Fin 8)).flush t = true := by
  rw [Window.flush_eq_flushF]
  unfold Window.flushF
  rw [Bool.and_eq_true]
  refine ⟨rfl, ?_⟩
  by_cases h : t.val + 1 = (cfgA A).N
  · simp [h]
  · rw [Bool.or_eq_true]; refine Or.inr (decide_eq_true ⟨Nat.lt_of_le_of_ne t.isLt h, 0, ?_⟩)
    show (BitVec.ofNat 32 (crd A ⟨t.val + 1, _⟩ 0).val).toNat ≠ (BitVec.ofNat 32 (crd A t 0).val).toNat
    have hN := N_eq A
    have := t.isLt
    rw [crd_val, crd_val, BitVec.toNat_ofNat, BitVec.toNat_ofNat, Nat.mod_eq_of_lt (by show t.val + 1 < _; omega), Nat.mod_eq_of_lt (by omega)]
    show t.val + 1 ≠ _
    omega

theorem flush7 (t : Fin (cfgA A).N) : ((cfgA A).win (7 : Fin 8)).flush t = true := by
  rw [Window.flush_eq_flushF]
  unfold Window.flushF
  rw [Bool.and_eq_true]
  refine ⟨rfl, ?_⟩
  by_cases h : t.val + 1 = (cfgA A).N
  · simp [h]
  · rw [Bool.or_eq_true]; refine Or.inr (decide_eq_true ⟨Nat.lt_of_le_of_ne t.isLt h, 0, ?_⟩)
    show (BitVec.ofNat 32 (crd A ⟨t.val + 1, _⟩ 0).val).toNat ≠ (BitVec.ofNat 32 (crd A t 0).val).toNat
    have hN := N_eq A
    have := t.isLt
    rw [crd_val, crd_val, BitVec.toNat_ofNat, BitVec.toNat_ofNat, Nat.mod_eq_of_lt (by show t.val + 1 < _; omega), Nat.mod_eq_of_lt (by omega)]
    show t.val + 1 ≠ _
    omega

/-- So nothing of an earlier point is ever held in an output's buffer. -/
theorem fresh6 (n : ℕ) (h : n ≤ (cfgA A).N) : (cfgA A).fresh (6 : Fin 8) n = true := by
  rcases n with _ | n
  · exact Pipeline.Cfg.fresh_zero _ _
  · rw [Pipeline.Cfg.fresh_succ _ _ n h, flush6]; rfl

theorem fresh7 (n : ℕ) (h : n ≤ (cfgA A).N) : (cfgA A).fresh (7 : Fin 8) n = true := by
  rcases n with _ | n
  · exact Pipeline.Cfg.fresh_zero _ _
  · rw [Pipeline.Cfg.fresh_succ _ _ n h, flush7]; rfl

/-! ## The blocks and the scratches -/

variable (m : (ℓ : Loc nD τ sig) → Buf (Elt Ideal) ℓ) (ρ : Dev nD → PrngReg)

/-- A window's block at a point, read off its array at launch. -/
def iblk (c : Dev nD) (w : Fin (cfgA A).W) (t : Fin (cfgA A).N) : (((cfgA A).win w).xblock (crd A t)).Idx → Elt Ideal ((cfgA A).win w).elt :=
  (((cfgA A).win w).blk t).view.read (Elt Ideal) ((s₀ m ρ).mem (((cfgA A).win w).arr.view.loc (c : Thread nD τ)))

abbrev b0 (c : Dev nD) (t : Fin (cfgA A).N) : S512x256.Idx → Elt Ideal .i32 := iblk A m ρ c (0 : Fin 8) t
abbrev b1 (c : Dev nD) (t : Fin (cfgA A).N) : S512x256.Idx → Elt Ideal .i32 := iblk A m ρ c (1 : Fin 8) t
abbrev b2 (c : Dev nD) (t : Fin (cfgA A).N) : S1x1x1024x2048.Idx → Elt Ideal .f32 := iblk A m ρ c (2 : Fin 8) t
abbrev b3 (c : Dev nD) (t : Fin (cfgA A).N) : S1x1x1x2048.Idx → Elt Ideal .f32 := iblk A m ρ c (3 : Fin 8) t
abbrev b4 (c : Dev nD) (t : Fin (cfgA A).N) : S1x1x1024x1024.Idx → Elt Ideal .f32 := iblk A m ρ c (4 : Fin 8) t
abbrev b5 (c : Dev nD) (t : Fin (cfgA A).N) : S1x1x1x1024.Idx → Elt Ideal .f32 := iblk A m ρ c (5 : Fin 8) t

/-- What the body leaves in the scratches when it fills them from the weights' blocks staged in `a5`, `a7`. -/
def gateUp (c : Dev nD) (a5 : Memref sig .tc .vmem S1x1x1024x2048 .f32) (x2 : S1x1x1024x2048.Idx → Elt Ideal .f32) : Buf (Elt Ideal) ((c : Thread nD τ).loc cc0_scratch0) :=
  scM0_0.view.writes (Elt Ideal) scM0_0.view.junk (kernelRun0_A.sl.HS0_4 a5 x2)
def down (c : Dev nD) (a7 : Memref sig .tc .vmem S1x1x1024x1024 .f32) (x4 : S1x1x1024x1024.Idx → Elt Ideal .f32) : Buf (Elt Ideal) ((c : Thread nD τ).loc cc0_scratch1) :=
  scM0_1.view.writes (Elt Ideal) scM0_1.view.junk (kernelRun0_A.sl.HS1_4 a7 x4)

/-- It does not matter which buffer the weights were staged in. -/
theorem gateUp_slot (c : Dev nD) (a a' : Memref sig .tc .vmem S1x1x1024x2048 .f32) (x : S1x1x1024x2048.Idx → Elt Ideal .f32) : gateUp c a x = gateUp c a' x := by
  unfold gateUp kernelRun0_A.sl.HS0_4
  simp only [View.readAt_rep]
theorem down_slot (c : Dev nD) (a a' : Memref sig .tc .vmem S1x1x1024x1024 .f32) (x : S1x1x1024x1024.Idx → Elt Ideal .f32) : down c a x = down c a' x := by
  unfold down kernelRun0_A.sl.HS1_4 kernelRun0_A.sl.r_3
  simp only [View.readAt_rep]

/-- The outputs of a point in use, from the staged blocks and the scratches; and of a point not in use. -/
abbrev pieces6 (c : Dev nD) (t : Fin (cfgA A).N) (s0 : Buf (Elt Ideal) ((c : Thread nD τ).loc cc0_scratch0)) (s1 : Buf (Elt Ideal) ((c : Thread nD τ).loc cc0_scratch1)) :=
  kernelRun0_B.sl.HO6_1 c (st0 A t) (st1 A t) (st3 A t) (st5 A t) (b0 A m ρ c t) (b1 A m ρ c t) (b3 A m ρ c t) (b5 A m ρ c t) s0 s1
abbrev pieces7 (c : Dev nD) (t : Fin (cfgA A).N) (s0 : Buf (Elt Ideal) ((c : Thread nD τ).loc cc0_scratch0)) (s1 : Buf (Elt Ideal) ((c : Thread nD τ).loc cc0_scratch1)) :=
  kernelRun0_B.sl.HO7_1 c (st0 A t) (st1 A t) (st3 A t) (st5 A t) (b0 A m ρ c t) (b1 A m ρ c t) (b3 A m ρ c t) (b5 A m ρ c t) s0 s1

open Classical in
/-- What the body leaves in the staging buffers of the two outputs. -/
def left6 (c : Dev nD) (t : Fin (cfgA A).N) : S1024x256.Idx → Elt Ideal .bf16 :=
  View.read (Elt Ideal) VO0_6 (VO0_6.writes (Elt Ideal) VO0_6.junk
    (if Used A.1 (crd A t) then pieces6 A m ρ c t (gateUp c (st2 A t) (b2 A m ρ c t)) (down c (st4 A t) (b4 A m ρ c t)) else kernelRun0_C.sl.HO6_1))
open Classical in
def left7 (c : Dev nD) (t : Fin (cfgA A).N) : S1024x256.Idx → Elt Ideal .bf16 :=
  View.read (Elt Ideal) VO0_7 (VO0_7.writes (Elt Ideal) VO0_7.junk
    (if Used A.1 (crd A t) then pieces7 A m ρ c t (gateUp c (st2 A t) (b2 A m ρ c t)) (down c (st4 A t) (b4 A m ρ c t)) else kernelRun0_C.sl.HO7_1))

/-! ## What the runs of the body's three paths leave, by these names -/

section
variable (c : Dev nD) (i : grid0.Coords)
  (a3 : Memref sig .tc .vmem S512x256 .i32) (h3 : a3.IsWhole) (a4 : Memref sig .tc .vmem S512x256 .i32) (h4 : a4.IsWhole)
  (a5 : Memref sig .tc .vmem S1x1x1024x2048 .f32) (h5 : a5.IsWhole) (a6 : Memref sig .tc .vmem S1x1x1x2048 .f32) (h6 : a6.IsWhole)
  (a7 : Memref sig .tc .vmem S1x1x1024x1024 .f32) (h7 : a7.IsWhole) (a8 : Memref sig .tc .vmem S1x1x1x1024 .f32) (h8 : a8.IsWhole)
  (a9 : Memref sig .tc .vmem S1024x256 .bf16) (h9 : a9.IsWhole) (a10 : Memref sig .tc .vmem S1024x256 .bf16) (h10 : a10.IsWhole)
  (w0 : S304.Idx → Elt Ideal .i32) (w1 : S1.Idx → Elt Ideal .i32)
  (x0 : S512x256.Idx → Elt Ideal .i32) (x1 : S512x256.Idx → Elt Ideal .i32) (x2 : S1x1x1024x2048.Idx → Elt Ideal .f32)
  (x3 : S1x1x1x2048.Idx → Elt Ideal .f32) (x4 : S1x1x1024x1024.Idx → Elt Ideal .f32) (x5 : S1x1x1x1024.Idx → Elt Ideal .f32)
  (s0 : Buf (Elt Ideal) ((c : Thread nD τ).loc cc0_scratch0)) (s1 : Buf (Elt Ideal) ((c : Thread nD τ).loc cc0_scratch1))
theorem runA6 (k1 k2 k3) : (kernelRun0_A c i a3 h3 a4 h4 a5 h5 a6 h6 a7 h7 a8 h8 a9 h9 a10 h10 w0 w1 x0 x1 x2 x3 x4 x5 k1 k2 k3).1 = kernelRun0_B.sl.HO6_1 c a3 a4 a6 a8 x0 x1 x3 x5 (gateUp c a5 x2) (down c a7 x4) := by delta kernelRun0_A; dsimp only; rfl
theorem runA7 (k1 k2 k3) : (kernelRun0_A c i a3 h3 a4 h4 a5 h5 a6 h6 a7 h7 a8 h8 a9 h9 a10 h10 w0 w1 x0 x1 x2 x3 x4 x5 k1 k2 k3).2.1 = kernelRun0_B.sl.HO7_1 c a3 a4 a6 a8 x0 x1 x3 x5 (gateUp c a5 x2) (down c a7 x4) := by delta kernelRun0_A; dsimp only; rfl
theorem runA0 (k1 k2 k3) : (kernelRun0_A c i a3 h3 a4 h4 a5 h5 a6 h6 a7 h7 a8 h8 a9 h9 a10 h10 w0 w1 x0 x1 x2 x3 x4 x5 k1 k2 k3).2.2.1 = gateUp c a5 x2 := by delta kernelRun0_A; dsimp only; rfl
theorem runA1 (k1 k2 k3) : (kernelRun0_A c i a3 h3 a4 h4 a5 h5 a6 h6 a7 h7 a8 h8 a9 h9 a10 h10 w0 w1 x0 x1 x2 x3 x4 x5 k1 k2 k3).2.2.2.1 = down c a7 x4 := by delta kernelRun0_A; dsimp only; rfl
theorem runB6 (k1 k2 k3) : (kernelRun0_B c i a3 h3 a4 h4 a5 h5 a6 h6 a7 h7 a8 h8 a9 h9 a10 h10 w0 w1 x0 x1 x2 x3 x4 x5 s0 s1 k1 k2 k3).1 = kernelRun0_B.sl.HO6_1 c a3 a4 a6 a8 x0 x1 x3 x5 s0 s1 := by delta kernelRun0_B; dsimp only
theorem runB7 (k1 k2 k3) : (kernelRun0_B c i a3 h3 a4 h4 a5 h5 a6 h6 a7 h7 a8 h8 a9 h9 a10 h10 w0 w1 x0 x1 x2 x3 x4 x5 s0 s1 k1 k2 k3).2.1 = kernelRun0_B.sl.HO7_1 c a3 a4 a6 a8 x0 x1 x3 x5 s0 s1 := by delta kernelRun0_B; dsimp only
theorem runB0 (k1 k2 k3) : (kernelRun0_B c i a3 h3 a4 h4 a5 h5 a6 h6 a7 h7 a8 h8 a9 h9 a10 h10 w0 w1 x0 x1 x2 x3 x4 x5 s0 s1 k1 k2 k3).2.2.1 = s0 := by delta kernelRun0_B; dsimp only
theorem runB1 (k1 k2 k3) : (kernelRun0_B c i a3 h3 a4 h4 a5 h5 a6 h6 a7 h7 a8 h8 a9 h9 a10 h10 w0 w1 x0 x1 x2 x3 x4 x5 s0 s1 k1 k2 k3).2.2.2.1 = s1 := by delta kernelRun0_B; dsimp only
theorem runC6 (k1 k2 k3) : (kernelRun0_C c i a3 h3 a4 h4 a5 h5 a6 h6 a7 h7 a8 h8 a9 h9 a10 h10 w0 w1 x0 x1 x2 x3 x4 x5 s0 s1 k1 k2 k3).1 = kernelRun0_C.sl.HO6_1 := by delta kernelRun0_C; dsimp only
theorem runC7 (k1 k2 k3) : (kernelRun0_C c i a3 h3 a4 h4 a5 h5 a6 h6 a7 h7 a8 h8 a9 h9 a10 h10 w0 w1 x0 x1 x2 x3 x4 x5 s0 s1 k1 k2 k3).2.1 = kernelRun0_C.sl.HO7_1 := by delta kernelRun0_C; dsimp only
end

/-- The expert of a point's tile. -/
theorem expert_lt (t : Fin (cfgA A).N) : (T0 A.1 (tile (crd A t 0))).toNat < 32 := by
  obtain ⟨h, -⟩ := A.2.1 (crd A t)
  have h1 := h 1
  rw [← ownWord_eq A.1 (crd A t)]
  have h2 : ((ownWord A.1 (crd A t)).toNat + 1) * 1 ≤ 32 := h1
  omega
def expert (t : Fin (cfgA A).N) : Fin 32 := ⟨(T0 A.1 (tile (crd A t 0))).toNat, expert_lt A t⟩

/-- The weights of an expert, and its biases, at an element of their blocks. -/
def inGU (e : Fin 32) (y : S1x1x1024x2048.Idx) : S4x32x1024x2048.Idx := fun | 0 => (0 : Fin 4) | 1 => e | 2 => y 2 | 3 => y 3
def inGUb (e : Fin 32) (y : S1x1x1x2048.Idx) : S4x32x1x2048.Idx := fun | 0 => (0 : Fin 4) | 1 => e | 2 => (0 : Fin 1) | 3 => y 3
def inD (e : Fin 32) (y : S1x1x1024x1024.Idx) : S4x32x1024x1024.Idx := fun | 0 => (0 : Fin 4) | 1 => e | 2 => y 2 | 3 => y 3
def inDb (e : Fin 32) (y : S1x1x1x1024.Idx) : S4x32x1x1024.Idx := fun | 0 => (0 : Fin 4) | 1 => e | 2 => (0 : Fin 1) | 3 => y 3
/-- A point's rows. -/
def inRows (t : Fin 304) (y : S1024x256.Idx) : S311296x256.Idx := fun | 0 => ⟨1024 * t.val + (y 0).val, by have := (y 0).isLt; have h : (y 0).val < 1024 := this; have := t.isLt; show _ < 311296; omega⟩ | 1 => y 1
/-- A point's words. -/
def inWords (t : Fin 304) (y : S512x256.Idx) : S155648x256.Idx := fun | 0 => ⟨512 * t.val + (y 0).val, by have := (y 0).isLt; have h : (y 0).val < 512 := this; have := t.isLt; show _ < 155648; omega⟩ | 1 => y 1

theorem b2_eq (c : Dev nD) (t : Fin (cfgA A).N) (y : S1x1x1024x2048.Idx) :
    b2 A m ρ c t y = m ((c : Thread nD τ).loc main_arg4) (inGU (expert A t) y) := by
  show m ((c : Thread nD τ).loc main_arg4) ((((cfgA A).win (2 : Fin 8)).rect t).emb y) = _
  refine congrArg _ (funext fun a => Fin.ext ?_)
  refine (Window.rect_emb_val ((cfgA A).win (2 : Fin 8)) t y a (hk := rfl)).trans ?_
  show ![0, (ownWord A.1 (crd A t)).toNat, 0, 0] a * ![1, 1, 1024, 2048] a + (y a).val = _
  rw [ownWord_eq]
  have h0 : (y 0).val < 1 := (y 0).isLt
  have h1 : (y 1).val < 1 := (y 1).isLt
  match a with
  | 0 => show 0 * 1 + (y 0).val = 0; omega
  | 1 => show (T0 A.1 (tile (crd A t 0))).toNat * 1 + (y 1).val = (T0 A.1 (tile (crd A t 0))).toNat; omega
  | 2 => show 0 * 1024 + (y 2).val = (y 2).val; omega
  | 3 => show 0 * 2048 + (y 3).val = (y 3).val; omega

theorem b4_eq (c : Dev nD) (t : Fin (cfgA A).N) (y : S1x1x1024x1024.Idx) :
    b4 A m ρ c t y = m ((c : Thread nD τ).loc main_arg6) (inD (expert A t) y) := by
  show m ((c : Thread nD τ).loc main_arg6) ((((cfgA A).win (4 : Fin 8)).rect t).emb y) = _
  refine congrArg _ (funext fun a => Fin.ext ?_)
  refine (Window.rect_emb_val ((cfgA A).win (4 : Fin 8)) t y a (hk := rfl)).trans ?_
  show ![0, (ownWord A.1 (crd A t)).toNat, 0, 0] a * ![1, 1, 1024, 1024] a + (y a).val = _
  rw [ownWord_eq]
  have h0 : (y 0).val < 1 := (y 0).isLt
  have h1 : (y 1).val < 1 := (y 1).isLt
  match a with
  | 0 => show 0 * 1 + (y 0).val = 0; omega
  | 1 => show (T0 A.1 (tile (crd A t 0))).toNat * 1 + (y 1).val = (T0 A.1 (tile (crd A t 0))).toNat; omega
  | 2 => show 0 * 1024 + (y 2).val = (y 2).val; omega
  | 3 => show 0 * 1024 + (y 3).val = (y 3).val; omega

theorem b3_eq (c : Dev nD) (t : Fin (cfgA A).N) (y : S1x1x1x2048.Idx) :
    b3 A m ρ c t y = m ((c : Thread nD τ).loc main_arg5) (inGUb (expert A t) y) := by
  show m ((c : Thread nD τ).loc main_arg5) ((((cfgA A).win (3 : Fin 8)).rect t).emb y) = _
  refine congrArg _ (funext fun a => Fin.ext ?_)
  refine (Window.rect_emb_val ((cfgA A).win (3 : Fin 8)) t y a (hk := rfl)).trans ?_
  show ![0, (ownWord A.1 (crd A t)).toNat, 0, 0] a * ![1, 1, 1, 2048] a + (y a).val = _
  rw [ownWord_eq]
  have h0 : (y 0).val < 1 := (y 0).isLt
  have h1 : (y 1).val < 1 := (y 1).isLt
  have h2 : (y 2).val < 1 := (y 2).isLt
  match a with
  | 0 => show 0 * 1 + (y 0).val = 0; omega
  | 1 => show (T0 A.1 (tile (crd A t 0))).toNat * 1 + (y 1).val = (T0 A.1 (tile (crd A t 0))).toNat; omega
  | 2 => show 0 * 1 + (y 2).val = 0; omega
  | 3 => show 0 * 2048 + (y 3).val = (y 3).val; omega

theorem b5_eq (c : Dev nD) (t : Fin (cfgA A).N) (y : S1x1x1x1024.Idx) :
    b5 A m ρ c t y = m ((c : Thread nD τ).loc main_arg7) (inDb (expert A t) y) := by
  show m ((c : Thread nD τ).loc main_arg7) ((((cfgA A).win (5 : Fin 8)).rect t).emb y) = _
  refine congrArg _ (funext fun a => Fin.ext ?_)
  refine (Window.rect_emb_val ((cfgA A).win (5 : Fin 8)) t y a (hk := rfl)).trans ?_
  show ![0, (ownWord A.1 (crd A t)).toNat, 0, 0] a * ![1, 1, 1, 1024] a + (y a).val = _
  rw [ownWord_eq]
  have h0 : (y 0).val < 1 := (y 0).isLt
  have h1 : (y 1).val < 1 := (y 1).isLt
  have h2 : (y 2).val < 1 := (y 2).isLt
  match a with
  | 0 => show 0 * 1 + (y 0).val = 0; omega
  | 1 => show (T0 A.1 (tile (crd A t 0))).toNat * 1 + (y 1).val = (T0 A.1 (tile (crd A t 0))).toNat; omega
  | 2 => show 0 * 1 + (y 2).val = 0; omega
  | 3 => show 0 * 1024 + (y 3).val = (y 3).val; omega

theorem rows_val (i : grid0.Coords) : (BitVec.ofNat 32 (i 0).val).toNat = (i 0).val := by
  have h : (i 0).val < 304 := (i 0).isLt
  rw [BitVec.toNat_ofNat, Nat.mod_eq_of_lt (by omega)]

theorem b0_eq (c : Dev nD) (t : Fin (cfgA A).N) (y : S512x256.Idx) :
    b0 A m ρ c t y = m ((c : Thread nD τ).loc main_arg2) (inWords (crd A t 0) y) := by
  show m ((c : Thread nD τ).loc main_arg2) ((((cfgA A).win (0 : Fin 8)).rect t).emb y) = _
  refine congrArg _ (funext fun a => Fin.ext ?_)
  refine (Window.rect_emb_val ((cfgA A).win (0 : Fin 8)) t y a (hk := rfl)).trans ?_
  show ![(BitVec.ofNat 32 (crd A t 0).val).toNat, 0] a * ![512, 256] a + (y a).val = _
  rw [rows_val]
  match a with
  | 0 => show (crd A t 0).val * 512 + (y 0).val = 512 * (crd A t 0).val + (y 0).val; omega
  | 1 => show 0 * 256 + (y 1).val = (y 1).val; omega

theorem b1_eq (c : Dev nD) (t : Fin (cfgA A).N) (y : S512x256.Idx) :
    b1 A m ρ c t y = m ((c : Thread nD τ).loc main_arg3) (inWords (crd A t 0) y) := by
  show m ((c : Thread nD τ).loc main_arg3) ((((cfgA A).win (1 : Fin 8)).rect t).emb y) = _
  refine congrArg _ (funext fun a => Fin.ext ?_)
  refine (Window.rect_emb_val ((cfgA A).win (1 : Fin 8)) t y a (hk := rfl)).trans ?_
  show ![(BitVec.ofNat 32 (crd A t 0).val).toNat, 0] a * ![512, 256] a + (y a).val = _
  rw [rows_val]
  match a with
  | 0 => show (crd A t 0).val * 512 + (y 0).val = 512 * (crd A t 0).val + (y 0).val; omega
  | 1 => show 0 * 256 + (y 1).val = (y 1).val; omega

/-- At a point in use that fills nothing, the scratches of the point before are the ones it would fill. -/
theorem kept (c : Dev nD) (t : Fin (cfgA A).N) (hu : Used A.1 (crd A t)) (h : ¬ Fills A.1 (crd A t)) :
    ∃ t' : Fin (cfgA A).N, t'.val + 1 = t.val ∧ Used A.1 (crd A t') ∧ b2 A m ρ c t' = b2 A m ρ c t ∧ b4 A m ρ c t' = b4 A m ρ c t := by
  obtain ⟨h0, hw⟩ := kept_of_not_fills _ _ hu h
  have hN := N_eq A
  have ht := t.isLt
  have hpos : t.val ≠ 0 := by
    intro e; rw [crd_val, e] at h0; exact h0 rfl
  have e1 : t.val - 1 + 1 = t.val := by omega
  let t' : Fin (cfgA A).N := ⟨t.val - 1, by omega⟩
  have hc : (crd A t' 0).val + 1 = (crd A t 0).val := by rw [crd_val, crd_val]; exact e1
  rw [ownWord_eq, prevWord_eq A.1 (crd A t) (crd A t' 0) hc] at hw
  have he : expert A t' = expert A t := Fin.ext (by
    show (T0 A.1 (tile (crd A t' 0))).toNat = (T0 A.1 (tile (crd A t 0))).toNat
    rw [hw])
  exact ⟨t', e1, used_pred _ _ _ hc hu, funext fun y => by rw [b2_eq, b2_eq, he], funext fun y => by rw [b4_eq, b4_eq, he]⟩

end Cert.Proof.ExpertsIdeal

end
-- ==== Proof.ExpIPay.lean ====
/-
  The experts' body on extended reals: what a point computes of its blocks, element by element. The two halves of the
  middle product add up to the whole, and the kernel's spelling of the logistic function is the function.
-/
module

public import proofs.«01_k».proof.Proof.ExpMath
public import proofs.«01_k».proof.Proof.ExpIData
public import Idealize.ShloMosaic.Lib.Pointwise

@[expose] public section

set_option maxRecDepth 16384

noncomputable section

namespace Cert.Proof.ExpertsIdeal

open Cert.ExpertsIdeal Cert.ExpertsIdeal.Gen
open Idealize.ShloMosaic
open scoped BigOperators

/-- The features of row `p` of a point's blocks. -/
def bfeat (xa xb : S512x256.Idx → BitVec 32) (p : Fin 512) (k : Fin 1024) : EReal :=
  if k.val < 256 then CombMath.low (xa (ix2 p ⟨k.val % 256, by omega⟩))
  else if k.val < 512 then CombMath.low (xb (ix2 p ⟨k.val % 256, by omega⟩))
  else if k.val < 768 then CombMath.high (xa (ix2 p ⟨k.val % 256, by omega⟩))
  else CombMath.high (xb (ix2 p ⟨k.val % 256, by omega⟩))

theorem pay13_apply (xa xb : Vec Ideal S512x256 .i32) (p : Fin 512) (k : Fin 1024) :
    k0_pay13 xa xb (ix2 p k) = bfeat xa xb p k := by
  have hk := k.isLt
  by_cases h1 : k.val < 256
  · refine Eq.trans ?_ (if_pos h1).symm
    pointwise [k0_pay13]
    exact (dif_pos h1).trans (congrArg (fun q => CombMath.low (xa q)) (congrArg₂ ix2 rfl (Fin.ext (show k.val = k.val % 256 by omega))))
  by_cases h2 : k.val < 512
  · refine Eq.trans ?_ ((if_neg h1).trans (if_pos h2)).symm
    pointwise [k0_pay13]
    exact (dif_neg h1).trans ((dif_pos (by omega)).trans (congrArg (fun q => CombMath.low (xb q)) (congrArg₂ ix2 rfl (Fin.ext (show k.val - 256 = k.val % 256 by omega)))))
  by_cases h3 : k.val < 768
  · refine Eq.trans ?_ ((if_neg h1).trans ((if_neg h2).trans (if_pos h3))).symm
    pointwise [k0_pay13]
    exact (dif_neg h1).trans ((dif_neg (by omega)).trans ((dif_pos (by omega)).trans
      (congrArg (fun q => CombMath.high (xa q)) (congrArg₂ ix2 rfl (Fin.ext (show k.val - 256 - 256 = k.val % 256 by omega))))))
  · refine Eq.trans ?_ ((if_neg h1).trans ((if_neg h2).trans (if_neg h3))).symm
    pointwise [k0_pay13]
    exact (dif_neg h1).trans ((dif_neg (by omega)).trans ((dif_neg (by omega)).trans
      (congrArg (fun q => CombMath.high (xb q)) (congrArg₂ ix2 rfl (Fin.ext (show k.val - 256 - 256 - 256 = k.val % 256 by omega))))))

theorem pay15_apply (xa xb : Vec Ideal S512x256 .i32) (w : Vec Ideal S1024x512 .bf16) (b : Vec Ideal S1x1x1x512 .f32) (p f : Fin 512) :
    k0_pay15 xa xb w b (ix2 p f)
      = min (∑ d : Fin 1024, bfeat xa xb p d * w (ix2 d f) + b (ix4 0 0 0 f)) (Ideal.ofBits .f32 0x40E00000#32) := by
  have e := pay13_apply xa xb p
  unfold k0_pay15
  generalize k0_pay13 xa xb = z at *
  pointwise
  simp only [e]

theorem pay16_apply (xa xb : Vec Ideal S512x256 .i32) (w : Vec Ideal S1024x512 .bf16) (b : Vec Ideal S1x1x1x512 .f32) (p f : Fin 512) :
    k0_pay16 xa xb w b (ix2 p f)
      = max (Ideal.ofBits .f32 0xC0E00000#32) (∑ d : Fin 1024, bfeat xa xb p d * w (ix2 d f) + b (ix4 0 0 0 f)) := by
  have e := pay13_apply xa xb p
  unfold k0_pay16
  generalize k0_pay13 xa xb = z at *
  pointwise
  simp only [e]

theorem pay19_apply (z : FVec Ideal S512x1024 .bf16) (w : Vec Ideal S1024x512 .bf16) (b : Vec Ideal S1x1x1x512 .f32) (p f : Fin 512) :
    k0_pay19 z w b (ix2 p f)
      = min (∑ d : Fin 1024, z (ix2 p d) * w (ix2 d f) + b (ix4 0 0 0 f)) (Ideal.ofBits .f32 0x40E00000#32) := by
  pointwise [k0_pay19]

theorem pay20_apply (z : FVec Ideal S512x1024 .bf16) (w : Vec Ideal S1024x512 .bf16) (b : Vec Ideal S1x1x1x512 .f32) (p f : Fin 512) :
    k0_pay20 z w b (ix2 p f)
      = max (Ideal.ofBits .f32 0xC0E00000#32) (∑ d : Fin 1024, z (ix2 p d) * w (ix2 d f) + b (ix4 0 0 0 f)) := by
  pointwise [k0_pay20]

theorem pay18_apply (v37 : FVec Ideal S512x1024 .f32) (g u c : FVec Ideal S512x512 .f32) (w : Vec Ideal S512x1024 .bf16) (p : Fin 512) (j : Fin 1024) :
    k0_pay18 v37 g u c w (ix2 p j)
      = v37 (ix2 p j) + ∑ f : Fin 512, ((min (c (ix2 p f)) (u (ix2 p f)) + 1) * (g (ix2 p f) * Ideal.div 1 (1 + Ideal.exp (-(Ideal.ofBits .f32 0x3FD9DB23#32 * g (ix2 p f)))))) * w (ix2 f j) := by
  pointwise [k0_pay18]
  simp only [ExpMath.sigmoid_eq]

theorem pay22_apply (v72 : FVec Ideal S512x1024 .f32) (g u c : FVec Ideal S512x512 .f32) (w : Vec Ideal S512x1024 .bf16) (b : Vec Ideal S1x1x1x1024 .f32) (p : Fin 512) (j : Fin 1024) :
    k0_pay22 v72 g u c w b (ix2 p j)
      = v72 (ix2 p j) + ∑ f : Fin 512, ((min (c (ix2 p f)) (u (ix2 p f)) + 1) * (g (ix2 p f) * Ideal.div 1 (1 + Ideal.exp (-(Ideal.ofBits .f32 0x3FD9DB23#32 * g (ix2 p f)))))) * w (ix2 f j)
        + b (ix4 0 0 0 j) := by
  pointwise [k0_pay22]
  simp only [ExpMath.sigmoid_eq]

theorem pay25_apply (v72 : FVec Ideal S512x1024 .f32) (g u c : FVec Ideal S512x512 .f32) (w : Vec Ideal S512x1024 .bf16) (b : Vec Ideal S1x1x1x1024 .f32) (r : Fin 1024) (j : Fin 256) :
    k0_pay25 v72 g u c w b (ix2 r j)
      = k0_pay22 v72 g u c w b (ix2 ⟨r.val / 2, by omega⟩ ⟨512 * (r.val % 2) + 256 * 0 + j.val, by omega⟩) := by
  unfold k0_pay25
  generalize k0_pay22 v72 g u c w b = z
  pointwise
  rcases Nat.mod_two_eq_zero_or_one r.val with h | h
  · exact (if_pos h).trans (congrArg z (congrArg₂ ix2 rfl (Fin.ext (show j.val = 512 * (r.val % 2) + j.val by omega))))
  · exact (if_neg (by omega)).trans (congrArg z (congrArg₂ ix2 rfl (Fin.ext (show 512 + j.val = 512 * (r.val % 2) + j.val by omega))))

theorem pay5_apply (v72 : FVec Ideal S512x1024 .f32) (g u c : FVec Ideal S512x512 .f32) (w : Vec Ideal S512x1024 .bf16) (b : Vec Ideal S1x1x1x1024 .f32) (r : Fin 1024) (j : Fin 256) :
    k0_pay5 (k0_pay23 v72 g u c w b) (k0_pay24 v72 g u c w b) (ix2 r j)
      = k0_pay22 v72 g u c w b (ix2 ⟨r.val / 2, by omega⟩ ⟨512 * (r.val % 2) + 256 * 1 + j.val, by omega⟩) := by
  unfold k0_pay5 k0_pay23 k0_pay24
  generalize k0_pay22 v72 g u c w b = z
  pointwise
  rcases Nat.mod_two_eq_zero_or_one r.val with h | h
  · exact (if_pos h).trans (congrArg z (congrArg₂ ix2 rfl (Fin.ext (show 256 + j.val = 512 * (r.val % 2) + 256 + j.val by omega))))
  · exact (if_neg (by omega)).trans (congrArg z (congrArg₂ ix2 rfl (Fin.ext (show 768 + j.val = 512 * (r.val % 2) + 256 + j.val by omega))))

/-- 512 columns of the first weights, of their biases; 512 rows of the second weights. -/
def cols (W : S1024x2048.Idx → EReal) (o : Nat) (ho : o ≤ 1536) : S1024x512.Idx → EReal := fun y => W (ix2 (y 0) ⟨o + (y 1).val, by have : (y 1).val < 512 := (y 1).isLt; omega⟩)
def bcols (b : S1x1x1x2048.Idx → EReal) (o : Nat) (ho : o ≤ 1536) : S1x1x1x512.Idx → EReal := fun y => b (ix4 0 0 0 ⟨o + (y 3).val, by have : (y 3).val < 512 := (y 3).isLt; omega⟩)
def rows (D : S1024x1024.Idx → EReal) (o : Nat) (ho : o ≤ 512) : S512x1024.Idx → EReal := fun y => D (ix2 ⟨o + (y 0).val, by have : (y 0).val < 512 := (y 0).isLt; omega⟩ (y 1))

/-- One value of the first product of a row of the blocks. -/
def blin (xa xb : S512x256.Idx → BitVec 32) (W : S1024x2048.Idx → EReal) (b : S1x1x1x2048.Idx → EReal) (p : Fin 512) (f : Fin 2048) : EReal :=
  ∑ d : Fin 1024, bfeat xa xb p d * W (ix2 d f) + b (ix4 0 0 0 f)

/-- What the point computes of its blocks: each row's result. -/
theorem point_apply (xa xb : Vec Ideal S512x256 .i32) (W : S1024x2048.Idx → EReal) (b : S1x1x1x2048.Idx → EReal)
    (D : S1024x1024.Idx → EReal) (bd : Vec Ideal S1x1x1x1024 .f32) (p : Fin 512) (j : Fin 1024) :
    k0_pay22 (k0_pay18 k0_pay14 (k0_pay15 xa xb (cols W 0 (by omega)) (bcols b 0 (by omega))) (k0_pay16 xa xb (cols W 1024 (by omega)) (bcols b 1024 (by omega)))
        k0_pay17 (rows D 0 (by omega)))
      (k0_pay19 (k0_pay13 xa xb) (cols W 512 (by omega)) (bcols b 512 (by omega))) (k0_pay20 (k0_pay13 xa xb) (cols W 1536 (by omega)) (bcols b 1536 (by omega)))
      k0_pay21 (rows D 512 (by omega)) bd (ix2 p j)
      = ∑ f : Fin 1024, ExpMath.act (blin xa xb W b p ⟨f.val, by omega⟩) (blin xa xb W b p ⟨1024 + f.val, by omega⟩) * D (ix2 f j) + bd (ix4 0 0 0 j) := by
  rw [pay22_apply, pay18_apply]
  have h14 : (k0_pay14 : FVec Ideal S512x1024 .f32) (ix2 p j) = 0 := by pointwise [k0_pay14]
  have h17 (f : Fin 512) : (k0_pay17 : FVec Ideal S512x512 .f32) (ix2 p f) = Ideal.ofBits .f32 0x40E00000#32 := by pointwise [k0_pay17]
  have h21 (f : Fin 512) : (k0_pay21 : FVec Ideal S512x512 .f32) (ix2 p f) = Ideal.ofBits .f32 0x40E00000#32 := by pointwise [k0_pay21]
  rw [h14, zero_add]
  simp only [h17, h21, pay15_apply, pay16_apply, pay19_apply, pay20_apply, pay13_apply]
  refine congrArg (· + _) ?_
  rw [Fin.sum_univ_two_halves 512 512 rfl (fun f : Fin 1024 => ExpMath.act (blin xa xb W b p ⟨f.val, by omega⟩) (blin xa xb W b p ⟨1024 + f.val, by omega⟩) * D (ix2 f j))]
  have l (o : Nat) (ho : o ≤ 1536) (f : Fin 512) (q : Fin 2048) (hq : o + f.val = q.val) :
      ∑ d : Fin 1024, bfeat xa xb p d * cols W o ho (ix2 d f) + bcols b o ho (ix4 0 0 0 f) = blin xa xb W b p q :=
    (show _ = blin xa xb W b p ⟨o + f.val, by omega⟩ from rfl).trans (congrArg _ (Fin.ext hq))
  have hd (o : Nat) (ho : o ≤ 512) (f : Fin 512) (q : Fin 1024) (hq : o + f.val = q.val) : rows D o ho (ix2 f j) = D (ix2 q j) :=
    (show _ = D (ix2 ⟨o + f.val, by omega⟩ j) from rfl).trans (congrArg (fun q => D (ix2 q j)) (Fin.ext hq))
  refine congrArg₂ (· + ·) (Finset.sum_congr rfl fun f _ => ?_) (Finset.sum_congr rfl fun f _ => ?_)
  · refine congrArg₂ (· * ·) (congrArg₂ ExpMath.act (l 0 _ f _ ?_) (l 1024 _ f _ ?_)) (hd 0 _ f _ ?_)
    · exact Nat.zero_add _
    · rfl
    · exact Nat.zero_add _
  · refine congrArg₂ (· * ·) (congrArg₂ ExpMath.act (l 512 _ f _ ?_) (l 1536 _ f _ ?_)) (hd 512 _ f _ ?_)
    · rfl
    · show 1536 + f.val = 1024 + (512 + f.val)
      omega
    · rfl

/-! ## The scratches hold the weights -/

variable (c : Dev nD)

theorem pay8_apply (w : Vec Ideal S1x1x1024x512 .f32) (d : Fin 1024) (f : Fin 512) : k0_pay8 w (ix2 d f) = w (ix4 0 0 d f) := by
  pointwise [k0_pay8]

theorem pay9_apply (w : Vec Ideal S1x1x1024x512 .f32) (d : Fin 1024) (f : Fin 512) : k0_pay9 w (ix2 d f) = w (ix4 0 0 d f) := by
  pointwise [k0_pay9]

theorem pay10_apply (w : Vec Ideal S1x1x1024x512 .f32) (d : Fin 1024) (f : Fin 512) : k0_pay10 w (ix2 d f) = w (ix4 0 0 d f) := by
  pointwise [k0_pay10]

theorem pay11_apply (w : Vec Ideal S1x1x1024x512 .f32) (d : Fin 1024) (f : Fin 512) : k0_pay11 w (ix2 d f) = w (ix4 0 0 d f) := by
  pointwise [k0_pay11]

theorem pay2_apply (w : Vec Ideal S1x1x256x1024 .f32) (d : Fin 256) (f : Fin 1024) : k0_pay2 w (ix2 d f) = w (ix4 0 0 d f) := by
  pointwise [k0_pay2]

theorem pay3_apply (w : Vec Ideal S1x1x256x1024 .f32) (d : Fin 256) (f : Fin 1024) : k0_pay3 w (ix2 d f) = w (ix4 0 0 d f) := by
  pointwise [k0_pay3]

theorem pay4_apply (w : Vec Ideal S1x1x256x1024 .f32) (d : Fin 256) (f : Fin 1024) : k0_pay4 w (ix2 d f) = w (ix4 0 0 d f) := by
  pointwise [k0_pay4]

theorem pay1_apply (w : Vec Ideal S1x1x256x1024 .f32) (d : Fin 256) (f : Fin 1024) : k0_pay1 (k0_pay12 w) (ix2 d f) = w (ix4 0 0 d f) := by
  pointwise [k0_pay1, k0_pay12]

theorem gateUp_apply (a5 : Memref sig .tc .vmem S1x1x1024x2048 .f32) (x : S1x1x1024x2048.Idx → Elt Ideal .f32) (d : Fin 1024) (f : Fin 2048) :
    scM0_0.view.read (Elt Ideal) (gateUp c a5 x) (ix2 d f) = x (ix4 0 0 d f) := by
  unfold gateUp kernelRun0_A.sl.HS0_4
  refine View.read_writes_apply_of_pieces (Val := Elt Ideal) (v := scM0_0.view) _ (fun y : (S1024x2048).Idx => x (ix4 0 0 (y 0) (y 1))) _ ?_ _ ?_
  · simp only [List.forall_mem_cons, View.readAt_rep]
    refine ⟨fun z => ?_, fun z => ?_, fun z => ?_, fun z => ?_, fun _ h => absurd h List.not_mem_nil⟩
    · exact (congrArg (k0_pay11 _) (eq_ix2 (n0 := 1024) (n1 := 512) z)).trans ((pay11_apply _ _ _).trans (congrArg x (funext fun k => match k with | 0 => rfl | 1 => rfl | 2 => rfl | 3 => rfl)))
    · exact (congrArg (k0_pay10 _) (eq_ix2 (n0 := 1024) (n1 := 512) z)).trans ((pay10_apply _ _ _).trans (congrArg x (funext fun k => match k with | 0 => rfl | 1 => rfl | 2 => rfl | 3 => rfl)))
    · exact (congrArg (k0_pay9 _) (eq_ix2 (n0 := 1024) (n1 := 512) z)).trans ((pay9_apply _ _ _).trans (congrArg x (funext fun k => match k with | 0 => rfl | 1 => rfl | 2 => rfl | 3 => rfl)))
    · exact (congrArg (k0_pay8 _) (eq_ix2 (n0 := 1024) (n1 := 512) z)).trans ((pay8_apply _ _ _).trans (congrArg x (funext fun k => match k with | 0 => rfl | 1 => rfl | 2 => rfl | 3 => rfl)))
  · refine View.cover_of_tiledL (s := S1024x2048) _ ![1024, 512] ?_ _
    sl_kernel_rfl

theorem down_apply (a7 : Memref sig .tc .vmem S1x1x1024x1024 .f32) (x : S1x1x1024x1024.Idx → Elt Ideal .f32) (f j : Fin 1024) :
    scM0_1.view.read (Elt Ideal) (down c a7 x) (ix2 f j) = x (ix4 0 0 f j) := by
  unfold down kernelRun0_A.sl.HS1_4 kernelRun0_A.sl.r_3
  refine View.read_writes_apply_of_pieces (Val := Elt Ideal) (v := scM0_1.view) _ (fun y : (S1024x1024).Idx => x (ix4 0 0 (y 0) (y 1))) _ ?_ _ ?_
  · simp only [List.forall_mem_cons, View.readAt_rep]
    refine ⟨fun z => ?_, fun z => ?_, fun z => ?_, fun z => ?_, fun _ h => absurd h List.not_mem_nil⟩
    · exact (congrArg (k0_pay4 _) (eq_ix2 (n0 := 256) (n1 := 1024) z)).trans ((pay4_apply _ _ _).trans (congrArg x (funext fun k => match k with | 0 => rfl | 1 => rfl | 2 => rfl | 3 => rfl)))
    · exact (congrArg (k0_pay3 _) (eq_ix2 (n0 := 256) (n1 := 1024) z)).trans ((pay3_apply _ _ _).trans (congrArg x (funext fun k => match k with | 0 => rfl | 1 => rfl | 2 => rfl | 3 => rfl)))
    · exact (congrArg (k0_pay2 _) (eq_ix2 (n0 := 256) (n1 := 1024) z)).trans ((pay2_apply _ _ _).trans (congrArg x (funext fun k => match k with | 0 => rfl | 1 => rfl | 2 => rfl | 3 => rfl)))
    · exact (congrArg (k0_pay1 (k0_pay12 _)) (eq_ix2 (n0 := 256) (n1 := 1024) z)).trans ((pay1_apply _ _ _).trans (congrArg x (funext fun k => match k with | 0 => rfl | 1 => rfl | 2 => rfl | 3 => rfl)))
  · refine View.cover_of_tiledL (s := S1024x1024) _ ![256, 1024] ?_ _
    sl_kernel_rfl

end Cert.Proof.ExpertsIdeal

end

end
-- ==== Proof.ExpIBody.lean ====
/- The body of the experts' pipeline at every point: it leaves the outputs and the scratches as stated. -/
module

public import proofs.«01_k».proof.Proof.ExpIData

@[expose] public section

set_option maxRecDepth 16384
set_option Elab.async false

noncomputable section

namespace Cert.Proof.ExpertsIdeal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (A : Adm) (m : (ℓ : Loc nD τ sig) → Buf (Elt Ideal) ℓ) (ρ : Dev nD → PrngReg)

/-- Between points: after a point in use the scratches hold its expert's weights. -/
def Phi (c : Dev nD) (n : Fin ((cfgA A).N + 1)) : sProp 𝕄 :=
  iprop(∃ a0 a1, ⌜∀ t : Fin (cfgA A).N, t.val + 1 = n.val → Used A.1 (crd A t) →
        a0 = gateUp c (st2 A t) (b2 A m ρ c t) ∧ a1 = down c (st4 A t) (b4 A m ρ c t)⌝
    ∗ (scM0_0.view.loc (c : Thread nD τ) ↦{fullShare} a0) ∗ (scM0_1.view.loc (c : Thread nD τ) ↦{fullShare} a1)
    ∗ (tbM0_0.view.loc (c : Thread nD τ) ↦{fullShare.right} T0 A.1) ∗ (tbM0_1.view.loc (c : Thread nD τ) ↦{fullShare.right} T1 A.1))

/-- The pipeline's data on a core: the inputs' buffers keep their blocks, the outputs' hold what the body leaves. -/
def dats (_ : Fin 1) (c : Dev nD) : Dat τ (Elt Ideal) Unit ℕ (UR sig nD τ) ℕ (cfgA A) c where
  A w := (s₀ m ρ).mem (((cfgA A).win w).arr.view.loc (c : Thread nD τ))
  after w t := match w with
    | ⟨0, _⟩ => iblk A m ρ c (0 : Fin 8) t
    | ⟨1, _⟩ => iblk A m ρ c (1 : Fin 8) t
    | ⟨2, _⟩ => iblk A m ρ c (2 : Fin 8) t
    | ⟨3, _⟩ => iblk A m ρ c (3 : Fin 8) t
    | ⟨4, _⟩ => iblk A m ρ c (4 : Fin 8) t
    | ⟨5, _⟩ => iblk A m ρ c (5 : Fin 8) t
    | ⟨6, _⟩ => left6 A m ρ c t
    | ⟨7, _⟩ => left7 A m ρ c t
  Φ n := Phi A m ρ c n
  q _ := fullShare
  owed _ := 0

theorem after0 (c : Dev nD) (t : Fin (cfgA A).N) : (dats A m ρ 0 c).after (0 : Fin 8) t = iblk A m ρ c (0 : Fin 8) t := rfl
theorem after1 (c : Dev nD) (t : Fin (cfgA A).N) : (dats A m ρ 0 c).after (1 : Fin 8) t = iblk A m ρ c (1 : Fin 8) t := rfl
theorem after2 (c : Dev nD) (t : Fin (cfgA A).N) : (dats A m ρ 0 c).after (2 : Fin 8) t = iblk A m ρ c (2 : Fin 8) t := rfl
theorem after3 (c : Dev nD) (t : Fin (cfgA A).N) : (dats A m ρ 0 c).after (3 : Fin 8) t = iblk A m ρ c (3 : Fin 8) t := rfl
theorem after4 (c : Dev nD) (t : Fin (cfgA A).N) : (dats A m ρ 0 c).after (4 : Fin 8) t = iblk A m ρ c (4 : Fin 8) t := rfl
theorem after5 (c : Dev nD) (t : Fin (cfgA A).N) : (dats A m ρ 0 c).after (5 : Fin 8) t = iblk A m ρ c (5 : Fin 8) t := rfl
theorem after6 (c : Dev nD) (t : Fin (cfgA A).N) : (dats A m ρ 0 c).after (6 : Fin 8) t = left6 A m ρ c t := rfl
theorem after7 (c : Dev nD) (t : Fin (cfgA A).N) : (dats A m ρ 0 c).after (7 : Fin 8) t = left7 A m ρ c t := rfl

/-- What each buffer holds when the body runs: an input's its block, an output's anything. -/
theorem before0 (c : Dev nD) (t : Fin (cfgA A).N) (d) : (dats A m ρ 0 c).before (0 : Fin 8) t d = iblk A m ρ c (0 : Fin 8) t :=
  ((dats A m ρ 0 c).before_in_eq_fetched (0 : Fin 8) rfl (fun _ => rfl) (fun _ _ _ => rfl) (fun t => by rw [after0]; unfold Dat.blockOf iblk; rfl) t d).trans
    (by unfold Dat.fetched Dat.blockOf iblk; rfl)
theorem before1 (c : Dev nD) (t : Fin (cfgA A).N) (d) : (dats A m ρ 0 c).before (1 : Fin 8) t d = iblk A m ρ c (1 : Fin 8) t :=
  ((dats A m ρ 0 c).before_in_eq_fetched (1 : Fin 8) rfl (fun _ => rfl) (fun _ _ _ => rfl) (fun t => by rw [after1]; unfold Dat.blockOf iblk; rfl) t d).trans
    (by unfold Dat.fetched Dat.blockOf iblk; rfl)
theorem before2 (c : Dev nD) (t : Fin (cfgA A).N) (d) : (dats A m ρ 0 c).before (2 : Fin 8) t d = iblk A m ρ c (2 : Fin 8) t :=
  ((dats A m ρ 0 c).before_in_eq_fetched (2 : Fin 8) rfl (fun _ => rfl) (fun _ _ _ => rfl) (fun t => by rw [after2]; unfold Dat.blockOf iblk; rfl) t d).trans
    (by unfold Dat.fetched Dat.blockOf iblk; rfl)
theorem before3 (c : Dev nD) (t : Fin (cfgA A).N) (d) : (dats A m ρ 0 c).before (3 : Fin 8) t d = iblk A m ρ c (3 : Fin 8) t :=
  ((dats A m ρ 0 c).before_in_eq_fetched (3 : Fin 8) rfl (fun _ => rfl) (fun _ _ _ => rfl) (fun t => by rw [after3]; unfold Dat.blockOf iblk; rfl) t d).trans
    (by unfold Dat.fetched Dat.blockOf iblk; rfl)
theorem before4 (c : Dev nD) (t : Fin (cfgA A).N) (d) : (dats A m ρ 0 c).before (4 : Fin 8) t d = iblk A m ρ c (4 : Fin 8) t :=
  ((dats A m ρ 0 c).before_in_eq_fetched (4 : Fin 8) rfl (fun _ => rfl) (fun _ _ _ => rfl) (fun t => by rw [after4]; unfold Dat.blockOf iblk; rfl) t d).trans
    (by unfold Dat.fetched Dat.blockOf iblk; rfl)
theorem before5 (c : Dev nD) (t : Fin (cfgA A).N) (d) : (dats A m ρ 0 c).before (5 : Fin 8) t d = iblk A m ρ c (5 : Fin 8) t :=
  ((dats A m ρ 0 c).before_in_eq_fetched (5 : Fin 8) rfl (fun _ => rfl) (fun _ _ _ => rfl) (fun t => by rw [after5]; unfold Dat.blockOf iblk; rfl) t d).trans
    (by unfold Dat.fetched Dat.blockOf iblk; rfl)
theorem before6 (c : Dev nD) (t : Fin (cfgA A).N) (d) : (dats A m ρ 0 c).before (6 : Fin 8) t d = d := by
  rw [(dats A m ρ 0 c).before_out_traj (6 : Fin 8) rfl (fun _ _ => rfl)
    (fun t _ hi _ => absurd (hi.symm.trans (idle6 A _)) (by decide)) t.val t rfl d, fresh6 A t.val (Nat.le_of_lt t.isLt)]
  rfl
theorem before7 (c : Dev nD) (t : Fin (cfgA A).N) (d) : (dats A m ρ 0 c).before (7 : Fin 8) t d = d := by
  rw [(dats A m ρ 0 c).before_out_traj (7 : Fin 8) rfl (fun _ _ => rfl)
    (fun t _ hi _ => absurd (hi.symm.trans (idle7 A _)) (by decide)) t.val t rfl d, fresh7 A t.val (Nat.le_of_lt t.isLt)]
  rfl

/-- The body at a point, on its staging buffers. -/
abbrev bodyAt (t : Fin (cfgA A).N) : Prog (TpuEff nD τ sig (Elt Ideal) Λ₀ .tc) PUnit :=
  cc0__expert_kernel (crd A t) (Memref.whole main_arg0) (Memref.isWhole_whole _) (Memref.whole main_arg1) (Memref.isWhole_whole _) (st0 A t) (wh0 A t) (st1 A t) (wh1 A t) (st2 A t) (wh2 A t) (st3 A t) (wh3 A t) (st4 A t) (wh4 A t) (st5 A t) (wh5 A t) (st6 A t) (wh6 A t) (st7 A t) (wh7 A t) (Memref.whole cc0_scratch0) (Memref.isWhole_whole _) (Memref.whole cc0_scratch1) (Memref.isWhole_whole _)

set_option maxHeartbeats 4800000 in
theorem sound_body (c : Dev nD) (t : Fin (cfgA A).N) :
    iprop((dats A m ρ 0 c).Φ t.castSucc ∗ (dats A m ρ 0 c).owesAt () t.castSucc
        ∗ (∃ d, owns (c : Thread nD τ) (st0 A t) fullShare ((dats A m ρ 0 c).before (0 : Fin 8) t d))
        ∗ (∃ d, owns (c : Thread nD τ) (st1 A t) fullShare ((dats A m ρ 0 c).before (1 : Fin 8) t d))
        ∗ (∃ d, owns (c : Thread nD τ) (st2 A t) fullShare ((dats A m ρ 0 c).before (2 : Fin 8) t d))
        ∗ (∃ d, owns (c : Thread nD τ) (st3 A t) fullShare ((dats A m ρ 0 c).before (3 : Fin 8) t d))
        ∗ (∃ d, owns (c : Thread nD τ) (st4 A t) fullShare ((dats A m ρ 0 c).before (4 : Fin 8) t d))
        ∗ (∃ d, owns (c : Thread nD τ) (st5 A t) fullShare ((dats A m ρ 0 c).before (5 : Fin 8) t d))
        ∗ (∃ d, owns (c : Thread nD τ) (st6 A t) fullShare ((dats A m ρ 0 c).before (6 : Fin 8) t d))
        ∗ (∃ d, owns (c : Thread nD τ) (st7 A t) fullShare ((dats A m ρ 0 c).before (7 : Fin 8) t d)))
      ⊢ wp frame (wpE (defs₀ (F := Ideal)) Variants.none c none) Set.univ (bodyAt A t) fun _ =>
          iprop((dats A m ρ 0 c).Φ t.succ ∗ (dats A m ρ 0 c).owesAt () t.succ
            ∗ bigSep Finset.univ fun w : Fin (cfgA A).W =>
                match (cfgA A).idle w ((cfgA A).grid.coords t) with
                | true =>
                  match ((cfgA A).win w).flush t with
                  | false => iprop(∃ d, owns (c : Thread nD τ) (((cfgA A).win w).stage ((cfgA A).slots t w)) fullShare ((dats A m ρ 0 c).before w t d))
                  | true => owns (c : Thread nD τ) (((cfgA A).win w).stage ((cfgA A).slots t w)) fullShare ((dats A m ρ 0 c).after w t)
                | false => owns (c : Thread nD τ) (((cfgA A).win w).stage ((cfgA A).slots t w)) fullShare ((dats A m ρ 0 c).after w t)) := by
  rw [bigSep_W0]
  rewrite [idle6 A (crd A t)]
  simp only [before0, before1, before2, before3, before4, before5, before6, before7, after0, after1, after2, after3, after4, after5, after6, after7]
  rewrite [show (dats A m ρ 0 c).Φ t.succ = Phi A m ρ c t.succ from rfl, show (dats A m ρ 0 c).Φ t.castSucc = Phi A m ρ c t.castSucc from rfl,
    show (dats A m ρ 0 c).owesAt () t.succ = (dats A m ρ 0 c).owesAt () t.castSucc from rfl]
  unfold Phi
  have one : ∀ t' : Fin (cfgA A).N, t'.val + 1 = t.succ.val → t' = t := fun t' h => Fin.ext (by rw [Fin.val_succ] at h; omega)
  by_cases hu : Used A.1 (crd A t)
  · have hx : ¬ k0_cond3 (crd A t) (countWord A.1) = 1#1 := fun h => (unused_iff _ _).1 h hu
    by_cases hf : Fills A.1 (crd A t)
    · skip
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (crd A t) (st0 A t) (wh0 A t) (st1 A t) (wh1 A t) (st2 A t) (wh2 A t) (st3 A t) (wh3 A t) (st4 A t) (wh4 A t) (st5 A t) (wh5 A t) (st6 A t) (wh6 A t) (st7 A t) (wh7 A t) (T0 A.1) (T1 A.1) (iblk A m ρ c (0 : Fin 8) t) (iblk A m ρ c (1 : Fin 8) t) (iblk A m ρ c (2 : Fin 8) t) (iblk A m ρ c (3 : Fin 8) t) (iblk A m ρ c (4 : Fin 8) t) (iblk A m ρ c (5 : Fin 8) t) hf hu hx).2.2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [H7]; · iexists _; iexact H7
      isplitl [HS0]; · iexact HS0
      isplitl [HS1]; · iexact HS1
      iintro ⟨H0, H1, H2, H3, H4, H5, HT0, HT1, ⟨%e6, H6⟩, ⟨%e7, H7⟩, HS0, HS1⟩
      isplitl [HS0 HS1 HT0 HT1]
      · iexists _, _; isplitr; swap
        · isplitl [HS0]; · iexact HS0
          isplitl [HS1]; · iexact HS1
          isplitl [HT0]; · iexact HT0
          iexact HT1
        · ipureintro; intro t' h' hu'; obtain rfl := one t' h'; exact ⟨by rw [runA0], by rw [runA1]⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · unfold owns; iexists _; isplitr; swap
        · iexact H6
        · ipureintro; refine (View.read_writes_of_cover _ _ VO0_6 VO0_6.junk _ (cover0_A_6 c _ _ _ _ _ _ _ _ _ _ _ _ _ _ _ _ _ _ _ _ _ _ _ _ _ _ _ _)).trans ?_; rw [runA6]; unfold left6; rw [if_pos hu]
      · unfold owns; iexists _; isplitr; swap
        · iexact H7
        · ipureintro; refine (View.read_writes_of_cover _ _ VO0_7 VO0_7.junk _ (cover0_A_7 c _ _ _ _ _ _ _ _ _ _ _ _ _ _ _ _ _ _ _ _ _ _ _ _ _ _ _ _)).trans ?_; rw [runA7]; unfold left7; rw [if_pos hu]
    · obtain ⟨t', h1, hu', e2, e4⟩ := kept A m ρ c t hu hf
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨ha0, ha1⟩ := ha t' h1 hu'
      rw [e2, gateUp_slot c (st2 A t') (st2 A t)] at ha0
      rw [e4, down_slot c (st4 A t') (st4 A t)] at ha1
      iapply ((kernelRun0_B c (crd A t) (st0 A t) (wh0 A t) (st1 A t) (wh1 A t) (st2 A t) (wh2 A t) (st3 A t) (wh3 A t) (st4 A t) (wh4 A t) (st5 A t) (wh5 A t) (st6 A t) (wh6 A t) (st7 A t) (wh7 A t) (T0 A.1) (T1 A.1) (iblk A m ρ c (0 : Fin 8) t) (iblk A m ρ c (1 : Fin 8) t) (iblk A m ρ c (2 : Fin 8) t) (iblk A m ρ c (3 : Fin 8) t) (iblk A m ρ c (4 : Fin 8) t) (iblk A m ρ c (5 : Fin 8) t) a0 a1 hf hu hx).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [H7]; · iexists _; iexact H7
      isplitl [HS0]; · iexact HS0
      isplitl [HS1]; · iexact HS1
      iintro ⟨H0, H1, H2, H3, H4, H5, HT0, HT1, ⟨%e6, H6⟩, ⟨%e7, H7⟩, HS0, HS1⟩
      isplitl [HS0 HS1 HT0 HT1]
      · iexists _, _; isplitr; swap
        · isplitl [HS0]; · iexact HS0
          isplitl [HS1]; · iexact HS1
          isplitl [HT0]; · iexact HT0
          iexact HT1
        · ipureintro; intro t' h' hu'; obtain rfl := one t' h'; exact ⟨by rw [runB0]; exact ha0, by rw [runB1]; exact ha1⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · unfold owns; iexists _; isplitr; swap
        · iexact H6
        · ipureintro; refine (View.read_writes_of_cover _ _ VO0_6 VO0_6.junk _ (cover0_B_6 c _ _ _ _ _ _ _ _ _ _ _ _ _ _ _ _ _ _ _ _ _ _ _ _ _ _ _ _ _ _)).trans ?_; rw [runB6]; unfold left6; rw [if_pos hu, ha0, ha1]
      · unfold owns; iexists _; isplitr; swap
        · iexact H7
        · ipureintro; refine (View.read_writes_of_cover _ _ VO0_7 VO0_7.junk _ (cover0_B_7 c _ _ _ _ _ _ _ _ _ _ _ _ _ _ _ _ _ _ _ _ _ _ _ _ _ _ _ _ _ _)).trans ?_; rw [runB7]; unfold left7; rw [if_pos hu, ha0, ha1]
  · have hf : ¬ Fills A.1 (crd A t) := fun h => hu (used_of_fills _ _ h)
    have hx : k0_cond3 (crd A t) (countWord A.1) = 1#1 := (unused_iff _ _).2 hu
    iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (crd A t) (st0 A t) (wh0 A t) (st1 A t) (wh1 A t) (st2 A t) (wh2 A t) (st3 A t) (wh3 A t) (st4 A t) (wh4 A t) (st5 A t) (wh5 A t) (st6 A t) (wh6 A t) (st7 A t) (wh7 A t) (T0 A.1) (T1 A.1) (iblk A m ρ c (0 : Fin 8) t) (iblk A m ρ c (1 : Fin 8) t) (iblk A m ρ c (2 : Fin 8) t) (iblk A m ρ c (3 : Fin 8) t) (iblk A m ρ c (4 : Fin 8) t) (iblk A m ρ c (5 : Fin 8) t) a0 a1 hf hu hx).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [H7]; · iexists _; iexact H7
    isplitl [HS0]; · iexact HS0
    isplitl [HS1]; · iexact HS1
    iintro ⟨H0, H1, H2, H3, H4, H5, HT0, HT1, ⟨%e6, H6⟩, ⟨%e7, H7⟩, HS0, HS1⟩
    isplitl [HS0 HS1 HT0 HT1]
    · iexists _, _; isplitr; swap
      · isplitl [HS0]; · iexact HS0
        isplitl [HS1]; · iexact HS1
        isplitl [HT0]; · iexact HT0
        iexact HT1
      · ipureintro; intro t' h' hu'; obtain rfl := one t' h'; exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]
    · unfold owns; iexists _; isplitr; swap
      · iexact H6
      · ipureintro; refine (View.read_writes_of_cover _ _ VO0_6 VO0_6.junk _ (cover0_C_6 c _ _ _ _ _ _ _ _ _ _ _ _ _ _ _ _ _ _ _ _ _ _ _ _ _ _ _ _ _ _)).trans ?_; rw [runC6]; unfold left6; rw [if_neg hu]
    · unfold owns; iexists _; isplitr; swap
      · iexact H7
      · ipureintro; refine (View.read_writes_of_cover _ _ VO0_7 VO0_7.junk _ (cover0_C_7 c _ _ _ _ _ _ _ _ _ _ _ _ _ _ _ _ _ _ _ _ _ _ _ _ _ _ _ _ _ _)).trans ?_; rw [runC7]; unfold left7; rw [if_neg hu]

theorem body_obligation (c : Dev nD) : BodyObligation (dats A m ρ 0 c) (defs₀ (F := Ideal)) Variants.none () Set.univ := fun t => by
  rw [bigSep_W0]
  exact sound_body A m ρ c t

end Cert.Proof.ExpertsIdeal

end
-- ==== Proof.ExpILaunch.lean ====
/- The launch of the experts' call: from any memory whose table names experts that exist it runs to the end, with the two
   results at what the pipeline computes, the arguments unchanged and every counter at zero. -/
module

public import proofs.«01_k».proof.Defs
public import proofs.«01_k».proof.Proof.Gen.Pre_experts_exist
public import proofs.«01_k».proof.Proof.ExpIBody

@[expose] public section

set_option maxRecDepth 16384
set_option Elab.async false

noncomputable section

namespace Cert.Proof.ExpertsIdeal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (A : Adm) (m : (ℓ : Loc nD τ sig) → Buf (Elt Ideal) ℓ) (ρ : Dev nD → PrngReg)

/-- The memory's tables are the ones the pipeline is set up at. -/
abbrev Holds : Prop := ∀ (c : Dev nD) (j : Fin 2), m ((c : Thread nD τ).loc (pre0.ref j)) = A.1 j

abbrev EP : Emb (UR sig nD τ) 𝕄 := emb₁

def u₀ : UR sig nD τ :=
  initOf (Pipeline.cells (pcs A) ((launch0 (F := Ideal)).cellOf_inj fun _ => A))
    (Pipeline.launchToks (pcs A) ((launch0 (F := Ideal)).cellOf_inj fun _ => A))

theorem share_eq (c : Dev nD) (w : Fin (cfgA A).W) : (dats A m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) A.1 ∗ Pipeline.scopedRest spec0 c) ⊢ (dats A m ρ 0 c).Φ 0 := by
  rw [prefHeld_eq, scopedRest0_eq, show (dats A m ρ 0 c).Φ 0 = Phi A m ρ c 0 from rfl]
  unfold Phi
  iintro ⟨-, ⟨HT0, HT1⟩, ⟨%a0, HS0⟩, ⟨%a1, HS1⟩⟩
  iexists a0, a1; isplitr; swap
  · isplitl [HS0]; · iexact HS0
    isplitl [HS1]; · iexact HS1
    isplitl [HT0]; · iexact HT0
    iexact HT1
  · ipureintro; intro t h; exact absurd h (Nat.succ_ne_zero _)

theorem phi_exit (c : Dev nD) : (dats A m ρ 0 c).Φ (Fin.last (cfgA A).N) ⊢ iprop(BI.emp ∗ Pipeline.scopedRest spec0 c) := by
  rw [scopedRest0_eq, show (dats A m ρ 0 c).Φ (Fin.last (cfgA A).N) = Phi A m ρ c (Fin.last _) from rfl]
  unfold Phi
  iintro ⟨%a0, %a1, -, HS0, HS1, -, -⟩
  isplitr; · iempintro
  isplitl [HS0]
  · iexists a0; iexact HS0
  iexists a1; iexact HS1

/-- Where the run ends: each window's array as the pipeline leaves it, each table as it was. -/
def Ends : PUnit × MemSt nD τ sig (Elt Ideal) → Prop := fun r =>
  ∀ c : Dev nD, (∀ w : Fin (cfgA A).W, r.2.mem (((cfgA A).win w).arr.view.loc (c : Thread nD τ)) = (dats A m ρ 0 c).arrAt w (cfgA A).N)
    ∧ ∀ j, r.2.mem ((c : Thread nD τ).loc (pre0.ref j)) = A.1 j

set_option backward.isDefEq.respectTransparency.types false in
set_option maxHeartbeats 4000000 in
theorem run_ends (hp : Holds A m) : θ_run (defs (F := Ideal)) (onTc (τ := τ) (main (F := Ideal))) (s₀ m ρ) (fun r => Ends A m ρ r ∧ r.2.sem = fun _ => 0) :=
  Pipeline.θ_run_region_noSem_pf_quiescent pcfgs (fun _ => A) (dats A m ρ) () ((launch0 (F := Ideal)).cellOf_inj fun _ => A) (0 : Fin 1)
    (launch0 (F := Ideal)).win.to₀ (launch0 (F := Ideal)).pre EP defs₀ Variants.none m ρ main
    (hbody := fun c => (body_obligation A m ρ c).loose) (hne := (launch0 (F := Ideal)).block_pos)
    (harr := (launch0 (F := Ideal)).arr_whole) (hstage := (launch0 (F := Ideal)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs A) (dats A m ρ) 0 (launch0 (F := Ideal)).win.arr_inj c (launch0 (F := Ideal)).arr_whole
      (share_eq A m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro A m ρ)
    (hout := phi_exit A m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, at the results and the arguments by name. -/
theorem run_main (hp : Holds A m) : θ_run (defs (F := Ideal)) (onTc (τ := τ) (main (F := Ideal))) ⟨m, fun _ => 0, ρ⟩ (fun r => (∀ c : Dev nD,
      (r.2.mem ((c.tc : Thread nD τ).loc main_v0_0) = (dats A m ρ 0 c).arrAt (6 : Fin 8) (cfgA A).N
        ∧ r.2.mem ((c.tc : Thread nD τ).loc main_v0_1) = (dats A m ρ 0 c).arrAt (7 : Fin 8) (cfgA A).N)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨⟨(h.1 c).1 (6 : Fin 8), (h.1 c).1 (7 : Fin 8)⟩, ((h.1 c).2 0).trans (hp c 0).symm, ((h.1 c).2 1).trans (hp c 1).symm,
    ((h.1 c).1 (0 : Fin 8)).trans ((dats A m ρ 0 c).arrAt_in (0 : Fin 8) rfl _), ((h.1 c).1 (1 : Fin 8)).trans ((dats A m ρ 0 c).arrAt_in (1 : Fin 8) rfl _), ((h.1 c).1 (2 : Fin 8)).trans ((dats A m ρ 0 c).arrAt_in (2 : Fin 8) rfl _), ((h.1 c).1 (3 : Fin 8)).trans ((dats A m ρ 0 c).arrAt_in (3 : Fin 8) rfl _), ((h.1 c).1 (4 : Fin 8)).trans ((dats A m ρ 0 c).arrAt_in (4 : Fin 8) rfl _), ((h.1 c).1 (5 : Fin 8)).trans ((dats A m ρ 0 c).arrAt_in (5 : Fin 8) rfl _)⟩, h.2⟩)
    (run_ends A m ρ hp)

/-! ## The tables a memory holds, under the precondition -/

/-- The tables of a memory. -/
def tablesOf : Tables := fun j => m (((0 : Dev nD) : Thread nD τ).loc (pre0.ref j))

/-- A word at least zero and below 32, signed, is below 32. -/
theorem word_lt (w : BitVec 32) (h : Scalar.andi (Scalar.cmpi .sge w 0#32) (Scalar.cmpi .slt w 32#32) = 1#1) : w.toNat < 32 := by
  have h1 : (0#32).sle w = true := by
    change BitVec.ofBool ((0#32).sle w) &&& BitVec.ofBool (w.slt 32#32) = 1#1 at h
    by_contra hn; rw [Bool.not_eq_true] at hn; rw [hn] at h
    rcases Bool.eq_false_or_eq_true (w.slt 32#32) with e | e <;> rw [e] at h <;> exact absurd h (by decide)
  have h2 : w.slt 32#32 = true := by
    change BitVec.ofBool ((0#32).sle w) &&& BitVec.ofBool (w.slt 32#32) = 1#1 at h
    rw [h1] at h
    by_contra hn; rw [Bool.not_eq_true] at hn; rw [hn] at h; exact absurd h (by decide)
  rw [BitVec.sle, decide_eq_true_eq] at h1
  rw [BitVec.slt, decide_eq_true_eq] at h2
  have e0 : (0#32).toInt = 0 := by decide
  have e32 : (32#32).toInt = 32 := by decide
  rw [e0] at h1; rw [e32] at h2
  rw [BitVec.toInt_eq_toNat_cond] at h1 h2
  have := w.isLt
  split_ifs at h1 h2 <;> omega

theorem expert_in (h : Cert.Pre_ExpertsIdeal m) (x : S304.Idx) : (T0 (tablesOf m) x).toNat < 32 :=
  word_lt _ (congrFun (h 0) x)

theorem ok_tables (h : Cert.Pre_ExpertsIdeal m) : ok0 (F := Ideal) (tablesOf m) := by
  have key : ∀ i : grid0.Coords, (ownWord (tablesOf m) i).toNat < 32 := fun i => by rw [ownWord_eq]; exact expert_in m h _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    have hk := key i
    match a with
    | 0 => show (0 + 1) * 1 ≤ 4; omega
    | 1 => show ((ownWord (tablesOf m) i).toNat + 1) * 1 ≤ 32; omega
    | 2 => exact Nat.le_refl _
    | 3 => exact Nat.le_refl _

/-- The pipeline of a memory the precondition holds of. -/
def admOf (h : Cert.Pre_ExpertsIdeal m) : Adm := ⟨tablesOf m, ok_tables m h⟩

theorem holds_admOf (h : Cert.Pre_ExpertsIdeal m) : Holds (admOf m h) m := fun c j => by
  obtain rfl : c = 0 := Subsingleton.elim _ _
  rfl

theorem frame : Cert.quiescent_ExpertsIdeal := fun m ρ h =>
  (θ_run (defs (F := Ideal)) _ _).mono (fun _ r => ⟨fun c => (r.1 c).2, r.2⟩) (run_main (admOf m h) m ρ (holds_admOf m h))

end Cert.Proof.ExpertsIdeal

end
-- ==== Proof.ExpIValue.lean ====
/-
  What the experts' kernel leaves in its two results, element by element: every pair of rows of a tile in use holds the
  result of its expert, every other row holds zero.
-/
module

public import proofs.«01_k».proof.Proof.ExpIPay
public import proofs.«01_k».proof.Proof.ExpILaunch
public import Idealize.ShloMosaic.Lib.VecWindow
public import Idealize.ShloMosaic.Lib.Pipeline.ValueKit

@[expose] public section

set_option maxRecDepth 16384

noncomputable section

namespace Cert.Proof.ExpertsIdeal

open Cert.ExpertsIdeal Cert.ExpertsIdeal.Gen
open Idealize.ShloMosaic Idealize.ShloMosaic.TcCoe
open Idealize.ShloMosaic.Pipeline (Dat Cfg Window)
open scoped BigOperators

section
variable (c : Dev nD) (a3 a4 : Memref sig .tc .vmem S512x256 .i32) (a6 : Memref sig .tc .vmem S1x1x1x2048 .f32) (a8 : Memref sig .tc .vmem S1x1x1x1024 .f32)
  (x0 x1 : S512x256.Idx → Elt Ideal .i32) (x3 : S1x1x1x2048.Idx → Elt Ideal .f32) (x5 : S1x1x1x1024.Idx → Elt Ideal .f32)
  (s0 : Buf (Elt Ideal) ((c : Thread nD τ).loc cc0_scratch0)) (s1 : Buf (Elt Ideal) ((c : Thread nD τ).loc cc0_scratch1))

/-- One value of a row's result, of the staged blocks and the scratches. -/
def bres (p : Fin 512) (j : Fin 1024) : EReal :=
  ∑ f : Fin 1024, ExpMath.act (blin x0 x1 (scM0_0.view.read (Elt Ideal) s0) x3 p ⟨f.val, by omega⟩) (blin x0 x1 (scM0_0.view.read (Elt Ideal) s0) x3 p ⟨1024 + f.val, by omega⟩)
    * scM0_1.view.read (Elt Ideal) s1 (ix2 f j) + x5 (ix4 0 0 0 j)

theorem read_cols (o : Nat) (ho : o ≤ 1536) (inb : ∀ a, (![0, o] : Fin 2 → Nat) a + S1024x512.size a ≤ S1024x2048.size a) :
    View.readAt (Elt Ideal) scM0_0.view (Rect.unit (s := S1024x2048) ![0, o] S1024x512.size inb).toLoadRect s0 = cols (scM0_0.view.read (Elt Ideal) s0) o ho := by
  funext y
  refine congrArg (scM0_0.view.read (Elt Ideal) s0) (funext fun a => match a with | 0 => Fin.ext ?_ | 1 => Fin.ext ?_)
  · show 0 + 1 * (y 0).val = (y 0).val
    omega
  · show o + 1 * (y 1).val = o + (y 1).val
    omega

theorem read_rows (o : Nat) (ho : o ≤ 512) (inb : ∀ a, (![o, 0] : Fin 2 → Nat) a + S512x1024.size a ≤ S1024x1024.size a) :
    View.readAt (Elt Ideal) scM0_1.view (Rect.unit (s := S1024x1024) ![o, 0] S512x1024.size inb).toLoadRect s1 = rows (scM0_1.view.read (Elt Ideal) s1) o ho := by
  funext y
  refine congrArg (scM0_1.view.read (Elt Ideal) s1) (funext fun a => match a with | 0 => Fin.ext ?_ | 1 => Fin.ext ?_)
  · show o + 1 * (y 0).val = o + (y 0).val
    omega
  · show 0 + 1 * (y 1).val = (y 1).val
    omega

theorem read_bcols (o : Nat) (ho : o ≤ 1536) (inb : ∀ a, (![0, 0, 0, o] : Fin 4 → Nat) a + S1x1x1x512.size a ≤ S1x1x1x2048.size a) :
    View.readAt (Elt Ideal) a6.view (Rect.unit (s := S1x1x1x2048) ![0, 0, 0, o] S1x1x1x512.size inb).toLoadRect (a6.view.rep x3) = bcols x3 o ho := by
  rw [View.readAt_rep]
  funext y
  refine congrArg x3 (funext fun a => match a with | 0 => Fin.ext ?_ | 1 => Fin.ext ?_ | 2 => Fin.ext ?_ | 3 => Fin.ext ?_)
  · have : (y 0).val < 1 := (y 0).isLt
    show 0 + 1 * (y 0).val = 0
    omega
  · have : (y 1).val < 1 := (y 1).isLt
    show 0 + 1 * (y 1).val = 0
    omega
  · have : (y 2).val < 1 := (y 2).isLt
    show 0 + 1 * (y 2).val = 0
    omega
  · show o + 1 * (y 3).val = o + (y 3).val
    omega

/-- What the point computes, as `bres` writes it. -/
theorem point_bres (p : Fin 512) (j : Fin 1024) :
    k0_pay22 (kernelRun0_B.sl.r_6 c a3 a4 a6 x0 x1 x3 s0 s1) (kernelRun0_B.sl.r_7 c a3 a4 a6 x0 x1 x3 s0) (kernelRun0_B.sl.r_8 c a3 a4 a6 x0 x1 x3 s0) k0_pay21
      (View.readAt (Elt Ideal) scM0_1.view (Rect.unit (s := S1024x1024) ![512, 0] S512x1024.size inb_S1024x1024_S512x1024_512_0).toLoadRect s1)
      (View.readAt (Elt Ideal) a8.view (Rect.unit (s := S1x1x1x1024) ![0, 0, 0, 0] S1x1x1x1024.size inb_S1x1x1x1024_S1x1x1x1024_0_0_0_0).toLoadRect (a8.view.rep x5)) (ix2 p j)
      = bres c x0 x1 x3 x5 s0 s1 p j := by
  unfold kernelRun0_B.sl.r_6 kernelRun0_B.sl.r_7 kernelRun0_B.sl.r_8 kernelRun0_B.sl.r_3 kernelRun0_B.sl.r_4 kernelRun0_B.sl.r_5
  rw [read_cols c s0 0 (by omega), read_cols c s0 512 (by omega), read_cols c s0 1024 (by omega), read_cols c s0 1536 (by omega),
    read_rows c s1 0 (by omega), read_rows c s1 512 (by omega),
    read_bcols a6 x3 0 (by omega), read_bcols a6 x3 512 (by omega), read_bcols a6 x3 1024 (by omega), read_bcols a6 x3 1536 (by omega),
    View.readAt_rep_full a8.view x5, View.readAt_rep_full a3.view x0, View.readAt_rep_full a4.view x1]
  exact point_apply x0 x1 _ x3 _ x5 p j

theorem wrote6 (r : Fin 1024) (j : Fin 256) :
    View.read (Elt Ideal) VO0_6 (VO0_6.writes (Elt Ideal) VO0_6.junk (kernelRun0_B.sl.HO6_1 c a3 a4 a6 a8 x0 x1 x3 x5 s0 s1)) (ix2 r j)
      = bres c x0 x1 x3 x5 s0 s1 ⟨r.val / 2, by omega⟩ ⟨512 * (r.val % 2) + 256 * 0 + j.val, by omega⟩ := by
  refine View.read_writes_apply_of_pieces (Val := Elt Ideal) (v := VO0_6) _ (fun y : S1024x256.Idx => bres c x0 x1 x3 x5 s0 s1 ⟨(y 0).val / 2, by have : (y 0).val < 1024 := (y 0).isLt; omega⟩
    ⟨512 * ((y 0).val % 2) + 256 * 0 + (y 1).val, by have : (y 1).val < 256 := (y 1).isLt; omega⟩) _ ?_ _ ?_
  · unfold kernelRun0_B.sl.HO6_1
    refine List.forall_mem_cons.mpr ⟨fun z => ?_, fun _ h => absurd h List.not_mem_nil⟩
    refine (congrArg _ (eq_ix2 (n0 := 1024) (n1 := 256) z)).trans ((pay25_apply _ _ _ _ _ _ (z 0) (z 1)).trans ((point_bres c a3 a4 a6 a8 x0 x1 x3 x5 s0 s1 _ _).trans ?_))
    refine congrArg₂ (bres c x0 x1 x3 x5 s0 s1) (Fin.ext ?_) (Fin.ext ?_)
    · show (z 0).val / 2 = (0 + 1 * (z 0).val) / 2
      omega
    · show 512 * ((z 0).val % 2) + 256 * 0 + (z 1).val = 512 * ((0 + 1 * (z 0).val) % 2) + 256 * 0 + (0 + 1 * (z 1).val)
      omega
  · refine View.cover_of_tiledL (s := S1024x256) _ ![1024, 256] ?_ _
    sl_kernel_rfl

theorem wrote7 (r : Fin 1024) (j : Fin 256) :
    View.read (Elt Ideal) VO0_7 (VO0_7.writes (Elt Ideal) VO0_7.junk (kernelRun0_B.sl.HO7_1 c a3 a4 a6 a8 x0 x1 x3 x5 s0 s1)) (ix2 r j)
      = bres c x0 x1 x3 x5 s0 s1 ⟨r.val / 2, by omega⟩ ⟨512 * (r.val % 2) + 256 * 1 + j.val, by omega⟩ := by
  refine View.read_writes_apply_of_pieces (Val := Elt Ideal) (v := VO0_7) _ (fun y : S1024x256.Idx => bres c x0 x1 x3 x5 s0 s1 ⟨(y 0).val / 2, by have : (y 0).val < 1024 := (y 0).isLt; omega⟩
    ⟨512 * ((y 0).val % 2) + 256 * 1 + (y 1).val, by have : (y 1).val < 256 := (y 1).isLt; omega⟩) _ ?_ _ ?_
  · unfold kernelRun0_B.sl.HO7_1 kernelRun0_B.sl.r_9 kernelRun0_B.sl.r_10
    refine List.forall_mem_cons.mpr ⟨fun z => ?_, fun _ h => absurd h List.not_mem_nil⟩
    refine (congrArg _ (eq_ix2 (n0 := 1024) (n1 := 256) z)).trans ((pay5_apply _ _ _ _ _ _ (z 0) (z 1)).trans ((point_bres c a3 a4 a6 a8 x0 x1 x3 x5 s0 s1 _ _).trans ?_))
    refine congrArg₂ (bres c x0 x1 x3 x5 s0 s1) (Fin.ext ?_) (Fin.ext ?_)
    · show (z 0).val / 2 = (0 + 1 * (z 0).val) / 2
      omega
    · show 512 * ((z 0).val % 2) + 256 * 1 + (z 1).val = 512 * ((0 + 1 * (z 0).val) % 2) + 256 * 1 + (0 + 1 * (z 1).val)
      omega
  · refine View.cover_of_tiledL (s := S1024x256) _ ![1024, 256] ?_ _
    sl_kernel_rfl

end

/-! ## The blocks of a point, off the arguments -/

variable (A : Adm) (m : (ℓ : Loc nD τ sig) → Buf (Elt Ideal) ℓ) (ρ : Dev nD → PrngReg) (c : Dev nD)

/-- The result of row `n`, of the argument arrays, with the tables of the run. -/
abbrev rowOf (n : Fin 155648) (j : Fin 1024) : EReal :=
  ExpMath.row (T0 A.1) (T1 A.1) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) n j

/-- Whether a tile is in use, read off the count. -/
theorem used_word (t : Fin (cfgA A).N) (n : Fin 155648) (hn : n.val / 512 = (crd A t 0).val) :
    Used A.1 (crd A t) ↔ IntOp.cmpi .slt (BitVec.ofNat 32 (n.val / 512)) (T1 A.1 (ix1 0)) = 1#1 := by
  rw [used_iff, hn]
  have e : countWord A.1 = T1 A.1 (ix1 0) := congrArg (T1 A.1) (funext fun | 0 => Subsingleton.elim (α := Fin 1) _ _)
  rw [e]
  rfl

theorem bfeat_eq (t : Fin (cfgA A).N) (p : Fin 512) (k : Fin 1024) (n : Fin 155648) (hn : n.val = 512 * (crd A t 0).val + p.val) :
    bfeat (b0 A m ρ c t) (b1 A m ρ c t) p k = ExpMath.feat (m ((c : Thread nD τ).loc main_arg2)) (m ((c : Thread nD τ).loc main_arg3)) n k := by
  have e0 (q : Fin 256) : b0 A m ρ c t (ix2 p q) = m ((c : Thread nD τ).loc main_arg2) (ix2 n q) :=
    (b0_eq A m ρ c t _).trans (congrArg (m ((c : Thread nD τ).loc main_arg2)) (funext fun a => match a with | 0 => Fin.ext hn.symm | 1 => rfl))
  have e1 (q : Fin 256) : b1 A m ρ c t (ix2 p q) = m ((c : Thread nD τ).loc main_arg3) (ix2 n q) :=
    (b1_eq A m ρ c t _).trans (congrArg (m ((c : Thread nD τ).loc main_arg3)) (funext fun a => match a with | 0 => Fin.ext hn.symm | 1 => rfl))
  unfold bfeat ExpMath.feat
  rw [e0, e1]

/-- What a point in use computes of its blocks is the result of its rows at its expert. -/
theorem bres_eq (t : Fin (cfgA A).N) (p : Fin 512) (j : Fin 1024) (n : Fin 155648) (hn : n.val = 512 * (crd A t 0).val + p.val) :
    bres c (b0 A m ρ c t) (b1 A m ρ c t) (b3 A m ρ c t) (b5 A m ρ c t) (gateUp c (st2 A t) (b2 A m ρ c t)) (down c (st4 A t) (b4 A m ρ c t)) p j
      = ExpMath.res (ExpMath.feat (m ((c : Thread nD τ).loc main_arg2)) (m ((c : Thread nD τ).loc main_arg3)) n) (m ((c : Thread nD τ).loc main_arg4))
          (m ((c : Thread nD τ).loc main_arg5)) (m ((c : Thread nD τ).loc main_arg6)) (m ((c : Thread nD τ).loc main_arg7)) (expert A t) j := by
  have w (d : Fin 1024) (f : Fin 2048) : scM0_0.view.read (Elt Ideal) (gateUp c (st2 A t) (b2 A m ρ c t)) (ix2 d f)
      = m ((c : Thread nD τ).loc main_arg4) (ix4 0 (expert A t) d f) :=
    (gateUp_apply c _ _ d f).trans ((b2_eq A m ρ c t _).trans (congrArg (m ((c : Thread nD τ).loc main_arg4))
      (funext fun a => match a with | 0 => rfl | 1 => rfl | 2 => rfl | 3 => rfl)))
  have wd (f j : Fin 1024) : scM0_1.view.read (Elt Ideal) (down c (st4 A t) (b4 A m ρ c t)) (ix2 f j)
      = m ((c : Thread nD τ).loc main_arg6) (ix4 0 (expert A t) f j) :=
    (down_apply c _ _ f j).trans ((b4_eq A m ρ c t _).trans (congrArg (m ((c : Thread nD τ).loc main_arg6))
      (funext fun a => match a with | 0 => rfl | 1 => rfl | 2 => rfl | 3 => rfl)))
  have bg (f : Fin 2048) : b3 A m ρ c t (ix4 0 0 0 f) = m ((c : Thread nD τ).loc main_arg5) (ix4 0 (expert A t) 0 f) :=
    (b3_eq A m ρ c t _).trans (congrArg (m ((c : Thread nD τ).loc main_arg5)) (funext fun a => match a with | 0 => rfl | 1 => rfl | 2 => rfl | 3 => rfl))
  have bd : b5 A m ρ c t (ix4 0 0 0 j) = m ((c : Thread nD τ).loc main_arg7) (ix4 0 (expert A t) 0 j) :=
    (b5_eq A m ρ c t _).trans (congrArg (m ((c : Thread nD τ).loc main_arg7)) (funext fun a => match a with | 0 => rfl | 1 => rfl | 2 => rfl | 3 => rfl))
  have hl (f : Fin 2048) : blin (b0 A m ρ c t) (b1 A m ρ c t) (scM0_0.view.read (Elt Ideal) (gateUp c (st2 A t) (b2 A m ρ c t))) (b3 A m ρ c t) p f
      = ExpMath.lin (ExpMath.feat (m ((c : Thread nD τ).loc main_arg2)) (m ((c : Thread nD τ).loc main_arg3)) n) (m ((c : Thread nD τ).loc main_arg4))
          (m ((c : Thread nD τ).loc main_arg5)) (expert A t) f :=
    congrArg₂ (· + ·) (Finset.sum_congr rfl fun d _ => congrArg₂ (· * ·) (bfeat_eq A m ρ c t p d n hn) (w d f)) (bg f)
  exact congrArg₂ (· + ·) (Finset.sum_congr rfl fun f _ => congrArg₂ (· * ·) (congrArg₂ ExpMath.act (hl _) (hl _)) (wd f j)) bd

theorem zero6 (y : S1024x256.Idx) : View.read (Elt Ideal) VO0_6 (VO0_6.writes (Elt Ideal) VO0_6.junk kernelRun0_C.sl.HO6_1) y = (0 : EReal) := by
  refine View.read_writes_apply_of_pieces (Val := Elt Ideal) (v := VO0_6) _ (fun _ : S1024x256.Idx => (0 : EReal)) _ ?_ _ ?_
  · unfold kernelRun0_C.sl.HO6_1
    refine List.forall_mem_cons.mpr ⟨fun z => ?_, fun _ h => absurd h List.not_mem_nil⟩
    have e (r : Fin 1024) (q : Fin 256) : (k0_pay6 : FVec Ideal S1024x256 .bf16) (ix2 r q) = 0 := by pointwise [k0_pay6]
    exact (congrArg k0_pay6 (eq_ix2 (n0 := 1024) (n1 := 256) z)).trans (e _ _)
  · refine View.cover_of_tiledL (s := S1024x256) _ ![1024, 256] ?_ _
    sl_kernel_rfl

theorem zero7 (y : S1024x256.Idx) : View.read (Elt Ideal) VO0_7 (VO0_7.writes (Elt Ideal) VO0_7.junk kernelRun0_C.sl.HO7_1) y = (0 : EReal) := by
  refine View.read_writes_apply_of_pieces (Val := Elt Ideal) (v := VO0_7) _ (fun _ : S1024x256.Idx => (0 : EReal)) _ ?_ _ ?_
  · unfold kernelRun0_C.sl.HO7_1
    refine List.forall_mem_cons.mpr ⟨fun z => ?_, fun _ h => absurd h List.not_mem_nil⟩
    have e (r : Fin 1024) (q : Fin 256) : (k0_pay7 : FVec Ideal S1024x256 .bf16) (ix2 r q) = 0 := by pointwise [k0_pay7]
    exact (congrArg k0_pay7 (eq_ix2 (n0 := 1024) (n1 := 256) z)).trans (e _ _)
  · refine View.cover_of_tiledL (s := S1024x256) _ ![1024, 256] ?_ _
    sl_kernel_rfl

/-- What a point leaves in the staging buffer of result 0, element by element. -/
theorem left6_apply (t : Fin (cfgA A).N) (r : Fin 1024) (j : Fin 256) (R : Fin 311296) (hR : R.val = 1024 * (crd A t 0).val + r.val) :
    left6 A m ρ c t (ix2 r j) = rowOf A m c ⟨R.val / 2, by omega⟩ ⟨512 * (R.val % 2) + 256 * 0 + j.val, by omega⟩ := by
  have hd : R.val / 2 / 512 = (crd A t 0).val := by omega
  have hu := used_word A t ⟨R.val / 2, by omega⟩ hd
  unfold left6
  by_cases h : Used A.1 (crd A t)
  · rw [if_pos h]
    refine (wrote6 c _ _ _ _ _ _ _ _ _ _ r j).trans ((bres_eq A m ρ c t _ _ ⟨R.val / 2, by omega⟩ (by show R.val / 2 = _ + r.val / 2; omega)).trans ?_)
    unfold rowOf ExpMath.row
    rw [if_pos (hu.mp h)]
    refine congrArg₂ (ExpMath.res _ _ _ _ _) (Fin.ext ?_) (Fin.ext ?_)
    · have e : tile (crd A t 0) = ix1 ⟨R.val / 2 / 512, by omega⟩ := funext fun | 0 => Fin.ext hd.symm
      have hlt := expert_lt A t
      rw [e] at hlt
      show (T0 A.1 (tile (crd A t 0))).toNat = (T0 A.1 (ix1 ⟨R.val / 2 / 512, by omega⟩)).toNat % 32
      rw [e, Nat.mod_eq_of_lt hlt]
    · show 512 * (r.val % 2) + 256 * 0 + j.val = 512 * (R.val % 2) + 256 * 0 + j.val
      omega
  · rw [if_neg h]
    refine (zero6 _).trans ?_
    unfold rowOf ExpMath.row
    rw [if_neg (fun hw => h (hu.mpr hw))]

theorem blk6_emb (t : Fin (cfgA A).N) (y : S1024x256.Idx) :
    ((((cfgA A).win (6 : Fin 8)).blk t).view.emb y : S311296x256.Idx) = inRows (crd A t 0) y := by
  show ((((cfgA A).win (6 : Fin 8)).rect t).emb y) = _
  refine funext fun a => Fin.ext ?_
  refine (Window.rect_emb_val ((cfgA A).win (6 : Fin 8)) t y a (hk := rfl)).trans ?_
  show ![(BitVec.ofNat 32 (crd A t 0).val).toNat, 0] a * ![1024, 256] a + (y a).val = _
  rw [rows_val]
  match a with
  | 0 => show (crd A t 0).val * 1024 + (y 0).val = 1024 * (crd A t 0).val + (y 0).val; omega
  | 1 => show 0 * 256 + (y 1).val = (y 1).val; omega

/-- Result 0, whole, after the run. -/
def outOf6 : S311296x256.Idx → EReal := fun y =>
  rowOf A m c ⟨(y 0).val / 2, by have : (y 0).val < 311296 := (y 0).isLt; omega⟩
    ⟨512 * ((y 0).val % 2) + 256 * 0 + (y 1).val, by have : (y 1).val < 256 := (y 1).isLt; omega⟩

theorem arrAt6 : (dats A m ρ 0 c).arrAt (6 : Fin 8) (cfgA A).N = outOf6 A m c := by
  refine Dat.arrAt_eq_of_emb (dats A m ρ 0 c) (6 : Fin 8) _ (fun t _ y => ?_) (fun i => ?_)
  · refine (show _ = left6 A m ρ c t y from rfl).trans ?_
    refine Eq.trans ?_ (congrArg (outOf6 A m c) (blk6_emb A t y)).symm
    refine (congrArg (left6 A m ρ c t) (eq_ix2 (n0 := 1024) (n1 := 256) y)).trans ?_
    exact left6_apply A m ρ c t _ _ (inRows (crd A t 0) y 0) rfl
  · let z : S311296x256.Idx := i
    have hz : (z 0).val < 311296 := (z 0).isLt
    have hN := N_eq A
    let t : Fin (cfgA A).N := ⟨(z 0).val / 1024, by omega⟩
    have ht : (crd A t 0).val = (z 0).val / 1024 := crd_val A t
    have e : (((cfgA A).win (6 : Fin 8)).blk t).view.emb (show S1024x256.Idx from ix2 ⟨(z 0).val % 1024, Nat.mod_lt _ (by omega)⟩ (z 1)) = i := by
      refine (blk6_emb A t _).trans (funext fun a => match a with | 0 => Fin.ext ?_ | 1 => rfl)
      show 1024 * (crd A t 0).val + (z 0).val % 1024 = (z 0).val
      omega
    exact ⟨t, flush6 A t, e ▸ View.emb_mem_set _ _⟩

/-- What a point leaves in the staging buffer of result 1, element by element. -/
theorem left7_apply (t : Fin (cfgA A).N) (r : Fin 1024) (j : Fin 256) (R : Fin 311296) (hR : R.val = 1024 * (crd A t 0).val + r.val) :
    left7 A m ρ c t (ix2 r j) = rowOf A m c ⟨R.val / 2, by omega⟩ ⟨512 * (R.val % 2) + 256 * 1 + j.val, by omega⟩ := by
  have hd : R.val / 2 / 512 = (crd A t 0).val := by omega
  have hu := used_word A t ⟨R.val / 2, by omega⟩ hd
  unfold left7
  by_cases h : Used A.1 (crd A t)
  · rw [if_pos h]
    refine (wrote7 c _ _ _ _ _ _ _ _ _ _ r j).trans ((bres_eq A m ρ c t _ _ ⟨R.val / 2, by omega⟩ (by show R.val / 2 = _ + r.val / 2; omega)).trans ?_)
    unfold rowOf ExpMath.row
    rw [if_pos (hu.mp h)]
    refine congrArg₂ (ExpMath.res _ _ _ _ _) (Fin.ext ?_) (Fin.ext ?_)
    · have e : tile (crd A t 0) = ix1 ⟨R.val / 2 / 512, by omega⟩ := funext fun | 0 => Fin.ext hd.symm
      have hlt := expert_lt A t
      rw [e] at hlt
      show (T0 A.1 (tile (crd A t 0))).toNat = (T0 A.1 (ix1 ⟨R.val / 2 / 512, by omega⟩)).toNat % 32
      rw [e, Nat.mod_eq_of_lt hlt]
    · show 512 * (r.val % 2) + 256 * 1 + j.val = 512 * (R.val % 2) + 256 * 1 + j.val
      omega
  · rw [if_neg h]
    refine (zero7 _).trans ?_
    unfold rowOf ExpMath.row
    rw [if_neg (fun hw => h (hu.mpr hw))]

theorem blk7_emb (t : Fin (cfgA A).N) (y : S1024x256.Idx) :
    ((((cfgA A).win (7 : Fin 8)).blk t).view.emb y : S311296x256.Idx) = inRows (crd A t 0) y := by
  show ((((cfgA A).win (7 : Fin 8)).rect t).emb y) = _
  refine funext fun a => Fin.ext ?_
  refine (Window.rect_emb_val ((cfgA A).win (7 : Fin 8)) t y a (hk := rfl)).trans ?_
  show ![(BitVec.ofNat 32 (crd A t 0).val).toNat, 0] a * ![1024, 256] a + (y a).val = _
  rw [rows_val]
  match a with
  | 0 => show (crd A t 0).val * 1024 + (y 0).val = 1024 * (crd A t 0).val + (y 0).val; omega
  | 1 => show 0 * 256 + (y 1).val = (y 1).val; omega

/-- Result 1, whole, after the run. -/
def outOf7 : S311296x256.Idx → EReal := fun y =>
  rowOf A m c ⟨(y 0).val / 2, by have : (y 0).val < 311296 := (y 0).isLt; omega⟩
    ⟨512 * ((y 0).val % 2) + 256 * 1 + (y 1).val, by have : (y 1).val < 256 := (y 1).isLt; omega⟩

theorem arrAt7 : (dats A m ρ 0 c).arrAt (7 : Fin 8) (cfgA A).N = outOf7 A m c := by
  refine Dat.arrAt_eq_of_emb (dats A m ρ 0 c) (7 : Fin 8) _ (fun t _ y => ?_) (fun i => ?_)
  · refine (show _ = left7 A m ρ c t y from rfl).trans ?_
    refine Eq.trans ?_ (congrArg (outOf7 A m c) (blk7_emb A t y)).symm
    refine (congrArg (left7 A m ρ c t) (eq_ix2 (n0 := 1024) (n1 := 256) y)).trans ?_
    exact left7_apply A m ρ c t _ _ (inRows (crd A t 0) y 0) rfl
  · let z : S311296x256.Idx := i
    have hz : (z 0).val < 311296 := (z 0).isLt
    have hN := N_eq A
    let t : Fin (cfgA A).N := ⟨(z 0).val / 1024, by omega⟩
    have ht : (crd A t 0).val = (z 0).val / 1024 := crd_val A t
    have e : (((cfgA A).win (7 : Fin 8)).blk t).view.emb (show S1024x256.Idx from ix2 ⟨(z 0).val % 1024, Nat.mod_lt _ (by omega)⟩ (z 1)) = i := by
      refine (blk7_emb A t _).trans (funext fun a => match a with | 0 => Fin.ext ?_ | 1 => rfl)
      show 1024 * (crd A t 0).val + (z 0).val % 1024 = (z 0).val
      omega
    exact ⟨t, flush7 A t, e ▸ View.emb_mem_set _ _⟩

/-- The run from a memory whose tables name experts: both results, element by element. -/
theorem run_value (h : Cert.Pre_ExpertsIdeal m) :
    θ_run (defs (F := Ideal)) (onTc (τ := τ) (main (F := Ideal))) ⟨m, fun _ => 0, ρ⟩ (fun r => ∀ c : Dev nD,
      r.2.mem ((c.tc : Thread nD τ).loc main_v0_0) = outOf6 (admOf m h) m c ∧ r.2.mem ((c.tc : Thread nD τ).loc main_v0_1) = outOf7 (admOf m h) m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run (defs (F := Ideal)) _ _).mono (fun _ r c => ⟨(r.1 c).1.1.trans (arrAt6 _ m ρ c), (r.1 c).1.2.trans (arrAt7 _ m ρ c), (r.1 c).2⟩)
    (run_main (admOf m h) m ρ (holds_admOf m h))

end Cert.Proof.ExpertsIdeal

end

end
-- ==== Proof.ExpRef.lean ====
/-
  The reference of the experts' call, element by element: each row's result is its tile's expert's.
-/
module

public import proofs.«01_k».proof.Proof.ExpMath
public import proofs.«01_k».proof.Proof.Gen.ExpertsRefIdeal.Run
public import Idealize.ShloMosaic.Lib.Pointwise
public import Idealize.ShloMosaic.Lib.StableHlo.Predicate
public import Idealize.ShloMosaic.Lib.Routing.Words

@[expose] public section

noncomputable section

namespace Cert.Proof.ExpRef

open Idealize.ShloMosaic Idealize.ShloMosaic.StableHlo
open Cert.ExpertsRefIdeal Cert.ExpertsRefIdeal.Facts₀
open Idealize.ShloMosaic.StableHlo.Predicate
open scoped BigOperators

/-- The tile of each row: its number divided by the tile's rows, rounded down. -/
def tiles : IVec S155648 32 :=
  select (andi (cmpi .ne (signi (iotaInDim S155648 32 0)) (broadcastInDim S155648 ![] bcast_S_S155648 (signi (id (constantI S_ 32 512#32))))) (cmpi .ne (Host.remsi (iotaInDim S155648 32 0) (broadcastInDim S155648 ![] bcast_S_S155648 (id (constantI S_ 32 512#32)))) (broadcastInDim S155648 ![] bcast_S_S155648 (constantI S_ 32 0#32)))) (subi (Host.divsi (iotaInDim S155648 32 0) (broadcastInDim S155648 ![] bcast_S_S155648 (id (constantI S_ 32 512#32)))) (broadcastInDim S155648 ![] bcast_S_S155648 (constantI S_ 32 1#32))) (Host.divsi (iotaInDim S155648 32 0) (broadcastInDim S155648 ![] bcast_S_S155648 (id (constantI S_ 32 512#32))))

/-- The words of both arrays, side by side. -/
def words (a b : IVec S155648x256 32) : IVec S155648x512 32 :=
  concatenate S155648x512 1 [⟨S155648x256, a⟩, ⟨S155648x256, b⟩] concatenates_S155648x256_S155648x256_S155648x512_d1

/-- The rows' features: the low halves of the words, then the high ones. -/
def feats (a b : IVec S155648x256 32) : FVec Ideal S155648x1024 .f32 :=
  bitcastToFloat .f32 (concatenate S155648x1024 1
    [⟨S155648x512, Host.shli (words a b) (broadcastInDim S155648x512 ![] bcast_S_S155648x512 (constantI S_ 32 16#32))⟩,
      ⟨S155648x512, andi (words a b) (broadcastInDim S155648x512 ![] bcast_S_S155648x512 (constantI S_ 32 4294901760#32))⟩]
    concatenates_S155648x512_S155648x512_S155648x1024_d1)

/-- Every expert's first products of every row, with their biases. -/
def firsts (x : FVec Ideal S155648x1024 .f32) (W : FVec Ideal S4x32x1024x2048 .f32) (b : FVec Ideal S4x32x1x2048 .f32) : FVec Ideal S32x155648x2048 .f32 :=
  addf (transpose S32x155648x2048 [0, 2, 1] (Host.dotGeneral dot_S32x1024x2048_S155648x1024_S32x2048x155648_1_1_02_0_n_n none (shapeCast _ (extractStridedSlice S1x32x1024x2048 ![0, 0, 0, 0] W slices_S4x32x1024x2048_S1x32x1024x2048_0_0_0_0) shapeCasts_S1x32x1024x2048_S32x1024x2048) x) transposes_S32x2048x155648_S32x155648x2048_0_2_1) (broadcastInDim S32x155648x2048 ![0, 1, 2] bcast_S32x1x2048_S32x155648x2048_0_1_2 (shapeCast _ (extractStridedSlice S1x32x1x2048 ![0, 0, 0, 0] b slices_S4x32x1x2048_S1x32x1x2048_0_0_0_0) shapeCasts_S1x32x1x2048_S32x1x2048))

/-- The activation of the first products. -/
def acts (h : FVec Ideal S32x155648x2048 .f32) : FVec Ideal S32x155648x1024 .f32 :=
  mulf (addf (minimumf (broadcastInDim S32x155648x1024 ![] bcast_S_S32x155648x1024 (id (constant S_ .f32 0x40E00000#32))) (maximumf (broadcastInDim S32x155648x1024 ![] bcast_S_S32x155648x1024 (id (constant S_ .f32 0xC0E00000#32))) (extractStridedSlice S32x155648x1024 ![0, 0, 1024] h slices_S32x155648x2048_S32x155648x1024_0_0_1024))) (broadcastInDim S32x155648x1024 ![] bcast_S_S32x155648x1024 (constant S_ .f32 0x3F800000#32)))
    (mulf (minimumf (extractStridedSlice S32x155648x1024 ![0, 0, 0] h slices_S32x155648x2048_S32x155648x1024_0_0_0) (broadcastInDim S32x155648x1024 ![] bcast_S_S32x155648x1024 (constant S_ .f32 0x40E00000#32)))
      (Host.divf (broadcastInDim S32x155648x1024 ![] bcast_S_S32x155648x1024 (constant S_ .f32 0x3F800000#32)) (addf (broadcastInDim S32x155648x1024 ![] bcast_S_S32x155648x1024 (constant S_ .f32 0x3F800000#32)) (Host.exp (Host.negf (mulf (broadcastInDim S32x155648x1024 ![] bcast_S_S32x155648x1024 (constant S_ .f32 0x3FD9DB23#32)) (minimumf (extractStridedSlice S32x155648x1024 ![0, 0, 0] h slices_S32x155648x2048_S32x155648x1024_0_0_0) (broadcastInDim S32x155648x1024 ![] bcast_S_S32x155648x1024 (constant S_ .f32 0x40E00000#32)))))))))

/-- Every expert's result of every row. -/
def seconds (z : FVec Ideal S32x155648x1024 .f32) (W : FVec Ideal S4x32x1024x1024 .f32) (b : FVec Ideal S4x32x1x1024 .f32) : FVec Ideal S32x155648x1024 .f32 :=
  addf (Host.dotGeneral dot_S32x155648x1024_S32x1024x1024_S32x155648x1024_2_1_1_2_0_0 none z (shapeCast _ (extractStridedSlice S1x32x1024x1024 ![0, 0, 0, 0] W slices_S4x32x1024x1024_S1x32x1024x1024_0_0_0_0) shapeCasts_S1x32x1024x1024_S32x1024x1024)) (broadcastInDim S32x155648x1024 ![0, 1, 2] bcast_S32x1x1024_S32x155648x1024_0_1_2 (shapeCast _ (extractStridedSlice S1x32x1x1024 ![0, 0, 0, 0] b slices_S4x32x1x1024_S1x32x1x1024_0_0_0_0) shapeCasts_S1x32x1x1024_S32x1x1024))

/-- The expert of each row's tile. -/
def experts (te : IVec S304 32) : IVec S155648 32 :=
  Host.gather gather_S304_S155648x1_S155648_n_0_n_n_0_1_1 te (broadcastInDim S155648x1 ![0] bcast_S155648_S155648x1_0 (select (cmpi .slt tiles (broadcastInDim S155648 ![] bcast_S_S155648 (constantI S_ 32 0#32))) (addi tiles (broadcastInDim S155648 ![] bcast_S_S155648 (constantI S_ 32 304#32))) tiles))

/-- Whether an expert is the one of a row. -/
def mine (w : IVec S155648 32) : IVec S32x155648x1024 1 :=
  broadcastInDim S32x155648x1024 ![0, 1, 2] bcast_S32x155648x1_S32x155648x1024_0_1_2 (broadcastInDim S32x155648x1 ![0, 1] bcast_S32x155648_S32x155648x1_0_1 (transpose S32x155648 [1, 0] (cmpi .eq (broadcastInDim S155648x32 ![0, 1] bcast_S155648x1_S155648x32_0_1 (broadcastInDim S155648x1 ![0] bcast_S155648_S155648x1_0 w)) (broadcastInDim S155648x32 ![0, 1] bcast_S1x32_S155648x32_0_1 (broadcastInDim S1x32 ![1] bcast_S32_S1x32_1 (iotaInDim S32 32 0)))) transposes_S155648x32_S32x155648_1_0))

/-- Each row's result: its expert's, zero in the unused tiles. -/
def rows (nu : IVec S1 32) (w : IVec S155648 32) (y : FVec Ideal S32x155648x1024 .f32) : FVec Ideal S155648x1024 .bf16 :=
  truncf .bf16 (select (broadcastInDim S155648x1024 ![0, 1] bcast_S155648x1_S155648x1024_0_1 (broadcastInDim S155648x1 ![0] bcast_S155648_S155648x1_0 (cmpi .slt tiles (broadcastInDim S155648 ![] bcast_S_S155648 (shapeCast _ nu shapeCasts_S1_S_)))))
    (Host.reduceAdd (select (mine w) y (broadcastInDim S32x155648x1024 ![] bcast_S_S32x155648x1024 (sitofp .f32 (constantI S_ 32 0#32)))) (constant S_ .f32 0x00000000#32) reducesTo_S32x155648x1024_S155648x1024_d0 h_S_)
    (broadcastInDim S155648x1024 ![] bcast_S_S155648x1024 (sitofp .f32 (constantI S_ 32 0#32)))) bitsLt_bf16_f32

/-- The first result: of each row the first and the third quarter, as a row pair. -/
def out0 (y : FVec Ideal S155648x1024 .bf16) : FVec Ideal S311296x256 .bf16 :=
  shapeCast _ (concatenate S155648x2x256 1 [⟨S155648x1x256, broadcastInDim S155648x1x256 ![0, 2] bcast_S155648x256_S155648x1x256_0_2 (extractStridedSlice S155648x256 ![0, 0] y slices_S155648x1024_S155648x256_0_0)⟩, ⟨S155648x1x256, broadcastInDim S155648x1x256 ![0, 2] bcast_S155648x256_S155648x1x256_0_2 (extractStridedSlice S155648x256 ![0, 512] y slices_S155648x1024_S155648x256_0_512)⟩] concatenates_S155648x1x256_S155648x1x256_S155648x2x256_d1) shapeCasts_S155648x2x256_S311296x256

/-- The second result: of each row the second and the fourth quarter, as a row pair. -/
def out1 (y : FVec Ideal S155648x1024 .bf16) : FVec Ideal S311296x256 .bf16 :=
  shapeCast _ (concatenate S155648x2x256 1 [⟨S155648x1x256, broadcastInDim S155648x1x256 ![0, 2] bcast_S155648x256_S155648x1x256_0_2 (extractStridedSlice S155648x256 ![0, 256] y slices_S155648x1024_S155648x256_0_256)⟩, ⟨S155648x1x256, broadcastInDim S155648x1x256 ![0, 2] bcast_S155648x256_S155648x1x256_0_2 (extractStridedSlice S155648x256 ![0, 768] y slices_S155648x1024_S155648x256_0_768)⟩] concatenates_S155648x1x256_S155648x1x256_S155648x2x256_d1) shapeCasts_S155648x2x256_S311296x256

/-- The rows' results of the arguments. -/
def allRows (te : IVec S304 32) (nu : IVec S1 32) (a b : IVec S155648x256 32) (W : FVec Ideal S4x32x1024x2048 .f32) (bg : FVec Ideal S4x32x1x2048 .f32)
    (Wd : FVec Ideal S4x32x1024x1024 .f32) (bd : FVec Ideal S4x32x1x1024 .f32) : FVec Ideal S155648x1024 .bf16 :=
  rows nu (experts te) (seconds (acts (firsts (feats a b) W bg)) Wd bd)

set_option maxRecDepth 8192 in
theorem res0_eq (m : (ℓ : Loc nD τ sig) → Buf (Elt Ideal) ℓ) (c : Dev nD) :
    Value.res_out0 m c = out0 (allRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_out0 Value.res_main_v71
  rfl

set_option maxRecDepth 8192 in
theorem res1_eq (m : (ℓ : Loc nD τ sig) → Buf (Elt Ideal) ℓ) (c : Dev nD) :
    Value.res_out1 m c = out1 (allRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_out1 Value.res_main_v75
  rfl

set_option maxRecDepth 16384

/-! ### The pieces at an index -/

theorem word_nonneg {n : Nat} (h : n < 2 ^ 31) : (BitVec.ofNat 32 n).msb = false := by
  rw [BitVec.msb_eq_false_iff_two_mul_lt, BitVec.toNat_ofNat]
  omega

theorem tiles_apply (n : Fin 155648) : tiles (ix1 n) = BitVec.ofNat 32 (n.val / 512) := by
  have hn := n.isLt
  have hz : (BitVec.ofNat 32 n.val = 0) ↔ n.val = 0 := by
    constructor
    · intro h
      have := congrArg BitVec.toNat h
      rw [BitVec.toNat_ofNat] at this
      have h0 : (0 : BitVec 32).toNat = 0 := rfl
      omega
    · intro h; rw [h]; rfl
  have hd : IntOp.divsi ArithUnit.host (BitVec.ofNat 32 n.val) 512#32 = BitVec.ofNat 32 (n.val / 512) :=
    Routing.divsi_word _ (by omega) (by omega) (by omega)
  have hr : IntOp.remsi ArithUnit.host (BitVec.ofNat 32 n.val) 512#32 = BitVec.ofNat 32 (n.val % 512) :=
    Routing.remsi_word _ (by omega) (by omega) (by omega)
  have hm := word_nonneg (by omega : n.val < 2 ^ 31)
  by_cases h : n.val = 0
  · rw [show n = (0 : Fin 155648) from Fin.ext h]
    rfl
  · have hz' : (BitVec.ofNat 32 n.val = 0) = False := eq_false fun e => h (hz.mp e)
    have hi : (id (constantI S_ 32 512#32) : IVec S_ 32) ix0 = 512#32 := rfl
    pointwise [tiles]
    simp only [hi, hd, hr, hm, hz', if_false, Bool.false_eq_true]
    generalize IntOp.cmpi CmpIPredicate.ne (BitVec.ofNat 32 (n.val % 512)) 0#32 = b
    have e0 : IntOp.cmpi CmpIPredicate.ne (1 : BitVec 32) (if (512#32 : BitVec 32) = 0 then 0 else if (512#32 : BitVec 32).msb = true then -1 else 1) = 0#1 := by
      decide
    have e1 : IntOp.andi 0#1 b = 0#1 := BitVec.zero_and
    rw [e0, e1]
    rfl

theorem experts_apply (te : IVec S304 32) (n : Fin 155648) : experts te (ix1 n) = te (ix1 ⟨n.val / 512, by omega⟩) := by
  have hn := n.isLt
  have e : (ix1 n : S155648.Idx) = Shape.Idx.ofFin n := by funext a; match a with | ⟨0, _⟩ => rfl
  unfold experts
  rw [e]
  refine (gather_take _ rfl rfl rfl rfl te _ n (by omega)).trans (congrArg te ?_)
  have hw : ∀ w : BitVec 32, w = BitVec.ofNat 32 (n.val / 512) →
      (Scalar.select (IntOp.cmpi .slt w 0#32) (IntOp.addi w 304#32) w).toInt.toNat = n.val / 512 := by
    rintro w rfl
    have h1 : IntOp.cmpi .slt (BitVec.ofNat 32 (n.val / 512)) 0#32 = 0#1 := by
      have : (BitVec.slt (BitVec.ofNat 32 (n.val / 512)) 0#32) = false := by
        simp only [BitVec.slt_eq_decide, decide_eq_false_iff_not, BitVec.toInt_eq_toNat_cond, BitVec.toNat_ofNat, Nat.reducePow, Nat.reduceMod]
        omega
      simp only [IntOp.cmpi, this]
      rfl
    rw [h1]
    show (BitVec.ofNat 32 (n.val / 512)).toInt.toNat = _
    simp only [BitVec.toInt_eq_toNat_cond, BitVec.toNat_ofNat, Nat.reducePow]
    omega
  funext a
  match a with
  | ⟨0, _⟩ =>
    refine Fin.ext ?_
    have hq : (tiles : IVec S155648 32) (ix1 n) = BitVec.ofNat 32 (n.val / 512) := tiles_apply n
    have := hw _ hq
    have hx : ∀ z : IVec S155648 32, (broadcastInDim S155648x1 ![0] bcast_S155648_S155648x1_0 z) (ixP n) = z (ix1 n) := by
      intro z
      have ep : (ixP n : S155648x1.Idx) = ix2 n 0 := by
        funext a; match a with | ⟨0, _⟩ => rfl | ⟨1, _⟩ => rfl
      rw [ep]
      pointwise
    show min _ _ = n.val / 512
    rw [hx]
    have hs : (select (cmpi .slt tiles (broadcastInDim S155648 ![] bcast_S_S155648 (constantI S_ 32 0#32))) (addi tiles (broadcastInDim S155648 ![] bcast_S_S155648 (constantI S_ 32 304#32))) tiles : IVec S155648 32) (ix1 n)
        = Scalar.select (IntOp.cmpi .slt (tiles (ix1 n)) 0#32) (IntOp.addi (tiles (ix1 n)) 304#32) (tiles (ix1 n)) := by
      pointwise
    rw [hs, this]
    omega

theorem words_lo (a b : IVec S155648x256 32) (r : Fin 155648) (j : Fin 512) (h : j.val < 256) :
    words a b (ix2 r j) = a (ix2 r ⟨j.val, h⟩) := by
  pointwise [words]
  exact dif_pos h
theorem words_hi (a b : IVec S155648x256 32) (r : Fin 155648) (j : Fin 512) (h : ¬ j.val < 256) :
    words a b (ix2 r j) = b (ix2 r ⟨j.val - 256, by omega⟩) := by
  pointwise [words]
  exact dif_neg h

theorem feats_lo (a b : IVec S155648x256 32) (r : Fin 155648) (j : Fin 1024) (h : j.val < 512) :
    feats a b (ix2 r j) = CombMath.low (words a b (ix2 r ⟨j.val, h⟩)) := by
  unfold feats
  generalize words a b = w
  pointwise
  rw [dif_pos h]
  rfl
theorem feats_hi (a b : IVec S155648x256 32) (r : Fin 155648) (j : Fin 1024) (h : ¬ j.val < 512) :
    feats a b (ix2 r j) = CombMath.high (words a b (ix2 r ⟨j.val - 512, by omega⟩)) := by
  unfold feats
  generalize words a b = w
  pointwise
  rw [dif_neg h]
  rfl

theorem feats_apply (a b : IVec S155648x256 32) (r : Fin 155648) (j : Fin 1024) :
    feats a b (ix2 r j) = ExpMath.feat a b r j := by
  have hk := j.isLt
  unfold ExpMath.feat
  by_cases h1 : j.val < 256
  · refine Eq.trans ?_ (if_pos h1).symm
    rw [feats_lo _ _ _ _ (by omega), words_lo _ _ _ _ h1]
    exact congrArg (fun q => CombMath.low (a (ix2 r q))) (Fin.ext (show j.val = j.val % 256 by omega))
  by_cases h2 : j.val < 512
  · refine Eq.trans ?_ ((if_neg h1).trans (if_pos h2)).symm
    rw [feats_lo _ _ _ _ h2, words_hi _ _ _ _ h1]
    exact congrArg (fun q => CombMath.low (b (ix2 r q))) (Fin.ext (show j.val - 256 = j.val % 256 by omega))
  by_cases h3 : j.val < 768
  · refine Eq.trans ?_ ((if_neg h1).trans ((if_neg h2).trans (if_pos h3))).symm
    rw [feats_hi _ _ _ _ h2, words_lo _ _ _ _ (show j.val - 512 < 256 by omega)]
    exact congrArg (fun q => CombMath.high (a (ix2 r q))) (Fin.ext (show j.val - 512 = j.val % 256 by omega))
  · refine Eq.trans ?_ ((if_neg h1).trans ((if_neg h2).trans (if_neg h3))).symm
    rw [feats_hi _ _ _ _ h2, words_hi _ _ _ _ (show ¬ j.val - 512 < 256 by omega)]
    exact congrArg (fun q => CombMath.high (b (ix2 r q))) (Fin.ext (show j.val - 512 - 256 = j.val % 256 by omega))

theorem firsts_apply (x : FVec Ideal S155648x1024 .f32) (W : FVec Ideal S4x32x1024x2048 .f32) (b : FVec Ideal S4x32x1x2048 .f32)
    (e : Fin 32) (n : Fin 155648) (f : Fin 2048) :
    firsts x W b (ix3 e n f) = ExpMath.lin (fun k => x (ix2 n k)) W b e f := by
  pointwise [firsts]
  unfold ExpMath.lin
  refine congrArg (· + _) (Finset.sum_congr rfl fun d _ => mul_comm _ _)

theorem acts_apply (h : FVec Ideal S32x155648x2048 .f32) (e : Fin 32) (n : Fin 155648) (f : Fin 1024) :
    acts h (ix3 e n f) = ExpMath.act (h (ix3 e n ⟨f.val, by omega⟩)) (h (ix3 e n ⟨1024 + f.val, by omega⟩)) := by
  pointwise [acts]
  rfl

theorem seconds_apply (z : FVec Ideal S32x155648x1024 .f32) (W : FVec Ideal S4x32x1024x1024 .f32) (b : FVec Ideal S4x32x1x1024 .f32)
    (e : Fin 32) (n : Fin 155648) (j : Fin 1024) :
    seconds z W b (ix3 e n j) = ∑ f : Fin 1024, z (ix3 e n f) * W (ix4 0 e f j) + b (ix4 0 e 0 j) := by
  pointwise [seconds]

theorem mine_apply (w : IVec S155648 32) (e : Fin 32) (n : Fin 155648) (j : Fin 1024) :
    mine w (ix3 e n j) = IntOp.cmpi .eq (w (ix1 n)) (BitVec.ofNat 32 e.val) := by
  pointwise [mine]

theorem zero_word : (FloatOps.sitofp (F := Ideal) .f32 (0#32 : BitVec 32) : EReal) = 0 := by
  show (((0#32 : BitVec 32).toInt : ℝ) : EReal) = 0
  simp

theorem rows_apply (nu : IVec S1 32) (w : IVec S155648 32) (y : FVec Ideal S32x155648x1024 .f32) (n : Fin 155648) (j : Fin 1024)
    (hw : (w (ix1 n)).toNat < 32) :
    rows nu w y (ix2 n j) = if IntOp.cmpi .slt (BitVec.ofNat 32 (n.val / 512)) (nu (ix1 0)) = 1#1 then
      (y (ix3 ⟨(w (ix1 n)).toNat, hw⟩ n j) : EReal) else 0 := by
  pointwise [rows]
  rw [tiles_apply, zero_word]
  have hs : ∀ (b : BitVec 1) (u v : EReal), Scalar.select b u v = if b = 1#1 then u else v := fun _ _ _ => rfl
  simp only [hs, mine_apply]
  refine if_congr Iff.rfl ?_ rfl
  rw [Finset.sum_eq_single (⟨(w (ix1 n)).toNat, hw⟩ : Fin 32)]
  · refine if_pos ?_
    rw [cmpi_eq_iff]
    apply BitVec.eq_of_toNat_eq
    rw [BitVec.toNat_ofNat]
    show _ = (w (ix1 n)).toNat % _
    omega
  · intro e _ he
    refine if_neg fun h => he ?_
    rw [cmpi_eq_iff] at h
    apply Fin.ext
    show e.val = (w (ix1 n)).toNat
    rw [h, BitVec.toNat_ofNat]
    have := e.isLt
    omega
  · intro h; exact absurd (Finset.mem_univ _) h

theorem out0_apply (y : FVec Ideal S155648x1024 .bf16) (r : Fin 311296) (j : Fin 256) :
    out0 y (ix2 r j) = y (ix2 ⟨r.val / 2, by omega⟩ ⟨512 * (r.val % 2) + 256 * 0 + j.val, by omega⟩) := by
  pointwise [out0]
  split_ifs
  all_goals
    congr 1
    congr 1
    apply Fin.ext
    simp only
    omega

theorem out1_apply (y : FVec Ideal S155648x1024 .bf16) (r : Fin 311296) (j : Fin 256) :
    out1 y (ix2 r j) = y (ix2 ⟨r.val / 2, by omega⟩ ⟨512 * (r.val % 2) + 256 * 1 + j.val, by omega⟩) := by
  pointwise [out1]
  split_ifs
  all_goals
    congr 1
    congr 1
    apply Fin.ext
    simp only
    omega

/-- A row's result is its tile's expert's. -/
theorem allRows_apply (te : IVec S304 32) (nu : IVec S1 32) (a b : IVec S155648x256 32) (W : FVec Ideal S4x32x1024x2048 .f32)
    (bg : FVec Ideal S4x32x1x2048 .f32) (Wd : FVec Ideal S4x32x1024x1024 .f32) (bd : FVec Ideal S4x32x1x1024 .f32)
    (h : ∀ i, (te i).toNat < 32) (n : Fin 155648) (j : Fin 1024) :
    allRows te nu a b W bg Wd bd (ix2 n j) = ExpMath.row te nu a b W bg Wd bd n j := by
  unfold allRows ExpMath.row
  rw [rows_apply _ _ _ _ _ (by rw [experts_apply]; exact h _)]
  refine if_congr Iff.rfl ?_ rfl
  rw [seconds_apply]
  unfold ExpMath.res ExpMath.hid
  have he : (⟨(experts te (ix1 n)).toNat, by rw [experts_apply]; exact h _⟩ : Fin 32)
      = ⟨(te (ix1 ⟨n.val / 512, by omega⟩)).toNat % 32, Nat.mod_lt _ (by omega)⟩ := by
    apply Fin.ext
    show (experts te (ix1 n)).toNat = _ % 32
    rw [experts_apply, Nat.mod_eq_of_lt (h _)]
  rw [he]
  refine congrArg (· + _) (Finset.sum_congr rfl fun f _ => ?_)
  rw [acts_apply, firsts_apply, firsts_apply]
  simp only [feats_apply]

end Cert.Proof.ExpRef

end

end
-- ==== Proof.ExpClaims.lean ====
/-
  The experts' claims: the reference's frame, the rules the kernel's printed idealization uses, and that both programs
  end with the same two arrays.
-/
module

public import proofs.«01_k».proof.Defs
public import proofs.«01_k».proof.Proof.ExpIValue
public import proofs.«01_k».proof.Proof.ExpRef
public import Idealize.ShloMosaic.Lib.Bf16Pair
public import Idealize.ShloMosaic.Adequacy
public import Idealize.ShloMosaic.Init

@[expose] public section

set_option maxRecDepth 16384

noncomputable section

namespace Cert.Proof.ExpClaims

open Idealize.ShloMosaic Idealize.SL.Sem

theorem frame_reference : Cert.quiescent_ExpertsRefIdeal := fun m ρ _ =>
  (θ_run (Cert.ExpertsRefIdeal.defs (F := Ideal)) _ _).mono
    (fun r h => ⟨fun c => (h c).2.2, Idealize.ShloMosaic.sem_eq_zero_of_no_sems (by decide) r.2⟩)
    (Cert.ExpertsRefIdeal.Value.run (F := Ideal) m ρ)

theorem preserves : Cert.preserves_Experts_ExpertsIdeal :=
  ⟨IdealRules.bf16_pair.statement _ _, IdealRules.bf16_pack.statement _⟩

/-- The reference's two results are the kernel's, on the same arguments. -/
theorem ref0 (te : IVec Cert.ExpertsRefIdeal.S304 32) (nu : IVec Cert.ExpertsRefIdeal.S1 32) (a b : IVec Cert.ExpertsRefIdeal.S155648x256 32)
    (W : FVec Ideal Cert.ExpertsRefIdeal.S4x32x1024x2048 .f32) (bg : FVec Ideal Cert.ExpertsRefIdeal.S4x32x1x2048 .f32)
    (Wd : FVec Ideal Cert.ExpertsRefIdeal.S4x32x1024x1024 .f32) (bd : FVec Ideal Cert.ExpertsRefIdeal.S4x32x1x1024 .f32)
    (h : ∀ i, (te i).toNat < 32) :
    ExpRef.out0 (ExpRef.allRows te nu a b W bg Wd bd) = fun y => ExpMath.outAt 0 (by omega) te nu a b W bg Wd bd (y 0) (y 1) := by
  funext y
  refine (congrArg (ExpRef.out0 _) (eq_ix2 (n0 := 311296) (n1 := 256) y)).trans ((ExpRef.out0_apply _ (y 0) (y 1)).trans ?_)
  exact ExpRef.allRows_apply te nu a b W bg Wd bd h _ _

theorem ref1 (te : IVec Cert.ExpertsRefIdeal.S304 32) (nu : IVec Cert.ExpertsRefIdeal.S1 32) (a b : IVec Cert.ExpertsRefIdeal.S155648x256 32)
    (W : FVec Ideal Cert.ExpertsRefIdeal.S4x32x1024x2048 .f32) (bg : FVec Ideal Cert.ExpertsRefIdeal.S4x32x1x2048 .f32)
    (Wd : FVec Ideal Cert.ExpertsRefIdeal.S4x32x1024x1024 .f32) (bd : FVec Ideal Cert.ExpertsRefIdeal.S4x32x1x1024 .f32)
    (h : ∀ i, (te i).toNat < 32) :
    ExpRef.out1 (ExpRef.allRows te nu a b W bg Wd bd) = fun y => ExpMath.outAt 1 (by omega) te nu a b W bg Wd bd (y 0) (y 1) := by
  funext y
  refine (congrArg (ExpRef.out1 _) (eq_ix2 (n0 := 311296) (n1 := 256) y)).trans ((ExpRef.out1_apply _ (y 0) (y 1)).trans ?_)
  exact ExpRef.allRows_apply te nu a b W bg Wd bd h _ _

theorem algebraic : Cert.algebraic_ExpertsIdeal_ExpertsRefIdeal := fun m ρ m' ρ' h e => by
  refine ⟨fun c => ExpertsIdeal.outOf6 (ExpertsIdeal.admOf m h) m c, fun c => ExpertsIdeal.outOf7 (ExpertsIdeal.admOf m h) m c,
    ExpertsIdeal.run_value m ρ h, ?_⟩
  refine (θ_run (Cert.ExpertsRefIdeal.defs (F := Ideal)) _ _).mono (fun _ r c => ⟨(r c).1.trans ?_, (r c).2.1.trans ?_, (r c).2.2⟩)
    (Cert.ExpertsRefIdeal.Value.run (F := Ideal) m' ρ')
  all_goals
    obtain rfl : c = 0 := Subsingleton.elim _ _
    have e' := e 0
    have hlt := ExpertsIdeal.expert_in m h
  · refine (ExpRef.res0_eq m' _).trans ?_
    rw [e'.1, e'.2.1, e'.2.2.1, e'.2.2.2.1, e'.2.2.2.2.1, e'.2.2.2.2.2.1, e'.2.2.2.2.2.2.1, e'.2.2.2.2.2.2.2]
    exact ref0 _ _ _ _ _ _ _ _ hlt
  · refine (ExpRef.res1_eq m' _).trans ?_
    rw [e'.1, e'.2.1, e'.2.2.1, e'.2.2.2.1, e'.2.2.2.2.1, e'.2.2.2.2.2.1, e'.2.2.2.2.2.2.1, e'.2.2.2.2.2.2.2]
    exact ref1 _ _ _ _ _ _ _ _ hlt

end Cert.Proof.ExpClaims

end

end
-- ==== Proof.CombIPay.lean ====
/-
  The body of the weighted sum, element by element: what a point computes of its blocks.
-/
module

public import proofs.«01_k».proof.Proof.CombMath
public import proofs.«01_k».proof.Proof.Gen.CombineIdeal.Skeleton
public import Idealize.ShloMosaic.Lib.Pointwise

@[expose] public section

set_option maxRecDepth 16384

noncomputable section

namespace Cert.Proof.CombineIdeal

open Cert.CombineIdeal Cert.CombineIdeal.Gen
open Idealize.ShloMosaic
open scoped BigOperators

/-- Four quarters side by side. -/
def cat (p q r s : FVec Ideal S1024x256 .f32) : FVec Ideal S1024x1024 .f32 :=
  concatenate S1024x1024 1 [⟨S1024x256, p⟩, ⟨S1024x256, q⟩, ⟨S1024x256, r⟩, ⟨S1024x256, s⟩] concatenates_S1024x256_S1024x256_S1024x256_S1024x256_S1024x1024_d1

theorem cat_apply (p q r s : FVec Ideal S1024x256 .f32) (i j : Fin 1024) :
    cat p q r s (ix2 i j) = CombMath.quarter (fun k => p (ix2 i k)) (fun k => q (ix2 i k)) (fun k => r (ix2 i k)) (fun k => s (ix2 i k)) j := by
  have hk := j.isLt
  by_cases h1 : j.val < 256
  · refine Eq.trans ?_ (if_pos h1).symm
    pointwise [cat]
    exact (dif_pos h1).trans (congrArg p (congrArg₂ ix2 rfl (Fin.ext (show j.val = j.val % 256 by omega))))
  by_cases h2 : j.val < 512
  · refine Eq.trans ?_ ((if_neg h1).trans (if_pos h2)).symm
    pointwise [cat]
    exact (dif_neg h1).trans ((dif_pos (by omega)).trans (congrArg q (congrArg₂ ix2 rfl (Fin.ext (show j.val - 256 = j.val % 256 by omega)))))
  by_cases h3 : j.val < 768
  · refine Eq.trans ?_ ((if_neg h1).trans ((if_neg h2).trans (if_pos h3))).symm
    pointwise [cat]
    exact (dif_neg h1).trans ((dif_neg (by omega)).trans ((dif_pos (by omega)).trans
      (congrArg r (congrArg₂ ix2 rfl (Fin.ext (show j.val - 256 - 256 = j.val % 256 by omega))))))
  · refine Eq.trans ?_ ((if_neg h1).trans ((if_neg h2).trans (if_neg h3))).symm
    pointwise [cat]
    exact (dif_neg h1).trans ((dif_neg (by omega)).trans ((dif_neg (by omega)).trans
      (congrArg s (congrArg₂ ix2 rfl (Fin.ext (show j.val - 256 - 256 - 256 = j.val % 256 by omega))))))

/-- The low and the high halves of a block's words, as values. -/
def lows (a : Vec Ideal S1x1024x256 .i32) : FVec Ideal S1024x256 .f32 := k0_pay7 a
def highs (a : Vec Ideal S1x1024x256 .i32) : FVec Ideal S1024x256 .f32 :=
  bitcastToFloat .f32 (andi (k0_pay5 (F := Ideal) a) (broadcast S1024x256 4294901760#32))

/-- The features of row `r` of one of the four pairs of blocks. -/
def tfeat (a b : S1x1024x256.Idx → BitVec 32) (r : Fin 1024) : Fin 1024 → EReal :=
  CombMath.quarter (fun k => CombMath.low (a (ix3 0 r k))) (fun k => CombMath.low (b (ix3 0 r k)))
    (fun k => CombMath.high (a (ix3 0 r k))) (fun k => CombMath.high (b (ix3 0 r k)))

theorem lows_apply (a : Vec Ideal S1x1024x256 .i32) (r : Fin 1024) (k : Fin 256) : lows a (ix2 r k) = CombMath.low (a (ix3 0 r k)) := by
  pointwise [lows, k0_pay7, k0_pay5]
  rfl
theorem highs_apply (a : Vec Ideal S1x1024x256 .i32) (r : Fin 1024) (k : Fin 256) : highs a (ix2 r k) = CombMath.high (a (ix3 0 r k)) := by
  pointwise [highs, k0_pay5]
  rfl

theorem pair_apply (a b : Vec Ideal S1x1024x256 .i32) (r j : Fin 1024) : cat (lows a) (lows b) (highs a) (highs b) (ix2 r j) = tfeat a b r j := by
  refine (cat_apply _ _ _ _ r j).trans ?_
  simp only [lows_apply, highs_apply]
  rfl

theorem pay2_apply (v : Vec Ideal S16x1024 .f32) (r : Fin 1024) (k : Fin 128) (h : k.val < 16) : k0_pay2 v (ix2 r k) = v (ix2 ⟨k.val, h⟩ r) := by
  pointwise [k0_pay2]
  exact dif_pos h

theorem pay3_apply (v : Vec Ideal S16x1024 .f32) (a b : Vec Ideal S1x1024x256 .i32) (r j : Fin 1024) :
    k0_pay3 v a b (ix2 r j) = v (ix2 4 r) * tfeat a b r j := by
  have e := pair_apply a b r j
  have e2 := pay2_apply v r 4 (by decide)
  show (addf (broadcast S1024x1024 (Scalar.ofBits .f32 0x00000000#32)) (mulf (broadcastTo S1024x1024 (extractStridedSlice S1024x1 ![0, 4] (k0_pay2 v) slices_S1024x128_o0_4_S1024x1) broadcasts_S1024x1_S1024x1024) (cat (lows a) (lows b) (highs a) (highs b))) : FVec Ideal S1024x1024 .f32) (ix2 r j) = _
  rw [← e]
  generalize cat (lows a) (lows b) (highs a) (highs b) = z
  generalize k0_pay2 v = w at *
  pointwise
  rw [e2]
  rfl

theorem pay9_apply (v3 : FVec Ideal S1024x128 .f32) (v27 : FVec Ideal S1024x1024 .f32) (v28 : FVec Ideal S1024x1 .f32) (a b a' b' : Vec Ideal S1x1024x256 .i32) (r j : Fin 1024) :
    k0_pay9 v3 v27 v28 (k0_pay5 (F := Ideal) a) (k0_pay6 (F := Ideal) b) (k0_pay7 a) (k0_pay8 b) a' b' (ix2 r j)
      = v27 (ix2 r j) + v28 (ix2 r 0) * tfeat a b r j + v3 (ix2 r 6) * tfeat a' b' r j := by
  rw [← pair_apply a b r j, ← pair_apply a' b' r j]
  show (addf (addf v27 (mulf (broadcastTo S1024x1024 v28 broadcasts_S1024x1_S1024x1024) (cat (lows a) (lows b) (highs a) (highs b)))) (mulf (broadcastTo S1024x1024 (extractStridedSlice S1024x1 ![0, 6] v3 slices_S1024x128_o0_6_S1024x1) broadcasts_S1024x1_S1024x1024) (cat (lows a') (lows b') (highs a') (highs b'))) : FVec Ideal S1024x1024 .f32) (ix2 r j) = _
  generalize cat (lows a) (lows b) (highs a) (highs b) = z
  generalize cat (lows a') (lows b') (highs a') (highs b') = z'
  pointwise

/-- The rows before the norm. -/
def zed (v73 : FVec Ideal S1024x1024 .f32) (v74 : FVec Ideal S1024x1 .f32) (y : FVec Ideal S1024x1024 .f32) (v97 : Vec Ideal S1x1x1024 .f32) (v99 : Vec Ideal S1024x1024 .f32) : FVec Ideal S1024x1024 .f32 :=
  addf (mulf (broadcast S1024x1024 (Scalar.ofBits .f32 0x3FD744FD#32)) v99) (mulf (broadcastTo S1024x1024 (shapeCast S1x1024 v97 shapeCasts_S1x1x1024_S1x1024) broadcasts_S1x1024_S1024x1024) (addf v73 (mulf (broadcastTo S1024x1024 v74 broadcasts_S1024x1_S1024x1024) y)))

theorem zed_apply (v73 : FVec Ideal S1024x1024 .f32) (v74 : FVec Ideal S1024x1 .f32) (y : FVec Ideal S1024x1024 .f32) (v97 : Vec Ideal S1x1x1024 .f32) (v99 : Vec Ideal S1024x1024 .f32) (r j : Fin 1024) :
    zed v73 v74 y v97 v99 (ix2 r j) = Ideal.ofBits .f32 0x3FD744FD#32 * v99 (ix2 r j) + v97 (ix3 0 0 j) * (v73 (ix2 r j) + v74 (ix2 r 0) * y (ix2 r j)) := by
  pointwise [zed]

/-- Rows less their mean. -/
def cen (z : FVec Ideal S1024x1024 .f32) : FVec Ideal S1024x1024 .f32 :=
  subf z (broadcastTo S1024x1024 (divf (shapeCast S1024x1 (multiReduction .add [1] S1024 z 0x00000000#32 reduces_S1024x1024_S1024 (.inl rfl) rfl) shapeCasts_S1024_S1024x1) (broadcast S1024x1 (Scalar.ofBits .f32 0x44800000#32))) broadcasts_S1024x1_S1024x1024)

/-- Centred rows over their deviation. -/
def scl (u : FVec Ideal S1024x1024 .f32) : FVec Ideal S1024x1024 .f32 :=
  mulf u (broadcastTo S1024x1024 (rsqrt (addf (divf (shapeCast S1024x1 (multiReduction .add [1] S1024 (mulf u u) 0x00000000#32 reduces_S1024x1024_S1024 (.inl rfl) rfl) shapeCasts_S1024_S1024x1) (broadcast S1024x1 (Scalar.ofBits .f32 0x44800000#32))) (broadcast S1024x1 (Scalar.ofBits .f32 0x3727C5AC#32)))) broadcasts_S1024x1_S1024x1024)

theorem cen_apply (z : FVec Ideal S1024x1024 .f32) (r j : Fin 1024) : cen z (ix2 r j) = z (ix2 r j) - CombMath.mean (fun k => z (ix2 r k)) := by
  pointwise [cen]
  rfl

theorem scl_apply (u : FVec Ideal S1024x1024 .f32) (r j : Fin 1024) :
    scl u (ix2 r j) = u (ix2 r j) * Ideal.rsqrt (CombMath.mean (fun k => u (ix2 r k) * u (ix2 r k)) + Ideal.ofBits .f32 0x3727C5AC#32) := by
  pointwise [scl]
  rfl

theorem pay16_apply (v : FVec Ideal S1024x1024 .f32) (b : Vec Ideal S1x1024 .f32) (r j : Fin 1024) :
    k0_pay1 v (k0_pay16 b) (ix2 r j) = v (ix2 r j) + b (ix2 0 j) := by
  pointwise [k0_pay1, k0_pay16]

/-- The scaled rows. -/
def mulg (u : FVec Ideal S1024x1024 .f32) (g : Vec Ideal S1x1024 .f32) : FVec Ideal S1024x1024 .f32 :=
  mulf u (broadcastTo S1024x1024 (shapeCast S1x1024 g shapeCasts_S1x1024_S1x1024) broadcasts_S1x1024_S1024x1024)

theorem mulg_apply (u : FVec Ideal S1024x1024 .f32) (g : Vec Ideal S1x1024 .f32) (r j : Fin 1024) : mulg u g (ix2 r j) = u (ix2 r j) * g (ix2 0 j) := by
  pointwise [mulg]

theorem pay15_eq (v73 : FVec Ideal S1024x1024 .f32) (v74 : FVec Ideal S1024x1 .f32) (a b : Vec Ideal S1x1024x256 .i32) (v97 : Vec Ideal S1x1x1024 .f32) (v99 : Vec Ideal S1024x1024 .f32) (g : Vec Ideal S1x1024 .f32) :
    k0_pay15 v73 v74 (k0_pay11 (F := Ideal) a) (k0_pay12 (F := Ideal) b) (k0_pay13 a) k0_pay14 v97 v99 g = mulg (scl (cen (zed v73 v74 (cat (lows a) (lows b) (highs a) (highs b)) v97 v99))) g := rfl

/-- What the point computes of its blocks: the layer norm of each row. -/
theorem point_apply (v : Vec Ideal S16x1024 .f32) (a0 b0 a1 b1 a2 b2 a3 b3 : Vec Ideal S1x1024x256 .i32) (gate : Vec Ideal S1x1x1024 .f32) (x : Vec Ideal S1024x1024 .f32)
    (g b : Vec Ideal S1x1024 .f32) (r j : Fin 1024) :
    k0_pay1 (k0_pay15 (k0_pay9 (k0_pay2 v) (k0_pay3 v a0 b0) (k0_pay4 v) (k0_pay5 (F := Ideal) a1) (k0_pay6 (F := Ideal) b1) (k0_pay7 a1) (k0_pay8 b1) a2 b2) (k0_pay10 (k0_pay2 v)) (k0_pay11 (F := Ideal) a3) (k0_pay12 (F := Ideal) b3) (k0_pay13 a3) k0_pay14 gate x g) (k0_pay16 b) (ix2 r j)
      = CombMath.norm (CombMath.pre (fun k => x (ix2 r k)) (fun k => gate (ix3 0 0 k)) ![v (ix2 4 r), v (ix2 5 r), v (ix2 6 r), v (ix2 7 r)]
          ![tfeat a0 b0 r, tfeat a1 b1 r, tfeat a2 b2 r, tfeat a3 b3 r]) (fun k => g (ix2 0 k)) (fun k => b (ix2 0 k)) j := by
  have e4 : k0_pay4 v (ix2 r 0) = v (ix2 5 r) := by
    have e2 := pay2_apply v r 5 (by decide)
    unfold k0_pay4
    generalize k0_pay2 v = w at *
    pointwise
    exact e2
  have e10 : k0_pay10 (k0_pay2 v) (ix2 r 0) = v (ix2 7 r) := by
    have e2 := pay2_apply v r 7 (by decide)
    generalize k0_pay2 v = w at *
    pointwise [k0_pay10]
    exact e2
  have e6 : k0_pay2 v (ix2 r 6) = v (ix2 6 r) := pay2_apply v r 6 (by decide)
  have ez (k : Fin 1024) : zed (k0_pay9 (k0_pay2 v) (k0_pay3 v a0 b0) (k0_pay4 v) (k0_pay5 (F := Ideal) a1) (k0_pay6 (F := Ideal) b1) (k0_pay7 a1) (k0_pay8 b1) a2 b2) (k0_pay10 (k0_pay2 v)) (cat (lows a3) (lows b3) (highs a3) (highs b3)) gate x (ix2 r k)
      = CombMath.pre (fun k => x (ix2 r k)) (fun k => gate (ix3 0 0 k)) ![v (ix2 4 r), v (ix2 5 r), v (ix2 6 r), v (ix2 7 r)]
          ![tfeat a0 b0 r, tfeat a1 b1 r, tfeat a2 b2 r, tfeat a3 b3 r] k := by
    rw [zed_apply, pay9_apply, pay3_apply, pair_apply, e4, e6, e10]
    rfl
  rw [pay15_eq]
  generalize zed _ _ _ gate x = z at *
  have ec (k : Fin 1024) : cen z (ix2 r k) = _ := cen_apply z r k
  rw [pay16_apply, mulg_apply, scl_apply]
  simp only [ec, ez]
  rfl

end Cert.Proof.CombineIdeal

end

end
-- ==== Proof.CombRef.lean ====
/-
  The reference of the weighted sum, element by element: the first half of the result is the given array's, each row of
  the second half is the layer norm of that row.
-/
module

public import proofs.«01_k».proof.Proof.CombMath
public import proofs.«01_k».proof.Proof.Gen.CombineRefIdeal.Run
public import Idealize.ShloMosaic.Lib.Pointwise

@[expose] public section

noncomputable section

namespace Cert.Proof.CombRef

open Idealize.ShloMosaic Idealize.ShloMosaic.StableHlo
open Cert.CombineRefIdeal Cert.CombineRefIdeal.Facts₀
open scoped BigOperators

/-- The words of both arrays, side by side. -/
def words (ya yb : IVec S4x32768x256 32) : IVec S4x32768x512 32 :=
  concatenate S4x32768x512 2 [⟨S4x32768x256, ya⟩, ⟨S4x32768x256, yb⟩] concatenates_S4x32768x256_S4x32768x256_S4x32768x512_d2

/-- The experts' rows: the low halves of the words, then the high ones. -/
def feats (ya yb : IVec S4x32768x256 32) : FVec Ideal S4x32768x1024 .f32 :=
  bitcastToFloat .f32 (concatenate S4x32768x1024 2
    [⟨S4x32768x512, Host.shli (words ya yb) (broadcastInDim S4x32768x512 ![] bcast_S_S4x32768x512 (constantI S_ 32 16#32))⟩,
      ⟨S4x32768x512, andi (words ya yb) (broadcastInDim S4x32768x512 ![] bcast_S_S4x32768x512 (constantI S_ 32 4294901760#32))⟩]
    concatenates_S4x32768x512_S4x32768x512_S4x32768x1024_d2)

/-- Their weighted sum. -/
def weigh (route : FVec Ideal S16x32768 .f32) (y : FVec Ideal S4x32768x1024 .f32) : FVec Ideal S32768x1024 .f32 :=
  Host.reduceAdd (mulf (broadcastInDim S4x32768x1024 ![0, 1, 2] bcast_S4x32768x1_S4x32768x1024_0_1_2 (broadcastInDim S4x32768x1 ![0, 1] bcast_S4x32768_S4x32768x1_0_1 (extractStridedSlice S4x32768 ![4, 0] route slices_S16x32768_S4x32768_4_0))) y) (constant S_ .f32 0x00000000#32) reducesTo_S4x32768x1024_S32768x1024_d0 h_S_

/-- The rows before the norm. -/
def pres (x : FVec Ideal S32768x1024 .f32) (mods : FVec Ideal S9x1x6144 .f32) (f : FVec Ideal S32768x1024 .f32) : FVec Ideal S32768x1024 .f32 :=
  addf (mulf (broadcastInDim S32768x1024 ![] bcast_S_S32768x1024 (constant S_ .f32 0x3FD744FD#32)) x) (mulf (shapeCast _ (broadcastInDim S8x4096x1024 ![0, 2] bcast_S8x1024_S8x4096x1024_0_2 (shapeCast _ (extractStridedSlice S8x1x1024 ![0, 0, 5120] mods slices_S9x1x6144_S8x1x1024_0_0_5120) shapeCasts_S8x1x1024_S8x1024)) shapeCasts_S8x4096x1024_S32768x1024) f)

/-- Rows less their mean. -/
def cen (z : FVec Ideal S32768x1024 .f32) : FVec Ideal S32768x1024 .f32 :=
  subf z (broadcastInDim S32768x1024 ![0, 1] bcast_S32768x1_S32768x1024_0_1 (Host.divf (broadcastInDim S32768x1 ![0] bcast_S32768_S32768x1_0 (Host.reduceAdd z (constant S_ .f32 0x00000000#32) reducesTo_S32768x1024_S32768_d1 h_S_)) (broadcastInDim S32768x1 ![] bcast_S_S32768x1 (constant S_ .f32 0x44800000#32))))

/-- Centred rows over their deviation. -/
def scl (u : FVec Ideal S32768x1024 .f32) : FVec Ideal S32768x1024 .f32 :=
  mulf u (broadcastInDim S32768x1024 ![0, 1] bcast_S32768x1_S32768x1024_0_1 (Host.rsqrt (addf (Host.divf (broadcastInDim S32768x1 ![0] bcast_S32768_S32768x1_0 (Host.reduceAdd (mulf u u) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))

/-- One row of the scales, for every row. -/
def lift (g : FVec Ideal S4x1024 .f32) : FVec Ideal S32768x1024 .f32 :=
  broadcastInDim S32768x1024 ![0, 1] bcast_S1x1024_S32768x1024_0_1 (broadcastInDim S1x1024 ![1] bcast_S1024_S1x1024_1 (shapeCast _ (extractStridedSlice S1x1024 ![3, 0] g slices_S4x1024_S1x1024_3_0) shapeCasts_S1x1024_S1024))

/-- The given array's first half over the normed rows. -/
def join (o : FVec Ideal S65536x1024 .f32) (v g b : FVec Ideal S32768x1024 .f32) : FVec Ideal S65536x1024 .f32 :=
  concatenate S65536x1024 0 [⟨S32768x1024, (extractStridedSlice S32768x1024 ![0, 0] o slices_S65536x1024_S32768x1024_0_0)⟩, ⟨S32768x1024, (addf (mulf v g) b)⟩] concatenates_S32768x1024_S32768x1024_S65536x1024_d0

/-- The result of the arguments. -/
def res (x : FVec Ideal S32768x1024 .f32) (ya yb : IVec S4x32768x256 32) (route : FVec Ideal S16x32768 .f32) (mods : FVec Ideal S9x1x6144 .f32)
    (g b : FVec Ideal S4x1024 .f32) (o : FVec Ideal S65536x1024 .f32) : FVec Ideal S65536x1024 .f32 :=
  join o (scl (cen (pres x mods (weigh route (feats ya yb))))) (lift g) (lift b)

set_option maxRecDepth 8192 in
theorem res_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_out0 Value.res_main_v49
  rfl

set_option maxRecDepth 16384

/-! ### The pieces at an index -/

theorem words_lo (ya yb : IVec S4x32768x256 32) (k : Fin 4) (r : Fin 32768) (j : Fin 512) (h : j.val < 256) :
    words ya yb (ix3 k r j) = ya (ix3 k r ⟨j.val, h⟩) := by
  pointwise [words]
  exact dif_pos h
theorem words_hi (ya yb : IVec S4x32768x256 32) (k : Fin 4) (r : Fin 32768) (j : Fin 512) (h : ¬ j.val < 256) :
    words ya yb (ix3 k r j) = yb (ix3 k r ⟨j.val - 256, by omega⟩) := by
  pointwise [words]
  exact dif_neg h

theorem feats_lo (ya yb : IVec S4x32768x256 32) (k : Fin 4) (r : Fin 32768) (j : Fin 1024) (h : j.val < 512) :
    feats ya yb (ix3 k r j) = CombMath.low (words ya yb (ix3 k r ⟨j.val, h⟩)) := by
  unfold feats
  generalize words ya yb = w
  pointwise
  rw [dif_pos h]
  rfl
theorem feats_hi (ya yb : IVec S4x32768x256 32) (k : Fin 4) (r : Fin 32768) (j : Fin 1024) (h : ¬ j.val < 512) :
    feats ya yb (ix3 k r j) = CombMath.high (words ya yb (ix3 k r ⟨j.val - 512, by omega⟩)) := by
  unfold feats
  generalize words ya yb = w
  pointwise
  rw [dif_neg h]
  rfl

theorem feats_apply (ya yb : IVec S4x32768x256 32) (k : Fin 4) (r : Fin 32768) (j : Fin 1024) :
    feats ya yb (ix3 k r j) = CombMath.feat ya yb r k j := by
  have hk := j.isLt
  unfold CombMath.feat
  by_cases h1 : j.val < 256
  · refine Eq.trans ?_ (if_pos h1).symm
    rw [feats_lo _ _ _ _ _ (by omega), words_lo _ _ _ _ _ h1]
    exact congrArg (fun q => CombMath.low (ya (ix3 k r q))) (Fin.ext (show j.val = j.val % 256 by omega))
  by_cases h2 : j.val < 512
  · refine Eq.trans ?_ ((if_neg h1).trans (if_pos h2)).symm
    rw [feats_lo _ _ _ _ _ h2, words_hi _ _ _ _ _ h1]
    exact congrArg (fun q => CombMath.low (yb (ix3 k r q))) (Fin.ext (show j.val - 256 = j.val % 256 by omega))
  by_cases h3 : j.val < 768
  · refine Eq.trans ?_ ((if_neg h1).trans ((if_neg h2).trans (if_pos h3))).symm
    rw [feats_hi _ _ _ _ _ h2, words_lo _ _ _ _ _ (show j.val - 512 < 256 by omega)]
    exact congrArg (fun q => CombMath.high (ya (ix3 k r q))) (Fin.ext (show j.val - 512 = j.val % 256 by omega))
  · refine Eq.trans ?_ ((if_neg h1).trans ((if_neg h2).trans (if_neg h3))).symm
    rw [feats_hi _ _ _ _ _ h2, words_hi _ _ _ _ _ (show ¬ j.val - 512 < 256 by omega)]
    exact congrArg (fun q => CombMath.high (yb (ix3 k r q))) (Fin.ext (show j.val - 512 - 256 = j.val % 256 by omega))

theorem weigh_apply (route : FVec Ideal S16x32768 .f32) (y : FVec Ideal S4x32768x1024 .f32) (r : Fin 32768) (j : Fin 1024) :
    weigh route y (ix2 r j) = route (ix2 4 r) * y (ix3 0 r j) + route (ix2 5 r) * y (ix3 1 r j) + route (ix2 6 r) * y (ix3 2 r j) + route (ix2 7 r) * y (ix3 3 r j) := by
  pointwise [weigh]
  rw [Fin.sum_univ_four]
  rfl

theorem pres_apply (x : FVec Ideal S32768x1024 .f32) (mods : FVec Ideal S9x1x6144 .f32) (f : FVec Ideal S32768x1024 .f32) (r : Fin 32768) (j : Fin 1024) :
    pres x mods f (ix2 r j) = Ideal.ofBits .f32 0x3FD744FD#32 * x (ix2 r j) + mods (ix3 ⟨r.val / 4096, by omega⟩ 0 ⟨5120 + j.val, by omega⟩) * f (ix2 r j) := by
  pointwise [pres]

theorem cen_apply (z : FVec Ideal S32768x1024 .f32) (r : Fin 32768) (j : Fin 1024) : cen z (ix2 r j) = z (ix2 r j) - CombMath.mean (fun k => z (ix2 r k)) := by
  pointwise [cen]
  rfl

theorem scl_apply (u : FVec Ideal S32768x1024 .f32) (r : Fin 32768) (j : Fin 1024) :
    scl u (ix2 r j) = u (ix2 r j) * Ideal.rsqrt (CombMath.mean (fun k => u (ix2 r k) * u (ix2 r k)) + Ideal.ofBits .f32 0x3727C5AC#32) := by
  pointwise [scl]
  rfl

theorem lift_apply (g : FVec Ideal S4x1024 .f32) (r : Fin 32768) (j : Fin 1024) : lift g (ix2 r j) = g (ix2 3 j) := by
  pointwise [lift]

theorem join_lo (o : FVec Ideal S65536x1024 .f32) (v g b : FVec Ideal S32768x1024 .f32) (i : Fin 65536) (j : Fin 1024) (h : i.val < 32768) :
    join o v g b (ix2 i j) = o (ix2 i j) := by
  pointwise [join]
  exact dif_pos h

theorem join_hi (o : FVec Ideal S65536x1024 .f32) (v g b : FVec Ideal S32768x1024 .f32) (i : Fin 65536) (j : Fin 1024) (r : Fin 32768) (h : i.val = 32768 + r.val) :
    join o v g b (ix2 i j) = v (ix2 r j) * g (ix2 r j) + b (ix2 r j) := by
  pointwise [join]
  refine (dif_neg (by omega)).trans ?_
  have e : (⟨i.val - 32768, by omega⟩ : Fin 32768) = r := Fin.ext (show i.val - 32768 = r.val by omega)
  rw [e]

theorem res_apply (x : FVec Ideal S32768x1024 .f32) (ya yb : IVec S4x32768x256 32) (route : FVec Ideal S16x32768 .f32) (mods : FVec Ideal S9x1x6144 .f32)
    (g b : FVec Ideal S4x1024 .f32) (o : FVec Ideal S65536x1024 .f32) (i : Fin 65536) (j : Fin 1024) :
    res x ya yb route mods g b o (ix2 i j) = CombMath.out x ya yb route mods g b o i j := by
  by_cases h : i.val < 32768
  · exact (join_lo o _ _ _ i j h).trans (if_pos h).symm
  · have hi := i.isLt
    refine (join_hi o _ _ _ i j ⟨i.val % 32768, by omega⟩ (by show i.val = 32768 + i.val % 32768; omega)).trans (Eq.trans ?_ (if_neg h).symm)
    generalize (⟨i.val % 32768, by omega⟩ : Fin 32768) = r
    have ez (k : Fin 1024) : pres x mods (weigh route (feats ya yb)) (ix2 r k)
        = CombMath.pre (fun k => x (ix2 r k)) (fun k => mods (ix3 ⟨r.val / 4096, by omega⟩ 0 ⟨5120 + k.val, by omega⟩)) (fun k => route (ix2 ⟨4 + k.val, by omega⟩ r)) (CombMath.feat ya yb r) k := by
      rw [pres_apply, weigh_apply, feats_apply, feats_apply, feats_apply, feats_apply]
      rfl
    generalize pres x mods (weigh route (feats ya yb)) = z at *
    have ec (k : Fin 1024) : cen z (ix2 r k) = _ := cen_apply z r k
    rw [scl_apply, lift_apply, lift_apply]
    simp only [ec, ez]
    rfl

end Cert.Proof.CombRef

end

end
-- ==== Proof.CombValue.lean ====
/-
  What the weighted sum leaves in its result, element by element: each row of the second half is that row's layer norm,
  the first half is the given array's.
-/
module

public import proofs.«01_k».proof.Proof.CombIPay
public import proofs.«01_k».proof.Proof.CombRef
public import proofs.«01_k».proof.Proof.Gen.CombineIdeal.Value
public import Idealize.ShloMosaic.Lib.VecWindow
public import Idealize.ShloMosaic.Lib.Pipeline.ValueKit

@[expose] public section

set_option maxRecDepth 16384

noncomputable section

namespace Cert.Proof.CombineIdeal

open Cert.CombineIdeal Cert.CombineIdeal.Gen
open Idealize.ShloMosaic Idealize.ShloMosaic.TcCoe
open Idealize.ShloMosaic.Pipeline (Dat Cfg Window)
open scoped BigOperators

variable (m : (ℓ : Loc nD τ sig) → Buf (Elt Ideal) ℓ) (ρ : Dev nD → PrngReg) (c : Dev nD)

/-! ## The blocks, as elements of the arguments -/

theorem idx0 : ∀ (t : Fin cfg0.N) (a : Fin 2), win0_0.index t a = (![t.val, 0] : Fin 2 → Nat) a :=
  (by decide +kernel : ∀ (t : Fin grid0.N) (a : Fin 2), win0_0.index t a = (![t.val, 0] : Fin 2 → Nat) a)
theorem idx1 : ∀ (t : Fin cfg0.N) (a : Fin 3), win0_1.index t a = (![0, t.val, 0] : Fin 3 → Nat) a :=
  (by decide +kernel : ∀ (t : Fin grid0.N) (a : Fin 3), win0_1.index t a = (![0, t.val, 0] : Fin 3 → Nat) a)
theorem idx2 : ∀ (t : Fin cfg0.N) (a : Fin 3), win0_2.index t a = (![0, t.val, 0] : Fin 3 → Nat) a :=
  (by decide +kernel : ∀ (t : Fin grid0.N) (a : Fin 3), win0_2.index t a = (![0, t.val, 0] : Fin 3 → Nat) a)
theorem idx3 : ∀ (t : Fin cfg0.N) (a : Fin 2), win0_3.index t a = (![0, t.val] : Fin 2 → Nat) a :=
  (by decide +kernel : ∀ (t : Fin grid0.N) (a : Fin 2), win0_3.index t a = (![0, t.val] : Fin 2 → Nat) a)
theorem idx4 : ∀ (t : Fin cfg0.N) (a : Fin 3), win0_4.index t a = (![t.val / 4, 0, 0] : Fin 3 → Nat) a :=
  (by decide +kernel : ∀ (t : Fin grid0.N) (a : Fin 3), win0_4.index t a = (![t.val / 4, 0, 0] : Fin 3 → Nat) a)
theorem idx5 : ∀ (t : Fin cfg0.N) (a : Fin 2), win0_5.index t a = (![0, 0] : Fin 2 → Nat) a :=
  (by decide +kernel : ∀ (t : Fin grid0.N) (a : Fin 2), win0_5.index t a = (![0, 0] : Fin 2 → Nat) a)
theorem idx6 : ∀ (t : Fin cfg0.N) (a : Fin 2), win0_6.index t a = (![0, 0] : Fin 2 → Nat) a :=
  (by decide +kernel : ∀ (t : Fin grid0.N) (a : Fin 2), win0_6.index t a = (![0, 0] : Fin 2 → Nat) a)
theorem idx7 : ∀ (t : Fin cfg0.N) (a : Fin 2), win0_7.index t a = (![t.val + 32, 0] : Fin 2 → Nat) a :=
  (by decide +kernel : ∀ (t : Fin grid0.N) (a : Fin 2), win0_7.index t a = (![t.val + 32, 0] : Fin 2 → Nat) a)

theorem lt_32 (t : Fin cfg0.N) : t.val < 32 := lt_of_lt_of_eq t.isLt (by decide +kernel)

/-- The row of the second half at row `r` of tile `t`. -/
def rowOf (t : Fin cfg0.N) (r : Fin 1024) : Fin 32768 := ⟨1024 * t.val + r.val, by have := lt_32 t; omega⟩

theorem b0_eq (t : Fin cfg0.N) (r k : Fin 1024) : iblk m c 0 t (ix2 r k) = m ((c : Thread nD τ).loc main_arg0) (ix2 (rowOf t r) k) := by
  have h := lt_32 t
  refine Eq.trans (?_ : _ = V m c main_arg0 (((cfg0.win (0 : Fin 8)).rect t).emb (ix2 r k))) ?_
  · rfl
  rw [V_main_arg0]
  refine congrArg _ (funext fun a => Fin.ext ?_)
  refine (Window.rect_emb_val (cfg0.win (0 : Fin 8)) t (ix2 r k) a (hk := rfl)).trans ?_
  show win0_0.index t a * (![1024, 1024] : Fin 2 → Nat) a + (((ix2 r k) : S1024x1024.Idx) a).val = _
  rw [idx0 t a]
  match a with
  | 0 => show t.val * 1024 + r.val = 1024 * t.val + r.val; omega
  | 1 => show 0 * 1024 + k.val = k.val; omega

theorem b1_eq (t : Fin cfg0.N) (e : Fin 4) (r : Fin 1024) (k : Fin 256) : iblk m c 1 t (ix3 e r k) = m ((c : Thread nD τ).loc main_arg1) (ix3 e (rowOf t r) k) := by
  have h := lt_32 t
  refine Eq.trans (?_ : _ = V m c main_arg1 (((cfg0.win (1 : Fin 8)).rect t).emb (ix3 e r k))) ?_
  · rfl
  rw [V_main_arg1]
  refine congrArg _ (funext fun a => Fin.ext ?_)
  refine (Window.rect_emb_val (cfg0.win (1 : Fin 8)) t (ix3 e r k) a (hk := rfl)).trans ?_
  show win0_1.index t a * (![4, 1024, 256] : Fin 3 → Nat) a + (((ix3 e r k) : S4x1024x256.Idx) a).val = _
  rw [idx1 t a]
  match a with
  | 0 => show 0 * 4 + e.val = e.val; omega
  | 1 => show t.val * 1024 + r.val = 1024 * t.val + r.val; omega
  | 2 => show 0 * 256 + k.val = k.val; omega

theorem b2_eq (t : Fin cfg0.N) (e : Fin 4) (r : Fin 1024) (k : Fin 256) : iblk m c 2 t (ix3 e r k) = m ((c : Thread nD τ).loc main_arg2) (ix3 e (rowOf t r) k) := by
  have h := lt_32 t
  refine Eq.trans (?_ : _ = V m c main_arg2 (((cfg0.win (2 : Fin 8)).rect t).emb (ix3 e r k))) ?_
  · rfl
  rw [V_main_arg2]
  refine congrArg _ (funext fun a => Fin.ext ?_)
  refine (Window.rect_emb_val (cfg0.win (2 : Fin 8)) t (ix3 e r k) a (hk := rfl)).trans ?_
  show win0_2.index t a * (![4, 1024, 256] : Fin 3 → Nat) a + (((ix3 e r k) : S4x1024x256.Idx) a).val = _
  rw [idx2 t a]
  match a with
  | 0 => show 0 * 4 + e.val = e.val; omega
  | 1 => show t.val * 1024 + r.val = 1024 * t.val + r.val; omega
  | 2 => show 0 * 256 + k.val = k.val; omega

theorem b3_eq (t : Fin cfg0.N) (e : Fin 16) (r : Fin 1024) : iblk m c 3 t (ix2 e r) = m ((c : Thread nD τ).loc main_arg3) (ix2 e (rowOf t r)) := by
  have h := lt_32 t
  refine Eq.trans (?_ : _ = V m c main_arg3 (((cfg0.win (3 : Fin 8)).rect t).emb (ix2 e r))) ?_
  · rfl
  rw [V_main_arg3]
  refine congrArg _ (funext fun a => Fin.ext ?_)
  refine (Window.rect_emb_val (cfg0.win (3 : Fin 8)) t (ix2 e r) a (hk := rfl)).trans ?_
  show win0_3.index t a * (![16, 1024] : Fin 2 → Nat) a + (((ix2 e r) : S16x1024.Idx) a).val = _
  rw [idx3 t a]
  match a with
  | 0 => show 0 * 16 + e.val = e.val; omega
  | 1 => show t.val * 1024 + r.val = 1024 * t.val + r.val; omega

theorem b4_eq (t : Fin cfg0.N) (k : Fin 6144) : iblk m c 4 t (ix3 0 0 k) = m ((c : Thread nD τ).loc main_arg4) (ix3 ⟨t.val / 4, by have := lt_32 t; omega⟩ 0 k) := by
  have h := lt_32 t
  refine Eq.trans (?_ : _ = V m c main_arg4 (((cfg0.win (4 : Fin 8)).rect t).emb (ix3 0 0 k))) ?_
  · rfl
  rw [V_main_arg4]
  refine congrArg _ (funext fun a => Fin.ext ?_)
  refine (Window.rect_emb_val (cfg0.win (4 : Fin 8)) t (ix3 0 0 k) a (hk := rfl)).trans ?_
  show win0_4.index t a * (![1, 1, 6144] : Fin 3 → Nat) a + (((ix3 0 0 k) : S1x1x6144.Idx) a).val = _
  rw [idx4 t a]
  match a with
  | 0 => show t.val / 4 * 1 + 0 = t.val / 4; omega
  | 1 => show 0 * 1 + 0 = 0; omega
  | 2 => show 0 * 6144 + k.val = k.val; omega

/-- The norm's scale is the last row of its argument, the host having sliced it. -/
theorem V_v2 (k : Fin 1024) : V m c main_v2 (ix2 0 k) = m ((c : Thread nD τ).loc main_arg5) (ix2 3 k) := by
  simp only [V, hostOps0]
  after_results
  pointwise

/-- And its shift the last row of its. -/
theorem V_v5 (k : Fin 1024) : V m c main_v5 (ix2 0 k) = m ((c : Thread nD τ).loc main_arg6) (ix2 3 k) := by
  simp only [V, hostOps0]
  after_results
  pointwise

/-- The result's array starts as the given one. -/
theorem V_v6 : V m c main_v6 = m ((c : Thread nD τ).loc main_arg7) := by
  simp only [V, hostOps0]
  after_results
  rfl

theorem b5_eq (t : Fin cfg0.N) (k : Fin 1024) : iblk m c 5 t (ix2 0 k) = m ((c : Thread nD τ).loc main_arg5) (ix2 3 k) := by
  rw [← V_v2 m c k]
  refine Eq.trans (?_ : _ = V m c main_v2 (((cfg0.win (5 : Fin 8)).rect t).emb (ix2 0 k))) ?_
  · rfl
  refine congrArg _ (funext fun a => Fin.ext ?_)
  refine (Window.rect_emb_val (cfg0.win (5 : Fin 8)) t (ix2 0 k) a (hk := rfl)).trans ?_
  show win0_5.index t a * (![1, 1024] : Fin 2 → Nat) a + (((ix2 0 k) : S1x1024.Idx) a).val = _
  rw [idx5 t a]
  match a with
  | 0 => show 0 * 1 + 0 = 0; omega
  | 1 => show 0 * 1024 + k.val = k.val; omega

theorem b6_eq (t : Fin cfg0.N) (k : Fin 1024) : iblk m c 6 t (ix2 0 k) = m ((c : Thread nD τ).loc main_arg6) (ix2 3 k) := by
  rw [← V_v5 m c k]
  refine Eq.trans (?_ : _ = V m c main_v5 (((cfg0.win (6 : Fin 8)).rect t).emb (ix2 0 k))) ?_
  · rfl
  refine congrArg _ (funext fun a => Fin.ext ?_)
  refine (Window.rect_emb_val (cfg0.win (6 : Fin 8)) t (ix2 0 k) a (hk := rfl)).trans ?_
  show win0_6.index t a * (![1, 1024] : Fin 2 → Nat) a + (((ix2 0 k) : S1x1024.Idx) a).val = _
  rw [idx6 t a]
  match a with
  | 0 => show 0 * 1 + 0 = 0; omega
  | 1 => show 0 * 1024 + k.val = k.val; omega

/-! ## The loads within the blocks -/

theorem slab_eq (X : S4x1024x256.Idx → Elt Ideal .i32) (e : Fin 4)
    (inb : ∀ a : Fin 3, (![e.val, 0, 0] : Fin 3 → Nat) a + (![1, 1024, 256] : Fin 3 → Nat) a ≤ S4x1024x256.size a) (r : Fin 1024) (k : Fin 256) :
    View.ld (Val := Elt Ideal) (e' := .i32) (S := S4x1024x256) X (Rect.unit ![e.val, 0, 0] ![1, 1024, 256] inb) ((ix3 0 r k : S1x1024x256.Idx)) = X (ix3 e r k) := by
  refine View.ld_unit_apply_of (Val := Elt Ideal) (S := S4x1024x256) (e := .i32) X _ _ inb _ (ix3 e r k) fun a => ?_
  match a with
  | 0 => show e.val = e.val + 0; omega
  | 1 => show r.val = 0 + r.val; omega
  | 2 => show k.val = 0 + k.val; omega

theorem gate_eq (X : S1x1x6144.Idx → Elt Ideal .f32) (inb : ∀ a : Fin 3, (![0, 0, 5120] : Fin 3 → Nat) a + (![1, 1, 1024] : Fin 3 → Nat) a ≤ S1x1x6144.size a) (k : Fin 1024) :
    View.ld (Val := Elt Ideal) (e' := .f32) (S := S1x1x6144) X (Rect.unit ![0, 0, 5120] ![1, 1, 1024] inb) ((ix3 0 0 k : S1x1x1024.Idx)) = X (ix3 0 0 ⟨5120 + k.val, by omega⟩) := by
  refine View.ld_unit_apply_of (Val := Elt Ideal) (S := S1x1x6144) (e := .f32) X _ _ inb _ (ix3 0 0 ⟨5120 + k.val, by omega⟩) fun a => ?_
  match a with
  | 0 => rfl
  | 1 => rfl
  | 2 => rfl

theorem congr_quarter {a b d e a' b' d' e' : Fin 256 → EReal} (ha : ∀ k, a k = a' k) (hb : ∀ k, b k = b' k) (hd : ∀ k, d k = d' k) (he : ∀ k, e k = e' k) :
    CombMath.quarter a b d e = CombMath.quarter a' b' d' e' := by
  rw [funext ha, funext hb, funext hd, funext he]

/-- The features of a tile's row at expert `e`, of the tile's blocks, are those of the row's, of the arrays. -/
theorem tfeat_eq (t : Fin cfg0.N) (e : Fin 4)
    (inb inb' : ∀ a : Fin 3, (![e.val, 0, 0] : Fin 3 → Nat) a + (![1, 1024, 256] : Fin 3 → Nat) a ≤ S4x1024x256.size a) (r : Fin 1024) :
    tfeat (View.ld (Val := Elt Ideal) (e' := .i32) (S := S4x1024x256) (iblk m c 1 t) (Rect.unit ![e.val, 0, 0] ![1, 1024, 256] inb))
        (View.ld (Val := Elt Ideal) (e' := .i32) (S := S4x1024x256) (iblk m c 2 t) (Rect.unit ![e.val, 0, 0] ![1, 1024, 256] inb')) r
      = CombMath.feat (m ((c : Thread nD τ).loc main_arg1)) (m ((c : Thread nD τ).loc main_arg2)) (rowOf t r) e := by
  unfold tfeat CombMath.feat
  refine congr_quarter (fun k => ?_) (fun k => ?_) (fun k => ?_) (fun k => ?_)
  · exact congrArg CombMath.low ((slab_eq (iblk m c 1 t) e inb r k).trans (b1_eq m c t e r k))
  · exact congrArg CombMath.low ((slab_eq (iblk m c 2 t) e inb' r k).trans (b2_eq m c t e r k))
  · exact congrArg CombMath.high ((slab_eq (iblk m c 1 t) e inb r k).trans (b1_eq m c t e r k))
  · exact congrArg CombMath.high ((slab_eq (iblk m c 2 t) e inb' r k).trans (b2_eq m c t e r k))

/-! ## The result -/

theorem congr_row {x x' gate gate' g g' b b' : Fin 1024 → EReal} {w w' : Fin 4 → EReal} {y y' : Fin 4 → Fin 1024 → EReal}
    (hx : x = x') (hgate : gate = gate') (hw : w = w') (hy : y = y') (hg : g = g') (hb : b = b') (j : Fin 1024) :
    CombMath.norm (CombMath.pre x gate w y) g b j = CombMath.norm (CombMath.pre x' gate' w' y') g' b' j := by
  subst hx hgate hw hy hg hb
  rfl

/-- The value the result has at an element. -/
abbrev G (i : S65536x1024.Idx) : EReal :=
  CombMath.out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1)

theorem arr : (dats m 0 c).arrAt 7 cfg0.N = fun i => if 32 ≤ (i 0 : ℕ) / 1024 then G m c i else V m c main_v6 i := by
  refine (dats m 0 c).arrAt_eq_of_coversWhere 7 _ (fun β => 32 ≤ β (0 : Fin 2)) (by decide +kernel)
    (fun t hf y => ?_) (fun j => Iff.rfl)
  blk_simp
  rw [after0_7]
  unfold outsAt0
  frame_out
  rw [eq_ix2 (n0 := 1024) (n1 := 1024) y]
  refine (point_apply _ _ _ _ _ _ _ _ _ _ _ _ _ (y 0) (y 1)).trans ?_
  have h := lt_32 t
  have hy : (y 0).val < 1024 := (y 0).isLt
  have e0 : ((((View.whole main_v6).slice (win0_7.rect t)).emb (ix2 (y 0) (y 1)) 0 : Fin 65536)).val = 32768 + (1024 * t.val + (y 0).val) := by
    refine (Window.rect_emb_val (cfg0.win (7 : Fin 8)) t (ix2 (y 0) (y 1)) 0 (hk := rfl)).trans ?_
    show win0_7.index t 0 * 1024 + (y 0).val = _
    rw [idx7 t 0]
    show (t.val + 32) * 1024 + (y 0).val = _
    omega
  have e1 : ((View.whole main_v6).slice (win0_7.rect t)).emb (ix2 (y 0) (y 1)) 1 = y 1 := Fin.ext (by
    refine (Window.rect_emb_val (cfg0.win (7 : Fin 8)) t (ix2 (y 0) (y 1)) 1 (hk := rfl)).trans ?_
    show win0_7.index t 1 * 1024 + (y 1).val = _
    rw [idx7 t 1]
    show 0 * 1024 + (y 1).val = _
    omega)
  unfold G CombMath.out
  rw [if_neg (by omega), e1]
  have er : (⟨(((View.whole main_v6).slice (win0_7.rect t)).emb (ix2 (y 0) (y 1)) 0 : Fin 65536).val % 32768, by omega⟩ : Fin 32768) = rowOf t (y 0) :=
    Fin.ext (by show _ % 32768 = 1024 * t.val + (y 0).val; omega)
  rw [er]
  unfold CombMath.row
  refine congr_row ?_ ?_ ?_ ?_ ?_ ?_ (y 1)
  · exact funext fun k => b0_eq m c t (y 0) k
  · refine funext fun k => (gate_eq (iblk m c 4 t) _ k).trans ((b4_eq m c t _).trans ?_)
    exact congrArg (fun z => m ((c : Thread nD τ).loc main_arg4) (ix3 z 0 ⟨5120 + k.val, by omega⟩)) (Fin.ext (by
      show t.val / 4 = (1024 * t.val + (y 0).val) / 4096
      omega))
  · refine funext fun k => ?_
    match k with
    | 0 => exact b3_eq m c t 4 (y 0)
    | 1 => exact b3_eq m c t 5 (y 0)
    | 2 => exact b3_eq m c t 6 (y 0)
    | 3 => exact b3_eq m c t 7 (y 0)
  · refine funext fun k => ?_
    match k with
    | 0 => exact tfeat_eq m c t 0 _ _ (y 0)
    | 1 => exact tfeat_eq m c t 1 _ _ (y 0)
    | 2 => exact tfeat_eq m c t 2 _ _ (y 0)
    | 3 => exact tfeat_eq m c t 3 _ _ (y 0)
  · exact funext fun k => b5_eq m c t k
  · exact funext fun k => b6_eq m c t k

/-- The result is the sum's row by row in the second half, and the given array in the first. -/
theorem arr_eq : (dats m 0 c).arrAt 7 cfg0.N = G m c := by
  rw [arr]
  funext i
  have hi : (i 0 : Fin 65536).val < 65536 := (i 0).isLt
  split
  · rfl
  next h =>
    rw [V_v6]
    unfold G CombMath.out
    rw [if_pos (by omega), ← eq_ix2 (n0 := 65536) (n1 := 1024) i]

end Cert.Proof.CombineIdeal

end

end
-- ==== Proof.CombClaims.lean ====
/-
  The weighted sum's claims: the reference's frame, and that both programs end with the same array.
-/
module

public import proofs.«01_k».proof.Defs
public import proofs.«01_k».proof.Proof.CombValue
public import Idealize.ShloMosaic.Adequacy
public import Idealize.ShloMosaic.Init

@[expose] public section

set_option maxRecDepth 16384

noncomputable section

namespace Cert.Proof.CombClaims

open Idealize.ShloMosaic Idealize.SL.Sem

theorem frame_reference : Cert.quiescent_CombineRefIdeal := fun m ρ _ =>
  (θ_run (Cert.CombineRefIdeal.defs (F := Ideal)) _ _).mono
    (fun r h => ⟨fun c => (h c).2, Idealize.ShloMosaic.sem_eq_zero_of_no_sems (by decide) r.2⟩)
    (Cert.CombineRefIdeal.Value.run (F := Ideal) m ρ)

theorem preserves : Cert.preserves_Combine_CombineIdeal := trivial

/-- The reference's result, as a function of its index. -/
theorem ref (x : FVec Ideal Cert.CombineRefIdeal.S32768x1024 .f32) (ya yb : IVec Cert.CombineRefIdeal.S4x32768x256 32)
    (route : FVec Ideal Cert.CombineRefIdeal.S16x32768 .f32) (mods : FVec Ideal Cert.CombineRefIdeal.S9x1x6144 .f32)
    (g b : FVec Ideal Cert.CombineRefIdeal.S4x1024 .f32) (o : FVec Ideal Cert.CombineRefIdeal.S65536x1024 .f32) :
    CombRef.res x ya yb route mods g b o = fun i => CombMath.out x ya yb route mods g b o (i 0) (i 1) := by
  funext i
  exact (congrArg (CombRef.res x ya yb route mods g b o) (eq_ix2 (n0 := 65536) (n1 := 1024) i)).trans
    (CombRef.res_apply x ya yb route mods g b o (i 0) (i 1))

theorem algebraic : Cert.algebraic_CombineIdeal_CombineRefIdeal := fun m ρ m' ρ' h e => by
  refine ⟨fun c => CombineIdeal.G m c, ?_, ?_⟩
  · exact (θ_run (Cert.CombineIdeal.defs (F := Ideal)) _ _).mono (fun _ r c => ⟨(r c).1.trans (CombineIdeal.arr_eq m c), (r c).2⟩)
      (Cert.CombineIdeal.Value.run_blocks m ρ)
  · refine (θ_run (Cert.CombineRefIdeal.defs (F := Ideal)) _ _).mono (fun _ r c => ⟨(r c).1.trans ?_, (r c).2⟩)
      (Cert.CombineRefIdeal.Value.run (F := Ideal) m' ρ')
    obtain rfl : c = 0 := Subsingleton.elim _ _
    have e' := e 0
    refine (CombRef.res_eq m' _).trans ?_
    rw [e'.1, e'.2.1, e'.2.2.1, e'.2.2.2.1, e'.2.2.2.2.1, e'.2.2.2.2.2.1, e'.2.2.2.2.2.2.1, e'.2.2.2.2.2.2.2]
    exact ref _ _ _ _ _ _ _ _

end Cert.Proof.CombClaims

end

end
-- ==== Proof.AdaMath.lean ====
/-
  The modulation's table on extended reals: what one value of a layer's row is of the conditioning vectors and the
  layer's weights.
-/
module

public import proofs.«01_k».proof.Proof.ExpMath

@[expose] public section

noncomputable section

namespace Cert.Proof.AdaMath

open Idealize.ShloMosaic
open scoped BigOperators

/-- A value times its logistic. -/
def silu (x : EReal) : EReal := x * Ideal.div 1 (1 + Ideal.exp (-x))

/-- The conditioning vectors: sixteen of the latents, then the context's, then rows of zeros. -/
def cond (c : (⟨2, ![16, 1024]⟩ : Shape).Idx → EReal) (x : (⟨1, ![1024]⟩ : Shape).Idx → EReal) (r : Fin 24) (k : Fin 1024) : EReal :=
  if h : r.val < 16 then c (ix2 ⟨r.val, h⟩ k) else if r.val = 16 then x (ix1 k) else 0

/-- The table at layer `l`, row `r`, column `j`. -/
def out (c : (⟨2, ![16, 1024]⟩ : Shape).Idx → EReal) (x : (⟨1, ![1024]⟩ : Shape).Idx → EReal) (w : (⟨3, ![4, 1024, 6144]⟩ : Shape).Idx → EReal)
    (b : (⟨2, ![4, 6144]⟩ : Shape).Idx → EReal) (l : Fin 4) (r : Fin 24) (j : Fin 6144) : EReal :=
  ∑ d : Fin 1024, silu (cond c x r d) * w (ix3 l d j) + b (ix2 l j)

end Cert.Proof.AdaMath

end

end
-- ==== Proof.AdaValue.lean ====
/-
  What the modulation's kernel leaves in its table, element by element.
-/
module

public import proofs.«01_k».proof.Proof.AdaMath
public import proofs.«01_k».proof.Proof.Gen.AdaIdeal.Value
public import Idealize.ShloMosaic.Lib.Routing.OpsPair
public import Idealize.ShloMosaic.Lib.Routing.OpsSet
public import Idealize.ShloMosaic.Lib.Pointwise
public import Idealize.ShloMosaic.Lib.Pipeline.ValueKit

@[expose] public section

set_option maxRecDepth 16384

noncomputable section

namespace Cert.Proof.AdaIdeal

open Cert.AdaIdeal Cert.AdaIdeal.Gen
open Idealize.ShloMosaic Idealize.ShloMosaic.TcCoe Idealize.ShloMosaic.Routing
open Idealize.ShloMosaic.Pipeline (Dat Cfg Window)
open scoped BigOperators

/-! ## The conditioning vectors, as the host puts them together -/

/-- Row `r'` of the latents' vectors is written to row `r'`. -/
theorem lands_rows (idx : IVec S1 32) (hidx : ∀ i, (idx i).toInt = 0) (r' : Fin 16) (k' : Fin 1024) (r : Fin 24) (k : Fin 1024) :
    scatter_S24x1024_S1_S16x1024_01_n_0_0.resultIdx? (ix2 r' k') idx = some (ix2 r k) ↔ r'.val = r.val ∧ k' = k := by
  have s0 : scatter_S24x1024_S1_S16x1024_01_n_0_0.start (ix2 r' k') idx 0 = 0 := by
    unfold ScatterDims.start
    rw [dif_pos (by decide)]
    exact hidx _
  have s1 : scatter_S24x1024_S1_S16x1024_01_n_0_0.start (ix2 r' k') idx 1 = 0 := by
    unfold ScatterDims.start
    rw [dif_neg (by decide)]
  have w0 : scatter_S24x1024_S1_S16x1024_01_n_0_0.window (ix2 r' k') 0 = r'.val := rfl
  have w1 : scatter_S24x1024_S1_S16x1024_01_n_0_0.window (ix2 r' k') 1 = k'.val := rfl
  refine (resultIdx?_ix2 (R := 24) (C := 1024) _ _ idx r k).trans ?_
  rw [Fin.ext_iff (a := k'), s0, s1, w0, w1]
  omega

/-- The context's vector is written to row 16. -/
theorem lands_row (idx : IVec S1 32) (hidx : ∀ i, (idx i).toInt = 16) (k' : Fin 1024) (r : Fin 24) (k : Fin 1024) :
    scatter_S24x1024_S1_S1024_0_0_0_0.resultIdx? (ix1 k') idx = some (ix2 r k) ↔ r.val = 16 ∧ k' = k := by
  have s0 : scatter_S24x1024_S1_S1024_0_0_0_0.start (ix1 k') idx 0 = 16 := by
    unfold ScatterDims.start
    rw [dif_pos (by decide)]
    exact hidx _
  have s1 : scatter_S24x1024_S1_S1024_0_0_0_0.start (ix1 k') idx 1 = 0 := by
    unfold ScatterDims.start
    rw [dif_neg (by decide)]
  have w0 : scatter_S24x1024_S1_S1024_0_0_0_0.window (ix1 k') 0 = 0 := rfl
  have w1 : scatter_S24x1024_S1_S1024_0_0_0_0.window (ix1 k') 1 = k'.val := rfl
  refine (resultIdx?_ix2 (R := 24) (C := 1024) _ _ idx r k).trans ?_
  rw [Fin.ext_iff (a := k'), s0, s1, w0, w1]
  omega

theorem scatter_rows {α : Type} (x : S24x1024.Idx → α) (idx : IVec S1 32) (hidx : ∀ i, (idx i).toInt = 0) (u : S16x1024.Idx → α) (r : Fin 24) (k : Fin 1024) :
    Host.scatter scatter_S24x1024_S1_S16x1024_01_n_0_0 (fun _ b => b) x idx u (ix2 r k) = if h : r.val < 16 then u (ix2 ⟨r.val, h⟩ k) else x (ix2 r k) := by
  have lands : ∀ j : S16x1024.Idx, scatter_S24x1024_S1_S16x1024_01_n_0_0.resultIdx? j idx = some (ix2 r k) → (j 0 : Fin 16).val = r.val ∧ (j 1 : Fin 1024) = k := fun j hj =>
    (lands_rows idx hidx (j 0) (j 1) r k).1 ((congrArg (fun t => scatter_S24x1024_S1_S16x1024_01_n_0_0.resultIdx? t idx) (eq_ix2 (n0 := 16) (n1 := 1024) j)).symm.trans hj)
  by_cases h : r.val < 16
  · rw [dif_pos h]
    exact scatter_set_hit _ x idx u _ _ (fun j hj => (congrArg u (eq_ix2 (n0 := 16) (n1 := 1024) j)).trans
      (congrArg u (congrArg₂ ix2 (Fin.ext (lands j hj).1) (lands j hj).2))) (ix2 ⟨r.val, h⟩ k) ((lands_rows idx hidx _ _ r k).2 ⟨rfl, rfl⟩)
  · rw [dif_neg h]
    exact scatter_set_miss _ x idx u _ fun j hj => h (by rw [← (lands j hj).1]; exact (j 0 : Fin 16).isLt)

theorem scatter_row {α : Type} (x : S24x1024.Idx → α) (idx : IVec S1 32) (hidx : ∀ i, (idx i).toInt = 16) (u : S1024.Idx → α) (r : Fin 24) (k : Fin 1024) :
    Host.scatter scatter_S24x1024_S1_S1024_0_0_0_0 (fun _ b => b) x idx u (ix2 r k) = if r.val = 16 then u (ix1 k) else x (ix2 r k) := by
  have lands : ∀ j : S1024.Idx, scatter_S24x1024_S1_S1024_0_0_0_0.resultIdx? j idx = some (ix2 r k) → r.val = 16 ∧ (j 0 : Fin 1024) = k := fun j hj =>
    (lands_row idx hidx (j 0) r k).1 ((congrArg (fun t => scatter_S24x1024_S1_S1024_0_0_0_0.resultIdx? t idx) (eq_ix1 (n0 := 1024) j)).symm.trans hj)
  by_cases h : r.val = 16
  · rw [if_pos h]
    exact scatter_set_hit _ x idx u _ _ (fun j hj => (congrArg u (eq_ix1 (n0 := 1024) j)).trans (congrArg (fun t => u (ix1 t)) (lands j hj).2)) (ix1 k)
      ((lands_row idx hidx _ r k).2 ⟨h, rfl⟩)
  · rw [if_neg h]
    exact scatter_set_miss _ x idx u _ fun j hj => h (lands j hj).1

variable (m : (ℓ : Loc nD τ sig) → Buf (Elt Ideal) ℓ) (ρ : Dev nD → PrngReg) (c : Dev nD)

theorem V_v4 (r : Fin 24) (k : Fin 1024) :
    V m c main_v4 (ix2 r k) = AdaMath.cond (m ((c : Thread nD τ).loc main_arg0)) (m ((c : Thread nD τ).loc main_arg1)) r k := by
  simp only [V, hostOps0]
  after_results
  rw [scatter_row _ _ (fun i => by pointwise; decide), scatter_rows _ _ (fun i => by pointwise; decide)]
  unfold AdaMath.cond
  by_cases h : r.val < 16
  · rw [if_neg (by omega), dif_pos h, dif_pos h]
  · rw [dif_neg h, dif_neg h]
    refine if_congr Iff.rfl rfl ?_
    pointwise

theorem V_v5 (l : Fin 4) (j : Fin 6144) : V m c main_v5 (ix3 l 0 j) = m ((c : Thread nD τ).loc main_arg3) (ix2 l j) := by
  simp only [V, hostOps0]
  after_results
  pointwise

/-! ## The body, element by element -/

theorem pay1_apply (v : Vec Ideal S24x1024 .f32) (w : Vec Ideal S1x1024x1536 .f32) (b : Vec Ideal S1x1x1536 .f32) (r : Fin 24) (n : Fin 1536) :
    k0_pay1 v w b (ix3 0 r n) = ∑ d : Fin 1024, AdaMath.silu (v (ix2 r d)) * w (ix3 0 d n) + b (ix3 0 0 n) := by
  pointwise [k0_pay1]
  simp only [ExpMath.sigmoid_eq]
  rfl

/-! ## The blocks, as elements of the arguments -/

theorem idx0 : ∀ (t : Fin cfg0.N) (a : Fin 2), win0_0.index t a = (![0, 0] : Fin 2 → Nat) a :=
  (by decide +kernel : ∀ (t : Fin grid0.N) (a : Fin 2), win0_0.index t a = (![0, 0] : Fin 2 → Nat) a)
theorem idx1 : ∀ (t : Fin cfg0.N) (a : Fin 3), win0_1.index t a = (![t.val / 4, 0, t.val % 4] : Fin 3 → Nat) a :=
  (by decide +kernel : ∀ (t : Fin grid0.N) (a : Fin 3), win0_1.index t a = (![t.val / 4, 0, t.val % 4] : Fin 3 → Nat) a)
theorem idx2 : ∀ (t : Fin cfg0.N) (a : Fin 3), win0_2.index t a = (![t.val / 4, 0, t.val % 4] : Fin 3 → Nat) a :=
  (by decide +kernel : ∀ (t : Fin grid0.N) (a : Fin 3), win0_2.index t a = (![t.val / 4, 0, t.val % 4] : Fin 3 → Nat) a)
theorem idx3 : ∀ (t : Fin cfg0.N) (a : Fin 3), win0_3.index t a = (![t.val / 4, 0, t.val % 4] : Fin 3 → Nat) a :=
  (by decide +kernel : ∀ (t : Fin grid0.N) (a : Fin 3), win0_3.index t a = (![t.val / 4, 0, t.val % 4] : Fin 3 → Nat) a)

theorem lt_16 (t : Fin cfg0.N) : t.val < 16 := lt_of_lt_of_eq t.isLt (by decide +kernel)

/-- The layer of point `t`, and the table's column at column `n` of its block. -/
def layerOf (t : Fin cfg0.N) : Fin 4 := ⟨t.val / 4, by have := lt_16 t; omega⟩
def colOf (t : Fin cfg0.N) (n : Fin 1536) : Fin 6144 := ⟨1536 * (t.val % 4) + n.val, by omega⟩

theorem b0_eq (t : Fin cfg0.N) (r : Fin 24) (k : Fin 1024) :
    iblk m c 0 t (ix2 r k) = AdaMath.cond (m ((c : Thread nD τ).loc main_arg0)) (m ((c : Thread nD τ).loc main_arg1)) r k := by
  rw [← V_v4 m c r k]
  refine Eq.trans (?_ : _ = V m c main_v4 (((cfg0.win (0 : Fin 4)).rect t).emb (ix2 r k))) ?_
  · rfl
  refine congrArg _ (funext fun a => Fin.ext ?_)
  refine (Window.rect_emb_val (cfg0.win (0 : Fin 4)) t (ix2 r k) a (hk := rfl)).trans ?_
  show win0_0.index t a * (![24, 1024] : Fin 2 → Nat) a + (((ix2 r k) : S24x1024.Idx) a).val = _
  rw [idx0 t a]
  match a with
  | 0 => show 0 * 24 + r.val = r.val; omega
  | 1 => show 0 * 1024 + k.val = k.val; omega

theorem b1_eq (t : Fin cfg0.N) (k : Fin 1024) (n : Fin 1536) : iblk m c 1 t (ix3 0 k n) = m ((c : Thread nD τ).loc main_arg2) (ix3 (layerOf t) k (colOf t n)) := by
  refine Eq.trans (?_ : _ = V m c main_arg2 (((cfg0.win (1 : Fin 4)).rect t).emb (ix3 0 k n))) ?_
  · rfl
  rw [V_main_arg2]
  refine congrArg _ (funext fun a => Fin.ext ?_)
  refine (Window.rect_emb_val (cfg0.win (1 : Fin 4)) t (ix3 0 k n) a (hk := rfl)).trans ?_
  show win0_1.index t a * (![1, 1024, 1536] : Fin 3 → Nat) a + (((ix3 0 k n) : S1x1024x1536.Idx) a).val = _
  rw [idx1 t a]
  match a with
  | 0 => show t.val / 4 * 1 + 0 = t.val / 4; omega
  | 1 => show 0 * 1024 + k.val = k.val; omega
  | 2 => show t.val % 4 * 1536 + n.val = 1536 * (t.val % 4) + n.val; omega

theorem b2_eq (t : Fin cfg0.N) (n : Fin 1536) : iblk m c 2 t (ix3 0 0 n) = m ((c : Thread nD τ).loc main_arg3) (ix2 (layerOf t) (colOf t n)) := by
  rw [← V_v5 m c (layerOf t) (colOf t n)]
  refine Eq.trans (?_ : _ = V m c main_v5 (((cfg0.win (2 : Fin 4)).rect t).emb (ix3 0 0 n))) ?_
  · rfl
  refine congrArg _ (funext fun a => Fin.ext ?_)
  refine (Window.rect_emb_val (cfg0.win (2 : Fin 4)) t (ix3 0 0 n) a (hk := rfl)).trans ?_
  show win0_2.index t a * (![1, 1, 1536] : Fin 3 → Nat) a + (((ix3 0 0 n) : S1x1x1536.Idx) a).val = _
  rw [idx2 t a]
  match a with
  | 0 => show t.val / 4 * 1 + 0 = t.val / 4; omega
  | 1 => show 0 * 1 + 0 = 0; omega
  | 2 => show t.val % 4 * 1536 + n.val = 1536 * (t.val % 4) + n.val; omega

/-! ## The result -/

/-- The value the table has at an element. -/
abbrev G (i : S4x24x6144.Idx) : EReal :=
  AdaMath.out (m ((c : Thread nD τ).loc main_arg0)) (m ((c : Thread nD τ).loc main_arg1)) (m ((c : Thread nD τ).loc main_arg2)) (m ((c : Thread nD τ).loc main_arg3))
    (i 0) (i 1) (i 2)

theorem arr : (dats m 0 c).arrAt 3 cfg0.N = fun i => if True then G m c i else V m c main_v6 i := by
  refine (dats m 0 c).arrAt_eq_of_coversWhere 3 _ (fun _ => True) (by decide +kernel)
    (fun t hf y => ?_) (fun j => Iff.rfl)
  blk_simp
  rw [after0_3]
  frame_out
  rw [eq_ix3 (n0 := 1) (n1 := 24) (n2 := 1536) y, show y 0 = (0 : Fin 1) from Subsingleton.elim (α := Fin 1) _ _]
  refine (pay1_apply _ _ _ (y 1) (y 2)).trans ?_
  have ea (a : Fin 3) : (((View.whole main_v6).slice (win0_3.rect t)).emb (ix3 0 (y 1) (y 2)) a).val
      = (![t.val / 4, 0, t.val % 4] : Fin 3 → Nat) a * (![1, 24, 1536] : Fin 3 → Nat) a + (((ix3 0 (y 1) (y 2)) : S1x24x1536.Idx) a).val := by
    rw [← idx3 t a]
    exact Window.rect_emb_val (cfg0.win (3 : Fin 4)) t (ix3 0 (y 1) (y 2)) a (hk := rfl)
  have e0 : ((View.whole main_v6).slice (win0_3.rect t)).emb (ix3 0 (y 1) (y 2)) 0 = layerOf t := Fin.ext ((ea 0).trans (show t.val / 4 * 1 + 0 = t.val / 4 by omega))
  have e1 : ((View.whole main_v6).slice (win0_3.rect t)).emb (ix3 0 (y 1) (y 2)) 1 = y 1 := Fin.ext ((ea 1).trans (show 0 * 24 + (y 1).val = (y 1).val by omega))
  have e2 : ((View.whole main_v6).slice (win0_3.rect t)).emb (ix3 0 (y 1) (y 2)) 2 = colOf t (y 2) :=
    Fin.ext ((ea 2).trans (show t.val % 4 * 1536 + (y 2).val = 1536 * (t.val % 4) + (y 2).val by omega))
  unfold G AdaMath.out
  rw [e0, e1, e2]
  exact congrArg₂ (· + ·) (Finset.sum_congr rfl fun d _ => congrArg₂ (· * ·) (congrArg AdaMath.silu (b0_eq m c t (y 1) d)) (b1_eq m c t d (y 2))) (b2_eq m c t (y 2))

/-- The table, element by element. -/
theorem arr_eq : (dats m 0 c).arrAt 3 cfg0.N = G m c := by
  rw [arr]
  exact funext fun _ => if_pos trivial

end Cert.Proof.AdaIdeal

end

end
-- ==== Proof.AdaRef.lean ====
/-
  The reference of the modulation's table, element by element.
-/
module

public import proofs.«01_k».proof.Proof.AdaMath
public import proofs.«01_k».proof.Proof.Gen.AdaRefIdeal.Run
public import Idealize.ShloMosaic.Lib.Pointwise

@[expose] public section

set_option maxRecDepth 16384

noncomputable section

namespace Cert.Proof.AdaRef

open Idealize.ShloMosaic Idealize.ShloMosaic.StableHlo
open Cert.AdaRefIdeal Cert.AdaRefIdeal.Facts₀
open scoped BigOperators

/-- The conditioning vectors, one below the other. -/
def cond (c : FVec Ideal S16x1024 .f32) (x : FVec Ideal S1024 .f32) : FVec Ideal S24x1024 .f32 :=
  concatenate S24x1024 0 [⟨S16x1024, c⟩, ⟨S1x1024, broadcastInDim S1x1024 ![1] bcast_S1024_S1x1024_1 x⟩,
    ⟨S7x1024, broadcastInDim S7x1024 ![] bcast_S_S7x1024 (constant S_ .f32 0x00000000#32)⟩] concatenates_S16x1024_S1x1024_S7x1024_S24x1024_d0

/-- Each value times its logistic. -/
def silu (v : FVec Ideal S24x1024 .f32) : FVec Ideal S24x1024 .f32 :=
  mulf v (Host.divf (broadcastInDim S24x1024 ![] bcast_S_S24x1024 (constant S_ .f32 0x3F800000#32)) (addf (broadcastInDim S24x1024 ![] bcast_S_S24x1024 (constant S_ .f32 0x3F800000#32)) (Host.exp (Host.negf v))))

/-- The result of the arguments. -/
def res (c : FVec Ideal S16x1024 .f32) (x : FVec Ideal S1024 .f32) (w : FVec Ideal S4x1024x6144 .f32) (b : FVec Ideal S4x6144 .f32) : FVec Ideal S4x24x6144 .f32 :=
  addf (transpose S4x24x6144 [0, 2, 1] (Host.dotGeneral dot_S4x1024x6144_S24x1024_S4x6144x24_1_1_02_0_n_n none w (silu (cond c x))) transposes_S4x6144x24_S4x24x6144_0_2_1)
    (broadcastInDim S4x24x6144 ![0, 1, 2] bcast_S4x1x6144_S4x24x6144_0_1_2 (broadcastInDim S4x1x6144 ![0, 2] bcast_S4x6144_S4x1x6144_0_2 b))

theorem cond_apply (c : FVec Ideal S16x1024 .f32) (x : FVec Ideal S1024 .f32) (r : Fin 24) (k : Fin 1024) : cond c x (ix2 r k) = AdaMath.cond c x r k := by
  unfold AdaMath.cond
  by_cases h : r.val < 16
  · rw [dif_pos h]
    pointwise [cond]
    exact dif_pos h
  by_cases h2 : r.val = 16
  · rw [dif_neg h, if_pos h2]
    pointwise [cond]
    exact (dif_neg h).trans (dif_pos (by omega))
  · rw [dif_neg h, if_neg h2]
    pointwise [cond]
    exact (dif_neg h).trans ((dif_neg (by omega)).trans (by simp))

theorem silu_apply (v : FVec Ideal S24x1024 .f32) (r : Fin 24) (k : Fin 1024) : silu v (ix2 r k) = AdaMath.silu (v (ix2 r k)) := by
  pointwise [silu]
  rfl

theorem res_apply (c : FVec Ideal S16x1024 .f32) (x : FVec Ideal S1024 .f32) (w : FVec Ideal S4x1024x6144 .f32) (b : FVec Ideal S4x6144 .f32)
    (l : Fin 4) (r : Fin 24) (j : Fin 6144) : res c x w b (ix3 l r j) = AdaMath.out c x w b l r j := by
  have e (d : Fin 1024) : silu (cond c x) (ix2 r d) = AdaMath.silu (AdaMath.cond c x r d) := (silu_apply _ r d).trans (congrArg AdaMath.silu (cond_apply c x r d))
  unfold res AdaMath.out
  generalize silu (cond c x) = v at *
  pointwise
  simp only [← e]
  refine congrArg (· + _) (Finset.sum_congr rfl fun d _ => mul_comm _ _)

end Cert.Proof.AdaRef

end

end
-- ==== Proof.AdaClaims.lean ====
/-
  The table's claims: the reference's frame, and that both programs end with the same array.
-/
module

public import proofs.«01_k».proof.Defs
public import proofs.«01_k».proof.Proof.AdaValue
public import proofs.«01_k».proof.Proof.AdaRef
public import Idealize.ShloMosaic.Adequacy
public import Idealize.ShloMosaic.Init

@[expose] public section

set_option maxRecDepth 16384

noncomputable section

namespace Cert.Proof.AdaClaims

open Idealize.ShloMosaic Idealize.SL.Sem

theorem frame_reference : Cert.quiescent_AdaRefIdeal := fun m ρ _ =>
  (θ_run (Cert.AdaRefIdeal.defs (F := Ideal)) _ _).mono
    (fun r h => ⟨fun c => (h c).2, Idealize.ShloMosaic.sem_eq_zero_of_no_sems (by decide) r.2⟩)
    (Cert.AdaRefIdeal.Value.run (F := Ideal) m ρ)

theorem preserves : Cert.preserves_Ada_AdaIdeal := trivial

/-- The reference's result, as a function of its index. -/
theorem ref (c : FVec Ideal Cert.AdaRefIdeal.S16x1024 .f32) (x : FVec Ideal Cert.AdaRefIdeal.S1024 .f32)
    (w : FVec Ideal Cert.AdaRefIdeal.S4x1024x6144 .f32) (b : FVec Ideal Cert.AdaRefIdeal.S4x6144 .f32) :
    AdaRef.res c x w b = fun i => AdaMath.out c x w b (i 0) (i 1) (i 2) := by
  funext i
  exact (congrArg (AdaRef.res c x w b) (eq_ix3 (n0 := 4) (n1 := 24) (n2 := 6144) i)).trans
    (AdaRef.res_apply c x w b (i 0) (i 1) (i 2))

theorem algebraic : Cert.algebraic_AdaIdeal_AdaRefIdeal := fun m ρ m' ρ' h e => by
  refine ⟨fun c => AdaIdeal.G m c, ?_, ?_⟩
  · exact (θ_run (Cert.AdaIdeal.defs (F := Ideal)) _ _).mono (fun _ r c => ⟨(r c).1.trans (AdaIdeal.arr_eq m c), (r c).2⟩)
      (Cert.AdaIdeal.Value.run_blocks m ρ)
  · refine (θ_run (Cert.AdaRefIdeal.defs (F := Ideal)) _ _).mono (fun _ r c => ⟨(r c).1.trans ?_, (r c).2⟩)
      (Cert.AdaRefIdeal.Value.run (F := Ideal) m' ρ')
    obtain rfl : c = 0 := Subsingleton.elim _ _
    have e' := e 0
    rw [e'.1, e'.2.1, e'.2.2.1, e'.2.2.2]
    exact ref _ _ _ _

end Cert.Proof.AdaClaims

end

end
-- ==== Proof.lean ====
/-
  The proof of `Cert.Claim`. Of the gather: the kernel's run is written once, over any float values
  (`Gather.run_main`); both programs' frames and both value claims read it. The reference's run is `Gather.R.run_main`,
  likewise, and `Gather.rows_eq` says the two results are one array. Of the experts: the two programs differ, so each has
  its run (`ExpertsBits`, `ExpertsIdeal`); `ExpClaims` joins the second's results to the reference's. Of the weighted sum: the
  runs are the generated ones, and `CombClaims` joins the result to the reference's. Of the modulation's table likewise, and
  `AdaClaims`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_pos_in_rows
public import proofs.«01_k».proof.Proof.Gen.Experts
public import proofs.«01_k».proof.Proof.Gen.Experts.Skeleton
public import proofs.«01_k».proof.Proof.Gen.Experts.Flash.Runs
public import proofs.«01_k».proof.Proof.Gen.ExpertsIdeal
public import proofs.«01_k».proof.Proof.Gen.ExpertsIdeal.Skeleton
public import proofs.«01_k».proof.Proof.Gen.ExpertsIdeal.Flash.Runs
public import proofs.«01_k».proof.Proof.Gen.ExpertsRefIdeal
public import proofs.«01_k».proof.Proof.Gen.ExpertsRefIdeal.Run
public import proofs.«01_k».proof.Proof.Gen.Pre_experts_exist
public import proofs.«01_k».proof.Proof.Gen.Combine
public import proofs.«01_k».proof.Proof.Gen.Combine.Skeleton
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.Ada
public import proofs.«01_k».proof.Proof.Gen.Ada.Skeleton
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Value
public import proofs.«01_k».proof.Proof.ExpBLaunch
public import proofs.«01_k».proof.Proof.ExpClaims
public import proofs.«01_k».proof.Proof.CombClaims
public import proofs.«01_k».proof.Proof.AdaClaims
public import Idealize.ShloMosaic.Adequacy
public import Idealize.ShloMosaic.Init

@[expose] public section

noncomputable section

namespace Cert.Proof

open Idealize.ShloMosaic Idealize.SL.Sem Gather

/-! ## The frames -/

theorem frame_kernel : Cert.quiescent_Kernel := fun m ρ h =>
  (θ_run (Cert.KernelIdeal.defs (F := Bits)) _ _).mono (fun _ r => ⟨fun c => (r.1 c).2, r.2⟩)
    (run_main (F := Bits) m ρ fun d => pos_lt (F := Bits) _ _ (h d))

theorem frame_kernelIdeal : Cert.quiescent_KernelIdeal := fun m ρ h =>
  (θ_run (Cert.KernelIdeal.defs (F := Ideal)) _ _).mono (fun _ r => ⟨fun c => (r.1 c).2, r.2⟩)
    (run_main (F := Ideal) m ρ fun d => pos_lt (F := Ideal) _ _ (h d))

theorem frame_referenceIdeal : Cert.quiescent_ReferenceIdeal := fun m ρ _ =>
  (θ_run (Cert.ReferenceIdeal.defs (F := Ideal)) _ _).mono (fun _ r => ⟨fun c => (r.1 c).2, r.2⟩)
    (R.run_main (F := Ideal) m ρ)

theorem frame_reference : Cert.quiescent_Reference_pre_none := fun m ρ _ =>
  (θ_run (Cert.ReferenceIdeal.defs (F := Bits)) _ _).mono (fun _ r => ⟨fun c => (r.1 c).2, r.2⟩)
    (R.run_main (F := Bits) m ρ)

/-! ## The values -/

theorem algebraic : Cert.algebraic_KernelIdeal_ReferenceIdeal := fun m ρ m' ρ' h e =>
  have hp : PreOK m := fun d => pos_lt (F := Ideal) _ _ (h d)
  ⟨fun c => Rv m c,
    (θ_run (Cert.KernelIdeal.defs (F := Ideal)) _ _).mono (fun _ r => r.1) (run_main (F := Ideal) m ρ hp),
    (θ_run (Cert.ReferenceIdeal.defs (F := Ideal)) _ _).mono
      (fun _ r c => ⟨(r.1 c).1.trans ((congrArg₂ (R.out (F := Ideal)) (e c).1 (e c).2).trans (rows_eq (F := Ideal) _ _ (hp c)).symm),
        (r.1 c).2⟩)
      (R.run_main (F := Ideal) m' ρ')⟩

theorem bitexact : Cert.bitexact_Kernel_Reference := fun m ρ m' ρ' h e =>
  have hp : PreOK (F := Bits) m := fun d => pos_lt (F := Bits) _ _ (h d)
  ⟨fun c => Rv (F := Bits) m c,
    (θ_run (Cert.KernelIdeal.defs (F := Bits)) _ _).mono (fun _ r => r.1) (run_main (F := Bits) m ρ hp),
    (θ_run (Cert.ReferenceIdeal.defs (F := Bits)) _ _).mono
      (fun _ r c => ⟨(r.1 c).1.trans ((congrArg₂ (R.out (F := Bits)) (e c).1 (e c).2).trans (rows_eq (F := Bits) _ _ (hp c)).symm),
        (r.1 c).2⟩)
      (R.run_main (F := Bits) m' ρ')⟩

theorem claim : Cert.Claim :=
  ⟨Cert.Kernel.Gen.facts, Cert.KernelIdeal.Gen.facts, Cert.ReferenceIdeal.Gen.facts, Cert.Reference.Gen.facts,
    Cert.Experts.Gen.facts, Cert.ExpertsIdeal.Gen.facts, Cert.ExpertsRefIdeal.Gen.facts,
    Cert.Combine.Gen.facts, Cert.CombineIdeal.Gen.facts, Cert.CombineRefIdeal.Gen.facts,
    Cert.Ada.Gen.facts, Cert.AdaIdeal.Gen.facts, Cert.AdaRefIdeal.Gen.facts,
    Cert.Pre_pos_in_rows.Gen.facts, Cert.Pre_experts_exist.Gen.facts,
    frame_kernel, frame_kernelIdeal, frame_referenceIdeal, fun m ρ _ => frame_referenceIdeal m ρ trivial,
    fun m ρ _ => frame_reference m ρ trivial, frame_reference,
    ExpertsBits.frame, ExpertsIdeal.frame, ExpClaims.frame_reference, fun m ρ _ => ExpClaims.frame_reference m ρ trivial,
    fun m ρ _ => Cert.Combine.Gen.frame m ρ, fun m ρ _ => Cert.CombineIdeal.Gen.frame m ρ, CombClaims.frame_reference,
    fun m ρ _ => Cert.Ada.Gen.frame m ρ, fun m ρ _ => Cert.AdaIdeal.Gen.frame m ρ, AdaClaims.frame_reference,
    trivial, algebraic, bitexact, ExpClaims.preserves, ExpClaims.algebraic, CombClaims.preserves, CombClaims.algebraic,
    AdaClaims.preserves, AdaClaims.algebraic⟩

end Cert.Proof

end
